-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_swa_finite [hPre_swa_finite : Cert.Pre_swa_finite.Facts] (m : (ℓ : Loc Cert.SwaIdeal.nD Cert.SwaIdeal.τ Cert.SwaIdeal.sig) → Buf (Elt Ideal) ℓ) : Prop :=
  ∀ c : Dev Cert.SwaIdeal.nD,
    (Cert.Pre_swa_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2))) = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_swa_finite [hPre_swa_finite : Cert.Pre_swa_finite.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_swa_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_Modulate (m : (ℓ : Loc Cert.Modulate.nD Cert.Modulate.τ Cert.Modulate.sig) → Buf (Elt Bits) ℓ) : Prop :=
  True

def Pre_ModulateIdeal (m : (ℓ : Loc Cert.ModulateIdeal.nD Cert.ModulateIdeal.τ Cert.ModulateIdeal.sig) → Buf (Elt Ideal) ℓ) : Prop :=
  True

def Pre_ModulateRefIdeal (m : (ℓ : Loc Cert.ModulateRefIdeal.nD Cert.ModulateRefIdeal.τ Cert.ModulateRefIdeal.sig) → Buf (Elt Ideal) ℓ) : Prop :=
  True

def Pre_AdaMod (m : (ℓ : Loc Cert.AdaMod.nD Cert.AdaMod.τ Cert.AdaMod.sig) → Buf (Elt Bits) ℓ) : Prop :=
  True

def Pre_AdaModIdeal (m : (ℓ : Loc Cert.AdaModIdeal.nD Cert.AdaModIdeal.τ Cert.AdaModIdeal.sig) → Buf (Elt Ideal) ℓ) : Prop :=
  True

def Pre_AdaModRefIdeal (m : (ℓ : Loc Cert.AdaModRefIdeal.nD Cert.AdaModRefIdeal.τ Cert.AdaModRefIdeal.sig) → Buf (Elt Ideal) ℓ) : Prop :=
  True

def Pre_CastDown (m : (ℓ : Loc Cert.CastDown.nD Cert.CastDown.τ Cert.CastDown.sig) → Buf (Elt Bits) ℓ) : Prop :=
  True

def Pre_CastDownIdeal (m : (ℓ : Loc Cert.CastDownIdeal.nD Cert.CastDownIdeal.τ Cert.CastDownIdeal.sig) → Buf (Elt Ideal) ℓ) : Prop :=
  True

def Pre_CastDownRefIdeal (m : (ℓ : Loc Cert.CastDownRefIdeal.nD Cert.CastDownRefIdeal.τ Cert.CastDownRefIdeal.sig) → Buf (Elt Ideal) ℓ) : Prop :=
  True

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ r.2.sem = fun _ => 0)

def quiescent_SwaIdeal_pre_swa_finite [hSwaIdeal : Cert.SwaIdeal.Facts] [hPre_swa_finite : Cert.Pre_swa_finite.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_swa_finite m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2))
      ∧ r.2.sem = fun _ => 0)

def quiescent_SwaRefIdeal_pre_swa_finite [hSwaRefIdeal : Cert.SwaRefIdeal.Facts] [hPre_swa_finite : Cert.Pre_swa_finite.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_swa_finite m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1)
      ∧ r.2.mem ((c.tc : Thread Cert.MlpUp.nD Cert.MlpUp.τ).loc Cert.MlpUp.main_arg2) = m ((c.tc : Thread Cert.MlpUp.nD Cert.MlpUp.τ).loc Cert.MlpUp.main_arg2)
      ∧ r.2.mem ((c.tc : Thread Cert.MlpUp.nD Cert.MlpUp.τ).loc Cert.MlpUp.main_arg3) = m ((c.tc : Thread Cert.MlpUp.nD Cert.MlpUp.τ).loc Cert.MlpUp.main_arg3))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
      ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2)
      ∧ r.2.mem ((c.tc : Thread Cert.MlpUpIdeal.nD Cert.MlpUpIdeal.τ).loc Cert.MlpUpIdeal.main_arg3) = m ((c.tc : Thread Cert.MlpUpIdeal.nD Cert.MlpUpIdeal.τ).loc Cert.MlpUpIdeal.main_arg3))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1)
      ∧ r.2.mem ((c.tc : Thread Cert.MlpUpRefIdeal.nD Cert.MlpUpRefIdeal.τ).loc Cert.MlpUpRefIdeal.main_arg2) = m ((c.tc : Thread Cert.MlpUpRefIdeal.nD Cert.MlpUpRefIdeal.τ).loc Cert.MlpUpRefIdeal.main_arg2)
      ∧ r.2.mem ((c.tc : Thread Cert.MlpUpRefIdeal.nD Cert.MlpUpRefIdeal.τ).loc Cert.MlpUpRefIdeal.main_arg3) = m ((c.tc : Thread Cert.MlpUpRefIdeal.nD Cert.MlpUpRefIdeal.τ).loc Cert.MlpUpRefIdeal.main_arg3))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2)
      ∧ r.2.mem ((c.tc : Thread Cert.MlpDown.nD Cert.MlpDown.τ).loc Cert.MlpDown.main_arg3) = m ((c.tc : Thread Cert.MlpDown.nD Cert.MlpDown.τ).loc Cert.MlpDown.main_arg3))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
      ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2)
      ∧ r.2.mem ((c.tc : Thread Cert.MlpDownRefIdeal.nD Cert.MlpDownRefIdeal.τ).loc Cert.MlpDownRefIdeal.main_arg3) = m ((c.tc : Thread Cert.MlpDownRefIdeal.nD Cert.MlpDownRefIdeal.τ).loc Cert.MlpDownRefIdeal.main_arg3))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def quiescent_Modulate [hModulate : Cert.Modulate.Facts] : Prop :=
  ∀ (m : (ℓ : Loc Cert.Modulate.nD Cert.Modulate.τ Cert.Modulate.sig) → Buf (Elt Bits) ℓ) (g : Dev Cert.Modulate.nD → PrngReg), Pre_Modulate m →
    θ_run (Cert.Modulate.defs (F := Bits)) (onTc (τ := Cert.Modulate.τ) (Cert.Modulate.main (F := Bits))) ⟨m, fun _ => 0, g⟩ (fun r => (∀ c : Dev Cert.Modulate.nD,
      r.2.mem ((c.tc : Thread Cert.Modulate.nD Cert.Modulate.τ).loc Cert.Modulate.main_arg0) = m ((c.tc : Thread Cert.Modulate.nD Cert.Modulate.τ).loc Cert.Modulate.main_arg0)
      ∧ r.2.mem ((c.tc : Thread Cert.Modulate.nD Cert.Modulate.τ).loc Cert.Modulate.main_arg1) = m ((c.tc : Thread Cert.Modulate.nD Cert.Modulate.τ).loc Cert.Modulate.main_arg1)
      ∧ r.2.mem ((c.tc : Thread Cert.Modulate.nD Cert.Modulate.τ).loc Cert.Modulate.main_arg2) = m ((c.tc : Thread Cert.Modulate.nD Cert.Modulate.τ).loc Cert.Modulate.main_arg2)
      ∧ r.2.mem ((c.tc : Thread Cert.Modulate.nD Cert.Modulate.τ).loc Cert.Modulate.main_arg3) = m ((c.tc : Thread Cert.Modulate.nD Cert.Modulate.τ).loc Cert.Modulate.main_arg3))
      ∧ r.2.sem = fun _ => 0)

def quiescent_ModulateIdeal [hModulateIdeal : Cert.ModulateIdeal.Facts] : Prop :=
  ∀ (m : (ℓ : Loc Cert.ModulateIdeal.nD Cert.ModulateIdeal.τ Cert.ModulateIdeal.sig) → Buf (Elt Ideal) ℓ) (g : Dev Cert.ModulateIdeal.nD → PrngReg), Pre_ModulateIdeal m →
    θ_run (Cert.ModulateIdeal.defs (F := Ideal)) (onTc (τ := Cert.ModulateIdeal.τ) (Cert.ModulateIdeal.main (F := Ideal))) ⟨m, fun _ => 0, g⟩ (fun r => (∀ c : Dev Cert.ModulateIdeal.nD,
      r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
      ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
      ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2)
      ∧ r.2.mem ((c.tc : Thread Cert.ModulateIdeal.nD Cert.ModulateIdeal.τ).loc Cert.ModulateIdeal.main_arg3) = m ((c.tc : Thread Cert.ModulateIdeal.nD Cert.ModulateIdeal.τ).loc Cert.ModulateIdeal.main_arg3))
      ∧ r.2.sem = fun _ => 0)

def quiescent_ModulateRefIdeal [hModulateRefIdeal : Cert.ModulateRefIdeal.Facts] : Prop :=
  ∀ (m : (ℓ : Loc Cert.ModulateRefIdeal.nD Cert.ModulateRefIdeal.τ Cert.ModulateRefIdeal.sig) → Buf (Elt Ideal) ℓ) (g : Dev Cert.ModulateRefIdeal.nD → PrngReg), Pre_ModulateRefIdeal m →
    θ_run (Cert.ModulateRefIdeal.defs (F := Ideal)) (onTc (τ := Cert.ModulateRefIdeal.τ) (Cert.ModulateRefIdeal.main (F := Ideal))) ⟨m, fun _ => 0, g⟩ (fun r => (∀ c : Dev Cert.ModulateRefIdeal.nD,
      r.2.mem ((c.tc : Thread Cert.ModulateRefIdeal.nD Cert.ModulateRefIdeal.τ).loc Cert.ModulateRefIdeal.main_arg0) = m ((c.tc : Thread Cert.ModulateRefIdeal.nD Cert.ModulateRefIdeal.τ).loc Cert.ModulateRefIdeal.main_arg0)
      ∧ r.2.mem ((c.tc : Thread Cert.ModulateRefIdeal.nD Cert.ModulateRefIdeal.τ).loc Cert.ModulateRefIdeal.main_arg1) = m ((c.tc : Thread Cert.ModulateRefIdeal.nD Cert.ModulateRefIdeal.τ).loc Cert.ModulateRefIdeal.main_arg1)
      ∧ r.2.mem ((c.tc : Thread Cert.ModulateRefIdeal.nD Cert.ModulateRefIdeal.τ).loc Cert.ModulateRefIdeal.main_arg2) = m ((c.tc : Thread Cert.ModulateRefIdeal.nD Cert.ModulateRefIdeal.τ).loc Cert.ModulateRefIdeal.main_arg2)
      ∧ r.2.mem ((c.tc : Thread Cert.ModulateRefIdeal.nD Cert.ModulateRefIdeal.τ).loc Cert.ModulateRefIdeal.main_arg3) = m ((c.tc : Thread Cert.ModulateRefIdeal.nD Cert.ModulateRefIdeal.τ).loc Cert.ModulateRefIdeal.main_arg3))
      ∧ r.2.sem = fun _ => 0)

def quiescent_AdaMod [hAdaMod : Cert.AdaMod.Facts] : Prop :=
  ∀ (m : (ℓ : Loc Cert.AdaMod.nD Cert.AdaMod.τ Cert.AdaMod.sig) → Buf (Elt Bits) ℓ) (g : Dev Cert.AdaMod.nD → PrngReg), Pre_AdaMod m →
    θ_run (Cert.AdaMod.defs (F := Bits)) (onTc (τ := Cert.AdaMod.τ) (Cert.AdaMod.main (F := Bits))) ⟨m, fun _ => 0, g⟩ (fun r => (∀ c : Dev Cert.AdaMod.nD,
      r.2.mem ((c.tc : Thread Cert.AdaMod.nD Cert.AdaMod.τ).loc Cert.AdaMod.main_arg0) = m ((c.tc : Thread Cert.AdaMod.nD Cert.AdaMod.τ).loc Cert.AdaMod.main_arg0)
      ∧ r.2.mem ((c.tc : Thread Cert.AdaMod.nD Cert.AdaMod.τ).loc Cert.AdaMod.main_arg1) = m ((c.tc : Thread Cert.AdaMod.nD Cert.AdaMod.τ).loc Cert.AdaMod.main_arg1)
      ∧ r.2.mem ((c.tc : Thread Cert.AdaMod.nD Cert.AdaMod.τ).loc Cert.AdaMod.main_arg2) = m ((c.tc : Thread Cert.AdaMod.nD Cert.AdaMod.τ).loc Cert.AdaMod.main_arg2))
      ∧ r.2.sem = fun _ => 0)

def quiescent_AdaModIdeal [hAdaModIdeal : Cert.AdaModIdeal.Facts] : Prop :=
  ∀ (m : (ℓ : Loc Cert.AdaModIdeal.nD Cert.AdaModIdeal.τ Cert.AdaModIdeal.sig) → Buf (Elt Ideal) ℓ) (g : Dev Cert.AdaModIdeal.nD → PrngReg), Pre_AdaModIdeal m →
    θ_run (Cert.AdaModIdeal.defs (F := Ideal)) (onTc (τ := Cert.AdaModIdeal.τ) (Cert.AdaModIdeal.main (F := Ideal))) ⟨m, fun _ => 0, g⟩ (fun r => (∀ c : Dev Cert.AdaModIdeal.nD,
      r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
      ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1)
      ∧ r.2.mem ((c.tc : Thread Cert.AdaModIdeal.nD Cert.AdaModIdeal.τ).loc Cert.AdaModIdeal.main_arg2) = m ((c.tc : Thread Cert.AdaModIdeal.nD Cert.AdaModIdeal.τ).loc Cert.AdaModIdeal.main_arg2))
      ∧ r.2.sem = fun _ => 0)

def quiescent_AdaModRefIdeal [hAdaModRefIdeal : Cert.AdaModRefIdeal.Facts] : Prop :=
  ∀ (m : (ℓ : Loc Cert.AdaModRefIdeal.nD Cert.AdaModRefIdeal.τ Cert.AdaModRefIdeal.sig) → Buf (Elt Ideal) ℓ) (g : Dev Cert.AdaModRefIdeal.nD → PrngReg), Pre_AdaModRefIdeal m →
    θ_run (Cert.AdaModRefIdeal.defs (F := Ideal)) (onTc (τ := Cert.AdaModRefIdeal.τ) (Cert.AdaModRefIdeal.main (F := Ideal))) ⟨m, fun _ => 0, g⟩ (fun r => (∀ c : Dev Cert.AdaModRefIdeal.nD,
      r.2.mem ((c.tc : Thread Cert.AdaModRefIdeal.nD Cert.AdaModRefIdeal.τ).loc Cert.AdaModRefIdeal.main_arg0) = m ((c.tc : Thread Cert.AdaModRefIdeal.nD Cert.AdaModRefIdeal.τ).loc Cert.AdaModRefIdeal.main_arg0)
      ∧ r.2.mem ((c.tc : Thread Cert.AdaModRefIdeal.nD Cert.AdaModRefIdeal.τ).loc Cert.AdaModRefIdeal.main_arg1) = m ((c.tc : Thread Cert.AdaModRefIdeal.nD Cert.AdaModRefIdeal.τ).loc Cert.AdaModRefIdeal.main_arg1)
      ∧ r.2.mem ((c.tc : Thread Cert.AdaModRefIdeal.nD Cert.AdaModRefIdeal.τ).loc Cert.AdaModRefIdeal.main_arg2) = m ((c.tc : Thread Cert.AdaModRefIdeal.nD Cert.AdaModRefIdeal.τ).loc Cert.AdaModRefIdeal.main_arg2))
      ∧ r.2.sem = fun _ => 0)

def quiescent_CastDown [hCastDown : Cert.CastDown.Facts] : Prop :=
  ∀ (m : (ℓ : Loc Cert.CastDown.nD Cert.CastDown.τ Cert.CastDown.sig) → Buf (Elt Bits) ℓ) (g : Dev Cert.CastDown.nD → PrngReg), Pre_CastDown m →
    θ_run (Cert.CastDown.defs (F := Bits)) (onTc (τ := Cert.CastDown.τ) (Cert.CastDown.main (F := Bits))) ⟨m, fun _ => 0, g⟩ (fun r => (∀ c : Dev Cert.CastDown.nD,
      r.2.mem ((c.tc : Thread Cert.CastDown.nD Cert.CastDown.τ).loc Cert.CastDown.main_arg0) = m ((c.tc : Thread Cert.CastDown.nD Cert.CastDown.τ).loc Cert.CastDown.main_arg0))
      ∧ r.2.sem = fun _ => 0)

def quiescent_CastDownIdeal [hCastDownIdeal : Cert.CastDownIdeal.Facts] : Prop :=
  ∀ (m : (ℓ : Loc Cert.CastDownIdeal.nD Cert.CastDownIdeal.τ Cert.CastDownIdeal.sig) → Buf (Elt Ideal) ℓ) (g : Dev Cert.CastDownIdeal.nD → PrngReg), Pre_CastDownIdeal m →
    θ_run (Cert.CastDownIdeal.defs (F := Ideal)) (onTc (τ := Cert.CastDownIdeal.τ) (Cert.CastDownIdeal.main (F := Ideal))) ⟨m, fun _ => 0, g⟩ (fun r => (∀ c : Dev Cert.CastDownIdeal.nD,
      r.2.mem ((c.tc : Thread Cert.CastDownIdeal.nD Cert.CastDownIdeal.τ).loc Cert.CastDownIdeal.main_arg0) = m ((c.tc : Thread Cert.CastDownIdeal.nD Cert.CastDownIdeal.τ).loc Cert.CastDownIdeal.main_arg0))
      ∧ r.2.sem = fun _ => 0)

def quiescent_CastDownRefIdeal [hCastDownRefIdeal : Cert.CastDownRefIdeal.Facts] : Prop :=
  ∀ (m : (ℓ : Loc Cert.CastDownRefIdeal.nD Cert.CastDownRefIdeal.τ Cert.CastDownRefIdeal.sig) → Buf (Elt Ideal) ℓ) (g : Dev Cert.CastDownRefIdeal.nD → PrngReg), Pre_CastDownRefIdeal m →
    θ_run (Cert.CastDownRefIdeal.defs (F := Ideal)) (onTc (τ := Cert.CastDownRefIdeal.τ) (Cert.CastDownRefIdeal.main (F := Ideal))) ⟨m, fun _ => 0, g⟩ (fun r => (∀ c : Dev Cert.CastDownRefIdeal.nD,
      r.2.mem ((c.tc : Thread Cert.CastDownRefIdeal.nD Cert.CastDownRefIdeal.τ).loc Cert.CastDownRefIdeal.main_arg0) = m ((c.tc : Thread Cert.CastDownRefIdeal.nD Cert.CastDownRefIdeal.τ).loc Cert.CastDownRefIdeal.main_arg0))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5)
      ∧ r.2.mem ((c.tc : Thread Cert.Diff.nD Cert.Diff.τ).loc Cert.Diff.main_arg6) = m ((c.tc : Thread Cert.Diff.nD Cert.Diff.τ).loc Cert.Diff.main_arg6))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6))
      ∧ r.2.sem = fun _ => 0)

def preserves_Swa_SwaIdeal : Prop :=
  IdealRules.named_const.Statement Cert.SwaIdeal.κ "mask" .f32 0xF149F2CA#32 ⊥

def algebraic_SwaIdeal_SwaRefIdeal_pre_swa_finite [hSwaIdeal : Cert.SwaIdeal.Facts] [hSwaRefIdeal : Cert.SwaRefIdeal.Facts] [hPre_swa_finite : Cert.Pre_swa_finite.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_swa_finite m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)) →
    ∃ (v0 : (c : Dev Cert.SwaIdeal.nD) → Buf (Elt Ideal) ((c.tc : Thread Cert.SwaIdeal.nD Cert.SwaIdeal.τ).loc Cert.SwaIdeal.main_v56)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v56) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v103) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v18) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v8) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)
      ∧ m' ((c.tc : Thread Cert.MlpUpRefIdeal.nD Cert.MlpUpRefIdeal.τ).loc Cert.MlpUpRefIdeal.main_arg2) = m ((c.tc : Thread Cert.MlpUpIdeal.nD Cert.MlpUpIdeal.τ).loc Cert.MlpUpIdeal.main_arg2)
      ∧ m' ((c.tc : Thread Cert.MlpUpRefIdeal.nD Cert.MlpUpRefIdeal.τ).loc Cert.MlpUpRefIdeal.main_arg3) = m ((c.tc : Thread Cert.MlpUpIdeal.nD Cert.MlpUpIdeal.τ).loc Cert.MlpUpIdeal.main_arg3)) →
    ∃ (v0 : (c : Dev Cert.MlpUpIdeal.nD) → Buf (Elt Ideal) ((c.tc : Thread Cert.MlpUpIdeal.nD Cert.MlpUpIdeal.τ).loc Cert.MlpUpIdeal.main_v5)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v5) = v0 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
          ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2)
          ∧ r.2.mem ((c.tc : Thread Cert.MlpUpIdeal.nD Cert.MlpUpIdeal.τ).loc Cert.MlpUpIdeal.main_arg3) = m ((c.tc : Thread Cert.MlpUpIdeal.nD Cert.MlpUpIdeal.τ).loc Cert.MlpUpIdeal.main_arg3))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v34) = v0 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1)
          ∧ r.2.mem ((c.tc : Thread Cert.MlpUpRefIdeal.nD Cert.MlpUpRefIdeal.τ).loc Cert.MlpUpRefIdeal.main_arg2) = m' ((c.tc : Thread Cert.MlpUpRefIdeal.nD Cert.MlpUpRefIdeal.τ).loc Cert.MlpUpRefIdeal.main_arg2)
          ∧ r.2.mem ((c.tc : Thread Cert.MlpUpRefIdeal.nD Cert.MlpUpRefIdeal.τ).loc Cert.MlpUpRefIdeal.main_arg3) = m' ((c.tc : Thread Cert.MlpUpRefIdeal.nD Cert.MlpUpRefIdeal.τ).loc Cert.MlpUpRefIdeal.main_arg3))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)
      ∧ m' ((c.tc : Thread Cert.MlpDownRefIdeal.nD Cert.MlpDownRefIdeal.τ).loc Cert.MlpDownRefIdeal.main_arg3) = m ((c.tc : Thread Cert.MlpDownIdeal.nD Cert.MlpDownIdeal.τ).loc Cert.MlpDownIdeal.main_arg3)) →
    ∃ (v0 : (c : Dev Cert.MlpDownIdeal.nD) → Buf (Elt Ideal) ((c.tc : Thread Cert.MlpDownIdeal.nD Cert.MlpDownIdeal.τ).loc Cert.MlpDownIdeal.main_v0)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v0) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
          ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v5) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2)
          ∧ r.2.mem ((c.tc : Thread Cert.MlpDownRefIdeal.nD Cert.MlpDownRefIdeal.τ).loc Cert.MlpDownRefIdeal.main_arg3) = m' ((c.tc : Thread Cert.MlpDownRefIdeal.nD Cert.MlpDownRefIdeal.τ).loc Cert.MlpDownRefIdeal.main_arg3))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v12) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def preserves_Modulate_ModulateIdeal : Prop :=
  True

def algebraic_ModulateIdeal_ModulateRefIdeal [hModulateIdeal : Cert.ModulateIdeal.Facts] [hModulateRefIdeal : Cert.ModulateRefIdeal.Facts] : Prop :=
  ∀ (m : (ℓ : Loc Cert.ModulateIdeal.nD Cert.ModulateIdeal.τ Cert.ModulateIdeal.sig) → Buf (Elt Ideal) ℓ) (g : Dev Cert.ModulateIdeal.nD → PrngReg)
    (m' : (ℓ : Loc Cert.ModulateRefIdeal.nD Cert.ModulateRefIdeal.τ Cert.ModulateRefIdeal.sig) → Buf (Elt Ideal) ℓ) (g' : Dev Cert.ModulateRefIdeal.nD → PrngReg), Pre_ModulateIdeal m →
    (∀ c : Dev Cert.ModulateIdeal.nD,
      m' ((c.tc : Thread Cert.ModulateRefIdeal.nD Cert.ModulateRefIdeal.τ).loc Cert.ModulateRefIdeal.main_arg0) = m ((c.tc : Thread Cert.ModulateIdeal.nD Cert.ModulateIdeal.τ).loc Cert.ModulateIdeal.main_arg0)
      ∧ m' ((c.tc : Thread Cert.ModulateRefIdeal.nD Cert.ModulateRefIdeal.τ).loc Cert.ModulateRefIdeal.main_arg1) = m ((c.tc : Thread Cert.ModulateIdeal.nD Cert.ModulateIdeal.τ).loc Cert.ModulateIdeal.main_arg1)
      ∧ m' ((c.tc : Thread Cert.ModulateRefIdeal.nD Cert.ModulateRefIdeal.τ).loc Cert.ModulateRefIdeal.main_arg2) = m ((c.tc : Thread Cert.ModulateIdeal.nD Cert.ModulateIdeal.τ).loc Cert.ModulateIdeal.main_arg2)
      ∧ m' ((c.tc : Thread Cert.ModulateRefIdeal.nD Cert.ModulateRefIdeal.τ).loc Cert.ModulateRefIdeal.main_arg3) = m ((c.tc : Thread Cert.ModulateIdeal.nD Cert.ModulateIdeal.τ).loc Cert.ModulateIdeal.main_arg3)) →
    ∃ (v0 : (c : Dev Cert.ModulateIdeal.nD) → Buf (Elt Ideal) ((c.tc : Thread Cert.ModulateIdeal.nD Cert.ModulateIdeal.τ).loc Cert.ModulateIdeal.main_v3)),
      θ_run (Cert.ModulateIdeal.defs (F := Ideal)) (onTc (τ := Cert.ModulateIdeal.τ) (Cert.ModulateIdeal.main (F := Ideal))) ⟨m, fun _ => 0, g⟩ (fun r => ∀ c : Dev Cert.ModulateIdeal.nD,
          r.2.mem ((c.tc : Thread Cert.ModulateIdeal.nD Cert.ModulateIdeal.τ).loc Cert.ModulateIdeal.main_v3) = v0 c
          ∧ r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
          ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
          ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2)
          ∧ r.2.mem ((c.tc : Thread Cert.ModulateIdeal.nD Cert.ModulateIdeal.τ).loc Cert.ModulateIdeal.main_arg3) = m ((c.tc : Thread Cert.ModulateIdeal.nD Cert.ModulateIdeal.τ).loc Cert.ModulateIdeal.main_arg3))
      ∧ θ_run (Cert.ModulateRefIdeal.defs (F := Ideal)) (onTc (τ := Cert.ModulateRefIdeal.τ) (Cert.ModulateRefIdeal.main (F := Ideal))) ⟨m', fun _ => 0, g'⟩ (fun r => ∀ c : Dev Cert.ModulateRefIdeal.nD,
          r.2.mem ((c.tc : Thread Cert.ModulateRefIdeal.nD Cert.ModulateRefIdeal.τ).loc Cert.ModulateRefIdeal.main_v21) = v0 c
          ∧ r.2.mem ((c.tc : Thread Cert.ModulateRefIdeal.nD Cert.ModulateRefIdeal.τ).loc Cert.ModulateRefIdeal.main_arg0) = m' ((c.tc : Thread Cert.ModulateRefIdeal.nD Cert.ModulateRefIdeal.τ).loc Cert.ModulateRefIdeal.main_arg0)
          ∧ r.2.mem ((c.tc : Thread Cert.ModulateRefIdeal.nD Cert.ModulateRefIdeal.τ).loc Cert.ModulateRefIdeal.main_arg1) = m' ((c.tc : Thread Cert.ModulateRefIdeal.nD Cert.ModulateRefIdeal.τ).loc Cert.ModulateRefIdeal.main_arg1)
          ∧ r.2.mem ((c.tc : Thread Cert.ModulateRefIdeal.nD Cert.ModulateRefIdeal.τ).loc Cert.ModulateRefIdeal.main_arg2) = m' ((c.tc : Thread Cert.ModulateRefIdeal.nD Cert.ModulateRefIdeal.τ).loc Cert.ModulateRefIdeal.main_arg2)
          ∧ r.2.mem ((c.tc : Thread Cert.ModulateRefIdeal.nD Cert.ModulateRefIdeal.τ).loc Cert.ModulateRefIdeal.main_arg3) = m' ((c.tc : Thread Cert.ModulateRefIdeal.nD Cert.ModulateRefIdeal.τ).loc Cert.ModulateRefIdeal.main_arg3))

def preserves_AdaMod_AdaModIdeal : Prop :=
  True

def algebraic_AdaModIdeal_AdaModRefIdeal [hAdaModIdeal : Cert.AdaModIdeal.Facts] [hAdaModRefIdeal : Cert.AdaModRefIdeal.Facts] : Prop :=
  ∀ (m : (ℓ : Loc Cert.AdaModIdeal.nD Cert.AdaModIdeal.τ Cert.AdaModIdeal.sig) → Buf (Elt Ideal) ℓ) (g : Dev Cert.AdaModIdeal.nD → PrngReg)
    (m' : (ℓ : Loc Cert.AdaModRefIdeal.nD Cert.AdaModRefIdeal.τ Cert.AdaModRefIdeal.sig) → Buf (Elt Ideal) ℓ) (g' : Dev Cert.AdaModRefIdeal.nD → PrngReg), Pre_AdaModIdeal m →
    (∀ c : Dev Cert.AdaModIdeal.nD,
      m' ((c.tc : Thread Cert.AdaModRefIdeal.nD Cert.AdaModRefIdeal.τ).loc Cert.AdaModRefIdeal.main_arg0) = m ((c.tc : Thread Cert.AdaModIdeal.nD Cert.AdaModIdeal.τ).loc Cert.AdaModIdeal.main_arg0)
      ∧ m' ((c.tc : Thread Cert.AdaModRefIdeal.nD Cert.AdaModRefIdeal.τ).loc Cert.AdaModRefIdeal.main_arg1) = m ((c.tc : Thread Cert.AdaModIdeal.nD Cert.AdaModIdeal.τ).loc Cert.AdaModIdeal.main_arg1)
      ∧ m' ((c.tc : Thread Cert.AdaModRefIdeal.nD Cert.AdaModRefIdeal.τ).loc Cert.AdaModRefIdeal.main_arg2) = m ((c.tc : Thread Cert.AdaModIdeal.nD Cert.AdaModIdeal.τ).loc Cert.AdaModIdeal.main_arg2)) →
    ∃ (v0 : (c : Dev Cert.AdaModIdeal.nD) → Buf (Elt Ideal) ((c.tc : Thread Cert.AdaModIdeal.nD Cert.AdaModIdeal.τ).loc Cert.AdaModIdeal.main_v2)),
      θ_run (Cert.AdaModIdeal.defs (F := Ideal)) (onTc (τ := Cert.AdaModIdeal.τ) (Cert.AdaModIdeal.main (F := Ideal))) ⟨m, fun _ => 0, g⟩ (fun r => ∀ c : Dev Cert.AdaModIdeal.nD,
          r.2.mem ((c.tc : Thread Cert.AdaModIdeal.nD Cert.AdaModIdeal.τ).loc Cert.AdaModIdeal.main_v2) = v0 c
          ∧ r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
          ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1)
          ∧ r.2.mem ((c.tc : Thread Cert.AdaModIdeal.nD Cert.AdaModIdeal.τ).loc Cert.AdaModIdeal.main_arg2) = m ((c.tc : Thread Cert.AdaModIdeal.nD Cert.AdaModIdeal.τ).loc Cert.AdaModIdeal.main_arg2))
      ∧ θ_run (Cert.AdaModRefIdeal.defs (F := Ideal)) (onTc (τ := Cert.AdaModRefIdeal.τ) (Cert.AdaModRefIdeal.main (F := Ideal))) ⟨m', fun _ => 0, g'⟩ (fun r => ∀ c : Dev Cert.AdaModRefIdeal.nD,
          r.2.mem ((c.tc : Thread Cert.AdaModRefIdeal.nD Cert.AdaModRefIdeal.τ).loc Cert.AdaModRefIdeal.main_v4) = v0 c
          ∧ r.2.mem ((c.tc : Thread Cert.AdaModRefIdeal.nD Cert.AdaModRefIdeal.τ).loc Cert.AdaModRefIdeal.main_arg0) = m' ((c.tc : Thread Cert.AdaModRefIdeal.nD Cert.AdaModRefIdeal.τ).loc Cert.AdaModRefIdeal.main_arg0)
          ∧ r.2.mem ((c.tc : Thread Cert.AdaModRefIdeal.nD Cert.AdaModRefIdeal.τ).loc Cert.AdaModRefIdeal.main_arg1) = m' ((c.tc : Thread Cert.AdaModRefIdeal.nD Cert.AdaModRefIdeal.τ).loc Cert.AdaModRefIdeal.main_arg1)
          ∧ r.2.mem ((c.tc : Thread Cert.AdaModRefIdeal.nD Cert.AdaModRefIdeal.τ).loc Cert.AdaModRefIdeal.main_arg2) = m' ((c.tc : Thread Cert.AdaModRefIdeal.nD Cert.AdaModRefIdeal.τ).loc Cert.AdaModRefIdeal.main_arg2))

def preserves_CastDown_CastDownIdeal : Prop :=
  True

def algebraic_CastDownIdeal_CastDownRefIdeal [hCastDownIdeal : Cert.CastDownIdeal.Facts] [hCastDownRefIdeal : Cert.CastDownRefIdeal.Facts] : Prop :=
  ∀ (m : (ℓ : Loc Cert.CastDownIdeal.nD Cert.CastDownIdeal.τ Cert.CastDownIdeal.sig) → Buf (Elt Ideal) ℓ) (g : Dev Cert.CastDownIdeal.nD → PrngReg)
    (m' : (ℓ : Loc Cert.CastDownRefIdeal.nD Cert.CastDownRefIdeal.τ Cert.CastDownRefIdeal.sig) → Buf (Elt Ideal) ℓ) (g' : Dev Cert.CastDownRefIdeal.nD → PrngReg), Pre_CastDownIdeal m →
    (∀ c : Dev Cert.CastDownIdeal.nD,
      m' ((c.tc : Thread Cert.CastDownRefIdeal.nD Cert.CastDownRefIdeal.τ).loc Cert.CastDownRefIdeal.main_arg0) = m ((c.tc : Thread Cert.CastDownIdeal.nD Cert.CastDownIdeal.τ).loc Cert.CastDownIdeal.main_arg0)) →
    ∃ (v0 : (c : Dev Cert.CastDownIdeal.nD) → Buf (Elt Ideal) ((c.tc : Thread Cert.CastDownIdeal.nD Cert.CastDownIdeal.τ).loc Cert.CastDownIdeal.main_v0)),
      θ_run (Cert.CastDownIdeal.defs (F := Ideal)) (onTc (τ := Cert.CastDownIdeal.τ) (Cert.CastDownIdeal.main (F := Ideal))) ⟨m, fun _ => 0, g⟩ (fun r => ∀ c : Dev Cert.CastDownIdeal.nD,
          r.2.mem ((c.tc : Thread Cert.CastDownIdeal.nD Cert.CastDownIdeal.τ).loc Cert.CastDownIdeal.main_v0) = v0 c
          ∧ r.2.mem ((c.tc : Thread Cert.CastDownIdeal.nD Cert.CastDownIdeal.τ).loc Cert.CastDownIdeal.main_arg0) = m ((c.tc : Thread Cert.CastDownIdeal.nD Cert.CastDownIdeal.τ).loc Cert.CastDownIdeal.main_arg0))
      ∧ θ_run (Cert.CastDownRefIdeal.defs (F := Ideal)) (onTc (τ := Cert.CastDownRefIdeal.τ) (Cert.CastDownRefIdeal.main (F := Ideal))) ⟨m', fun _ => 0, g'⟩ (fun r => ∀ c : Dev Cert.CastDownRefIdeal.nD,
          r.2.mem ((c.tc : Thread Cert.CastDownRefIdeal.nD Cert.CastDownRefIdeal.τ).loc Cert.CastDownRefIdeal.main_v2) = v0 c
          ∧ r.2.mem ((c.tc : Thread Cert.CastDownRefIdeal.nD Cert.CastDownRefIdeal.τ).loc Cert.CastDownRefIdeal.main_arg0) = m' ((c.tc : Thread Cert.CastDownRefIdeal.nD Cert.CastDownRefIdeal.τ).loc Cert.CastDownRefIdeal.main_arg0))

def preserves_Diff_DiffIdeal : Prop :=
  True

def Claim : Prop :=
  ∃ (hSwa : Cert.Swa.Facts) (hSwaIdeal : Cert.SwaIdeal.Facts) (hSwaRefIdeal : Cert.SwaRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hMlpUp : Cert.MlpUp.Facts) (hMlpUpIdeal : Cert.MlpUpIdeal.Facts) (hMlpUpRefIdeal : Cert.MlpUpRefIdeal.Facts) (hMlpDown : Cert.MlpDown.Facts) (hMlpDownIdeal : Cert.MlpDownIdeal.Facts) (hMlpDownRefIdeal : Cert.MlpDownRefIdeal.Facts) (hFinalNorm : Cert.FinalNorm.Facts) (hFinalNormIdeal : Cert.FinalNormIdeal.Facts) (hFinalNormRefIdeal : Cert.FinalNormRefIdeal.Facts) (hModulate : Cert.Modulate.Facts) (hModulateIdeal : Cert.ModulateIdeal.Facts) (hModulateRefIdeal : Cert.ModulateRefIdeal.Facts) (hAdaMod : Cert.AdaMod.Facts) (hAdaModIdeal : Cert.AdaModIdeal.Facts) (hAdaModRefIdeal : Cert.AdaModRefIdeal.Facts) (hCastDown : Cert.CastDown.Facts) (hCastDownIdeal : Cert.CastDownIdeal.Facts) (hCastDownRefIdeal : Cert.CastDownRefIdeal.Facts) (hDiff : Cert.Diff.Facts) (hDiffIdeal : Cert.DiffIdeal.Facts) (hPre_swa_finite : Cert.Pre_swa_finite.Facts),
    quiescent_Swa (hSwa := hSwa)
    ∧ quiescent_SwaIdeal (hSwaIdeal := hSwaIdeal)
    ∧ quiescent_SwaIdeal_pre_swa_finite (hSwaIdeal := hSwaIdeal) (hPre_swa_finite := hPre_swa_finite)
    ∧ quiescent_SwaRefIdeal (hSwaRefIdeal := hSwaRefIdeal)
    ∧ quiescent_SwaRefIdeal_pre_swa_finite (hSwaRefIdeal := hSwaRefIdeal) (hPre_swa_finite := hPre_swa_finite)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_Modulate (hModulate := hModulate)
    ∧ quiescent_ModulateIdeal (hModulateIdeal := hModulateIdeal)
    ∧ quiescent_ModulateRefIdeal (hModulateRefIdeal := hModulateRefIdeal)
    ∧ quiescent_AdaMod (hAdaMod := hAdaMod)
    ∧ quiescent_AdaModIdeal (hAdaModIdeal := hAdaModIdeal)
    ∧ quiescent_AdaModRefIdeal (hAdaModRefIdeal := hAdaModRefIdeal)
    ∧ quiescent_CastDown (hCastDown := hCastDown)
    ∧ quiescent_CastDownIdeal (hCastDownIdeal := hCastDownIdeal)
    ∧ quiescent_CastDownRefIdeal (hCastDownRefIdeal := hCastDownRefIdeal)
    ∧ quiescent_Diff (hDiff := hDiff)
    ∧ quiescent_DiffIdeal (hDiffIdeal := hDiffIdeal)
    ∧ preserves_Swa_SwaIdeal
    ∧ algebraic_SwaIdeal_SwaRefIdeal_pre_swa_finite (hSwaIdeal := hSwaIdeal) (hSwaRefIdeal := hSwaRefIdeal) (hPre_swa_finite := hPre_swa_finite)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_MlpUp_MlpUpIdeal
    ∧ algebraic_MlpUpIdeal_MlpUpRefIdeal (hMlpUpIdeal := hMlpUpIdeal) (hMlpUpRefIdeal := hMlpUpRefIdeal)
    ∧ preserves_MlpDown_MlpDownIdeal
    ∧ algebraic_MlpDownIdeal_MlpDownRefIdeal (hMlpDownIdeal := hMlpDownIdeal) (hMlpDownRefIdeal := hMlpDownRefIdeal)
    ∧ preserves_FinalNorm_FinalNormIdeal
    ∧ algebraic_FinalNormIdeal_FinalNormRefIdeal (hFinalNormIdeal := hFinalNormIdeal) (hFinalNormRefIdeal := hFinalNormRefIdeal)
    ∧ preserves_Modulate_ModulateIdeal
    ∧ algebraic_ModulateIdeal_ModulateRefIdeal (hModulateIdeal := hModulateIdeal) (hModulateRefIdeal := hModulateRefIdeal)
    ∧ preserves_AdaMod_AdaModIdeal
    ∧ algebraic_AdaModIdeal_AdaModRefIdeal (hAdaModIdeal := hAdaModIdeal) (hAdaModRefIdeal := hAdaModRefIdeal)
    ∧ preserves_CastDown_CastDownIdeal
    ∧ algebraic_CastDownIdeal_CastDownRefIdeal (hCastDownIdeal := hCastDownIdeal) (hCastDownRefIdeal := hCastDownRefIdeal)
    ∧ preserves_Diff_DiffIdeal
-- ==== Pre_swa_finite.lean ====
abbrev S16384x8704 : Shape := ⟨2, ![16384, 8704]⟩
abbrev S16 : Shape := ⟨1, ![16]⟩
abbrev S32x24 : Shape := ⟨2, ![32, 24]⟩
abbrev S16384x2304 : Shape := ⟨2, ![16384, 2304]⟩
abbrev S32x16 : Shape := ⟨2, ![32, 16]⟩
abbrev S_ : Shape := ⟨0, ![]⟩

class Facts : Prop where
  slices_S16384x8704_S16384x2304_0_0 : S16384x8704.Slices ![0, 0] S16384x2304
  bitsLt_bf16_f32 : FTy.bits .bf16 < FTy.bits .f32
  slices_S32x24_S32x16_0_0 : S32x24.Slices ![0, 0] S32x16
  bcast_S_S16384x2304 : S_.BroadcastsInDim S16384x2304 (![] : Fin 0 → Fin S16384x2304.rank)
  reducesTo_S16384x2304_S_d0_1 : S16384x2304.ReducesTo [0, 1] S_
  h_S_ : 0 < S_.numel
  bcast_S_S16 : S_.BroadcastsInDim S16 (![] : Fin 0 → Fin S16.rank)
  reducesTo_S16_S_d0 : S16.ReducesTo [0] S_
  bcast_S_S32x16 : S_.BroadcastsInDim S32x16 (![] : Fin 0 → Fin S32x16.rank)
  reducesTo_S32x16_S_d0_1 : S32x16.ReducesTo [0, 1] S_

variable [Facts]

def fn {F : FTy → Type} [FloatOps F] (main_arg0 : FVec F S16384x8704 .bf16) (main_arg1 : FVec F S16 .f32) (main_arg2 : FVec F S32x24 .f32) : IVec S_ 1 :=
  let main_v0 : FVec F S16384x2304 .bf16 := (extractStridedSlice S16384x2304 ![0, 0] · slices_S16384x8704_S16384x2304_0_0) main_arg0
  let main_v1 : FVec F S16384x2304 .f32 := (extf .f32 · bitsLt_bf16_f32) main_v0
  let main_v2 : FVec F S32x16 .f32 := (extractStridedSlice S32x16 ![0, 0] · slices_S32x24_S32x16_0_0) main_arg2
  let main_v3 : FVec F S16384x2304 .f32 := Host.absf main_v1
  let main_cst : FVec F S_ .f32 := constant S_ .f32 0x7F800000#32
  let main_v4 : FVec F S16384x2304 .f32 := broadcastInDim S16384x2304 ![] bcast_S_S16384x2304 main_cst
  let main_v5 : IVec S16384x2304 1 := cmpf .olt main_v3 main_v4
  let main_c : IVec S_ 1 := constantI S_ 1 1#1
  let main_v6 : IVec S_ 1 := (fun x v => Host.reduce IntOp.andi x v reducesTo_S16384x2304_S_d0_1 h_S_) main_v5 main_c
  let main_v7 : FVec F S16 .f32 := Host.absf main_arg1
  let main_cst_0 : FVec F S_ .f32 := constant S_ .f32 0x7F800000#32
  let main_v8 : FVec F S16 .f32 := broadcastInDim S16 ![] bcast_S_S16 main_cst_0
  let main_v9 : IVec S16 1 := cmpf .olt main_v7 main_v8
  let main_c_1 : IVec S_ 1 := constantI S_ 1 1#1
  let main_v10 : IVec S_ 1 := (fun x v => Host.reduce IntOp.andi x v reducesTo_S16_S_d0 h_S_) main_v9 main_c_1
  let main_v11 : IVec S_ 1 := andi main_v6 main_v10
  let main_v12 : FVec F S32x16 .f32 := Host.absf main_v2
  let main_cst_2 : FVec F S_ .f32 := constant S_ .f32 0x7F800000#32
  let main_v13 : FVec F S32x16 .f32 := broadcastInDim S32x16 ![] bcast_S_S32x16 main_cst_2
  let main_v14 : IVec S32x16 1 := cmpf .olt main_v12 main_v13
  let main_c_3 : IVec S_ 1 := constantI S_ 1 1#1
  let main_v15 : IVec S_ 1 := (fun x v => Host.reduce IntOp.andi x v reducesTo_S32x16_S_d0_1 h_S_) main_v14 main_c_3
  let main_v16 : IVec S_ 1 := andi main_v11 main_v15
  main_v16
-- ==== Swa.lean ====
abbrev S16384x8704 : Shape := ⟨2, ![16384, 8704]⟩
abbrev S16 : Shape := ⟨1, ![16]⟩
abbrev S32x24 : Shape := ⟨2, ![32, 24]⟩
abbrev S384 : Shape := ⟨1, ![384]⟩
abbrev S_ : Shape := ⟨0, ![]⟩
abbrev S384x1 : Shape := ⟨2, ![384, 1]⟩
abbrev S384x24 : Shape := ⟨2, ![384, 24]⟩
abbrev S24x384 : Shape := ⟨2, ![24, 384]⟩
abbrev S1x24x1x384 : Shape := ⟨4, ![1, 24, 1, 384]⟩
abbrev S1x24x128x384 : Shape := ⟨4, ![1, 24, 128, 384]⟩
abbrev S24x49152 : Shape := ⟨2, ![24, 49152]⟩
abbrev S24x49024 : Shape := ⟨2, ![24, 49024]⟩
abbrev S24x128x383 : Shape := ⟨3, ![24, 128, 383]⟩
abbrev S24x128x256 : Shape := ⟨3, ![24, 128, 256]⟩
abbrev S16x128x256 : Shape := ⟨3, ![16, 128, 256]⟩
abbrev S1x8 : Shape := ⟨2, ![1, 8]⟩
abbrev S8 : Shape := ⟨1, ![8]⟩
abbrev S8x128x256 : Shape := ⟨3, ![8, 128, 256]⟩
abbrev S8x1x1 : Shape := ⟨3, ![8, 1, 1]⟩
abbrev S8x128x128 : Shape := ⟨3, ![8, 128, 128]⟩
abbrev S8x128x512 : Shape := ⟨3, ![8, 128, 512]⟩
abbrev S8x512x512 : Shape := ⟨3, ![8, 512, 512]⟩
abbrev S16384x2048 : Shape := ⟨2, ![16384, 2048]⟩
abbrev S512x1024 : Shape := ⟨2, ![512, 1024]⟩
abbrev S128x128 : Shape := ⟨2, ![128, 128]⟩
abbrev S512x128 : Shape := ⟨2, ![512, 128]⟩
abbrev S640x128 : Shape := ⟨2, ![640, 128]⟩
abbrev S128x256 : Shape := ⟨2, ![128, 256]⟩
abbrev S256x128 : Shape := ⟨2, ![256, 128]⟩
abbrev S1x128x256 : Shape := ⟨3, ![1, 128, 256]⟩
abbrev S1 : Shape := ⟨1, ![1]⟩
abbrev S128 : Shape := ⟨1, ![128]⟩
abbrev S128x1 : Shape := ⟨2, ![128, 1]⟩

abbrev nBuf : Space → Nat
  | .hbm => 76
  | .vmem => 14
  | .smem => 1
  | _ => 0

abbrev bufTy : (tb : Table) → Fin (tcTables nBuf tb) → BufTy
  | .hbm, ⟨0, _⟩ => ⟨S16384x8704, .bf16⟩
  | .hbm, ⟨1, _⟩ => ⟨S16, .f32⟩
  | .hbm, ⟨2, _⟩ => ⟨S32x24, .f32⟩
  | .hbm, ⟨3, _⟩ => ⟨S384, .i32⟩
  | .hbm, ⟨4, _⟩ => ⟨S384, .i32⟩
  | .hbm, ⟨5, _⟩ => ⟨S384, .i1⟩
  | .hbm, ⟨6, _⟩ => ⟨S_, .i32⟩
  | .hbm, ⟨7, _⟩ => ⟨S384, .i32⟩
  | .hbm, ⟨8, _⟩ => ⟨S384, .i32⟩
  | .hbm, ⟨9, _⟩ => ⟨S_, .i32⟩
  | .hbm, ⟨10, _⟩ => ⟨S384, .i32⟩
  | .hbm, ⟨11, _⟩ => ⟨S384, .i32⟩
  | .hbm, ⟨12, _⟩ => ⟨S384, .f32⟩
  | .hbm, ⟨13, _⟩ => ⟨S_, .f32⟩
  | .hbm, ⟨14, _⟩ => ⟨S384, .f32⟩
  | .hbm, ⟨15, _⟩ => ⟨S384, .f32⟩
  | .hbm, ⟨16, _⟩ => ⟨S384, .f32⟩
  | .hbm, ⟨17, _⟩ => ⟨S_, .f32⟩
  | .hbm, ⟨18, _⟩ => ⟨S384, .f32⟩
  | .hbm, ⟨19, _⟩ => ⟨S384, .f32⟩
  | .hbm, ⟨20, _⟩ => ⟨S_, .f32⟩
  | .hbm, ⟨21, _⟩ => ⟨S384, .f32⟩
  | .hbm, ⟨22, _⟩ => ⟨S384, .f32⟩
  | .hbm, ⟨23, _⟩ => ⟨S384, .i32⟩
  | .hbm, ⟨24, _⟩ => ⟨S_, .i32⟩
  | .hbm, ⟨25, _⟩ => ⟨S384, .i32⟩
  | .hbm, ⟨26, _⟩ => ⟨S384, .i32⟩
  | .hbm, ⟨27, _⟩ => ⟨S_, .i32⟩
  | .hbm, ⟨28, _⟩ => ⟨S384, .i32⟩
  | .hbm, ⟨29, _⟩ => ⟨S384, .i32⟩
  | .hbm, ⟨30, _⟩ => ⟨S_, .i32⟩
  | .hbm, ⟨31, _⟩ => ⟨S384, .i32⟩
  | .hbm, ⟨32, _⟩ => ⟨S384, .i1⟩
  | .hbm, ⟨33, _⟩ => ⟨S384, .i32⟩
  | .hbm, ⟨34, _⟩ => ⟨S_, .i32⟩
  | .hbm, ⟨35, _⟩ => ⟨S384, .i32⟩
  | .hbm, ⟨36, _⟩ => ⟨S384, .i1⟩
  | .hbm, ⟨37, _⟩ => ⟨S_, .i32⟩
  | .hbm, ⟨38, _⟩ => ⟨S384, .i32⟩
  | .hbm, ⟨39, _⟩ => ⟨S384, .i32⟩
  | .hbm, ⟨40, _⟩ => ⟨S384, .i32⟩
  | .hbm, ⟨41, _⟩ => ⟨S384x1, .i32⟩
  | .hbm, ⟨42, _⟩ => ⟨S384x24, .f32⟩
  | .hbm, ⟨43, _⟩ => ⟨S_, .i32⟩
  | .hbm, ⟨44, _⟩ => ⟨S384, .i32⟩
  | .hbm, ⟨45, _⟩ => ⟨S384, .i32⟩
  | .hbm, ⟨46, _⟩ => ⟨S384, .i32⟩
  | .hbm, ⟨47, _⟩ => ⟨S384x1, .i32⟩
  | .hbm, ⟨48, _⟩ => ⟨S384x24, .f32⟩
  | .hbm, ⟨49, _⟩ => ⟨S24x384, .f32⟩
  | .hbm, ⟨50, _⟩ => ⟨S1x24x1x384, .f32⟩
  | .hbm, ⟨51, _⟩ => ⟨S1x24x128x384, .f32⟩
  | .hbm, ⟨52, _⟩ => ⟨S24x49152, .f32⟩
  | .hbm, ⟨53, _⟩ => ⟨S24x49024, .f32⟩
  | .hbm, ⟨54, _⟩ => ⟨S24x128x383, .f32⟩
  | .hbm, ⟨55, _⟩ => ⟨S24x128x256, .f32⟩
  | .hbm, ⟨56, _⟩ => ⟨S16x128x256, .f32⟩
  | .hbm, ⟨57, _⟩ => ⟨S1x8, .f32⟩
  | .hbm, ⟨58, _⟩ => ⟨S8, .f32⟩
  | .hbm, ⟨59, _⟩ => ⟨S8x128x256, .f32⟩
  | .hbm, ⟨60, _⟩ => ⟨S8x1x1, .f32⟩
  | .hbm, ⟨61, _⟩ => ⟨S8x128x256, .f32⟩
  | .hbm, ⟨62, _⟩ => ⟨S8x128x256, .f32⟩
  | .hbm, ⟨63, _⟩ => ⟨S_, .f32⟩
  | .hbm, ⟨64, _⟩ => ⟨S8x128x256, .f32⟩
  | .hbm, ⟨65, _⟩ => ⟨S8x128x256, .f32⟩
  | .hbm, ⟨66, _⟩ => ⟨S8x128x128, .f32⟩
  | .hbm, ⟨67, _⟩ => ⟨S8x128x128, .f32⟩
  | .hbm, ⟨68, _⟩ => ⟨S_, .f32⟩
  | .hbm, ⟨69, _⟩ => ⟨S8x128x128, .f32⟩
  | .hbm, ⟨70, _⟩ => ⟨S8x128x512, .f32⟩
  | .hbm, ⟨71, _⟩ => ⟨S8x128x512, .f32⟩
  | .hbm, ⟨72, _⟩ => ⟨S8x128x512, .f32⟩
  | .hbm, ⟨73, _⟩ => ⟨S8x128x512, .f32⟩
  | .hbm, ⟨74, _⟩ => ⟨S8x512x512, .f32⟩
  | .hbm, ⟨75, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S128x128, .bf16⟩
  | .local _ .vmem, ⟨3, _⟩ => ⟨S128x128, .bf16⟩
  | .local _ .vmem, ⟨4, _⟩ => ⟨S512x128, .bf16⟩
  | .local _ .vmem, ⟨5, _⟩ => ⟨S512x128, .bf16⟩
  | .local _ .vmem, ⟨6, _⟩ => ⟨S128x128, .bf16⟩
  | .local _ .vmem, ⟨7, _⟩ => ⟨S128x128, .bf16⟩
  | .local _ .vmem, ⟨8, _⟩ => ⟨S512x128, .bf16⟩
  | .local _ .vmem, ⟨9, _⟩ => ⟨S512x128, .bf16⟩
  | .local _ .vmem, ⟨10, _⟩ => ⟨S8x128x256, .f32⟩
  | .local _ .vmem, ⟨11, _⟩ => ⟨S8x128x256, .f32⟩
  | .local _ .vmem, ⟨12, _⟩ => ⟨S512x1024, .bf16⟩
  | .local _ .vmem, ⟨13, _⟩ => ⟨S512x1024, .bf16⟩
  | .local _ .smem, ⟨0, _⟩ => ⟨S16, .f32⟩
  | _, _ => ⟨S16384x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_v0 : Ref sig .tc := ⟨.hbm, 7, rfl⟩
abbrev main_v1 : Ref sig .tc := ⟨.hbm, 8, rfl⟩
abbrev main_c_3 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_4 : Ref sig .tc := ⟨.hbm, 17, rfl⟩
abbrev main_v8 : Ref sig .tc := ⟨.hbm, 18, rfl⟩
abbrev main_v9 : Ref sig .tc := ⟨.hbm, 19, rfl⟩
abbrev main_cst_5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_6 : Ref sig .tc := ⟨.hbm, 24, rfl⟩
abbrev main_v13 : Ref sig .tc := ⟨.hbm, 25, rfl⟩
abbrev main_v14 : Ref sig .tc := ⟨.hbm, 26, rfl⟩
abbrev main_c_7 : Ref sig .tc := ⟨.hbm, 27, rfl⟩
abbrev main_v15 : Ref sig .tc := ⟨.hbm, 28, rfl⟩
abbrev main_v16 : Ref sig .tc := ⟨.hbm, 29, rfl⟩
abbrev main_c_8 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_9 : Ref sig .tc := ⟨.hbm, 34, rfl⟩
abbrev main_v20 : Ref sig .tc := ⟨.hbm, 35, rfl⟩
abbrev main_v21 : Ref sig .tc := ⟨.hbm, 36, rfl⟩
abbrev main_c_10 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_11 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_12 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_13 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 32], ![false, false]⟩

def k0_off1 (i : grid0.Coords) (c0_i32_18 : BitVec 32) : Fin 1 → Nat :=
  let arg0 : BitVec 32 := BitVec.ofNat 32 (i 0).val
  let c8_i32 : BitVec 32 := 8#32
  let v32 : BitVec 32 := Scalar.muli arg0 c8_i32
  let v33 : BitVec 32 := Scalar.addi v32 c0_i32_18
  let v34 : Index := Scalar.indexCast v33
  ![v34.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c16_i32 : BitVec 32 := 16#32
  let v3 : BitVec 32 := Scalar.addi c16_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c18_i32 : BitVec 32 := 18#32
  let v3 : BitVec 32 := Scalar.addi c18_i32 arg0
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  ![arg1.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SwaIdeal.lean ====
variable {F : FTy → Type} [FloatOps F] [Named F]
def κ : String → Option EReal := fun
  | "mask" => some ⊥
  | _ => none
-- ==== SwaRefIdeal.lean ====
abbrev S16384x8704 : Shape := ⟨2, ![16384, 8704]⟩
abbrev S16 : Shape := ⟨1, ![16]⟩
abbrev S32x24 : Shape := ⟨2, ![32, 24]⟩
abbrev S16384x2048 : Shape := ⟨2, ![16384, 2048]⟩
abbrev S16384x256 : Shape := ⟨2, ![16384, 256]⟩
abbrev S32x16 : Shape := ⟨2, ![32, 16]⟩
abbrev S128x128x2x8x128 : Shape := ⟨5, ![128, 128, 2, 8, 128]⟩
abbrev S16384x2x128 : Shape := ⟨3, ![16384, 2, 128]⟩
abbrev S_ : Shape := ⟨0, ![]⟩
abbrev S16512x2x128 : Shape := ⟨3, ![16512, 2, 128]⟩
abbrev S129x128x2x128 : Shape := ⟨4, ![129, 128, 2, 128]⟩
abbrev S128x128x2x128 : Shape := ⟨4, ![128, 128, 2, 128]⟩
abbrev S128x256x2x128 : Shape := ⟨4, ![128, 256, 2, 128]⟩
abbrev S128x2x256x128x8 : Shape := ⟨5, ![128, 2, 256, 128, 8]⟩
abbrev S128x2x8x128x256 : Shape := ⟨5, ![128, 2, 8, 128, 256]⟩
abbrev S128 : Shape := ⟨1, ![128]⟩
abbrev S256 : Shape := ⟨1, ![256]⟩
abbrev S128x1 : Shape := ⟨2, ![128, 1]⟩
abbrev S1x256 : Shape := ⟨2, ![1, 256]⟩
abbrev S128x256 : Shape := ⟨2, ![128, 256]⟩
abbrev S128x256x1 : Shape := ⟨3, ![128, 256, 1]⟩
abbrev S128x256x16 : Shape := ⟨3, ![128, 256, 16]⟩
abbrev S16x128x256 : Shape := ⟨3, ![16, 128, 256]⟩
abbrev S2x8x128x256 : Shape := ⟨4, ![2, 8, 128, 256]⟩
abbrev S1x128x256 : Shape := ⟨3, ![1, 128, 256]⟩
abbrev S128x1x256 : Shape := ⟨3, ![128, 1, 256]⟩
abbrev S128x128x256 : Shape := ⟨3, ![128, 128, 256]⟩
abbrev S128x1x1x128x256 : Shape := ⟨5, ![128, 1, 1, 128, 256]⟩
abbrev S1x2x8x128x256 : Shape := ⟨5, ![1, 2, 8, 128, 256]⟩
abbrev S2x8x1x1 : Shape := ⟨4, ![2, 8, 1, 1]⟩
abbrev S128x2x8x128x1 : Shape := ⟨5, ![128, 2, 8, 128, 1]⟩
abbrev S128x2x8x128x257 : Shape := ⟨5, ![128, 2, 8, 128, 257]⟩
abbrev S128x2x8x128 : Shape := ⟨4, ![128, 2, 8, 128]⟩
abbrev S128x2x128x8x128 : Shape := ⟨5, ![128, 2, 128, 8, 128]⟩

abbrev nBuf : Space → Nat
  | .hbm => 134
  | .vmem => 0
  | .smem => 0
  | _ => 0

abbrev hbmTy0_0 (i : Nat) : BufTy := match i % 128 with
  | 0 => ⟨S16384x8704, .bf16⟩
  | 1 => ⟨S16, .f32⟩
  | 2 => ⟨S32x24, .f32⟩
  | 3 => ⟨S16384x8704, .f32⟩
  | 4 => ⟨S16384x2048, .f32⟩
  | 5 => ⟨S16384x256, .f32⟩
  | 6 => ⟨S16384x256, .f32⟩
  | 7 => ⟨S32x16, .f32⟩
  | 8 => ⟨S128x128x2x8x128, .f32⟩
  | 9 => ⟨S16384x2x128, .f32⟩
  | 10 => ⟨S_, .i32⟩
  | 11 => ⟨S_, .f32⟩
  | 12 => ⟨S16512x2x128, .f32⟩
  | 13 => ⟨S129x128x2x128, .f32⟩
  | 14 => ⟨S128x128x2x128, .f32⟩
  | 15 => ⟨S128x128x2x128, .f32⟩
  | 16 => ⟨S128x256x2x128, .f32⟩
  | 17 => ⟨S16384x2x128, .f32⟩
  | 18 => ⟨S_, .i32⟩
  | 19 => ⟨S_, .f32⟩
  | 20 => ⟨S16512x2x128, .f32⟩
  | 21 => ⟨S129x128x2x128, .f32⟩
  | 22 => ⟨S128x128x2x128, .f32⟩
  | 23 => ⟨S128x128x2x128, .f32⟩
  | 24 => ⟨S128x256x2x128, .f32⟩
  | 25 => ⟨S128x2x256x128x8, .f32⟩
  | 26 => ⟨S128x2x8x128x256, .f32⟩
  | 27 => ⟨S128, .i32⟩
  | 28 => ⟨S256, .i32⟩
  | 29 => ⟨S128x1, .i32⟩
  | 30 => ⟨S_, .i32⟩
  | 31 => ⟨S128x1, .i32⟩
  | 32 => ⟨S128x1, .i32⟩
  | 33 => ⟨S1x256, .i32⟩
  | 34 => ⟨S128x256, .i32⟩
  | 35 => ⟨S128x256, .i32⟩
  | 36 => ⟨S128x256, .i32⟩
  | 37 => ⟨S_, .i32⟩
  | 38 => ⟨S128x256, .i32⟩
  | 39 => ⟨S128x256, .i32⟩
  | 40 => ⟨S_, .i32⟩
  | 41 => ⟨S128x256, .i32⟩
  | 42 => ⟨S128x256, .i32⟩
  | 43 => ⟨S128x256, .f32⟩
  | 44 => ⟨S_, .f32⟩
  | 45 => ⟨S128x256, .f32⟩
  | 46 => ⟨S128x256, .f32⟩
  | 47 => ⟨S128x256, .f32⟩
  | 48 => ⟨S_, .f32⟩
  | 49 => ⟨S128x256, .f32⟩
  | 50 => ⟨S128x256, .f32⟩
  | 51 => ⟨S_, .f32⟩
  | 52 => ⟨S128x256, .f32⟩
  | 53 => ⟨S128x256, .f32⟩
  | 54 => ⟨S128x256, .i32⟩
  | 55 => ⟨S_, .i32⟩
  | 56 => ⟨S128x256, .i32⟩
  | 57 => ⟨S128x256, .i32⟩
  | 58 => ⟨S_, .i32⟩
  | 59 => ⟨S128x256, .i32⟩
  | 60 => ⟨S128x256, .i32⟩
  | 61 => ⟨S_, .i32⟩
  | 62 => ⟨S128x256, .i32⟩
  | 63 => ⟨S128x256, .i1⟩
  | 64 => ⟨S128x256, .i32⟩
  | 65 => ⟨S_, .i32⟩
  | 66 => ⟨S128x256, .i32⟩
  | 67 => ⟨S128x256, .i1⟩
  | 68 => ⟨S_, .i32⟩
  | 69 => ⟨S128x256, .i32⟩
  | 70 => ⟨S128x256, .i32⟩
  | 71 => ⟨S128x256, .i32⟩
  | 72 => ⟨S128x256x1, .i32⟩
  | 73 => ⟨S128x256x16, .f32⟩
  | 74 => ⟨S16x128x256, .f32⟩
  | 75 => ⟨S2x8x128x256, .f32⟩
  | 76 => ⟨S128, .i32⟩
  | 77 => ⟨S128x1, .i32⟩
  | 78 => ⟨S_, .i32⟩
  | 79 => ⟨S128x1, .i32⟩
  | 80 => ⟨S128x1, .i32⟩
  | 81 => ⟨S_, .i32⟩
  | 82 => ⟨S128x1, .i32⟩
  | 83 => ⟨S128x1, .i32⟩
  | 84 => ⟨S1x256, .i32⟩
  | 85 => ⟨S128x256, .i32⟩
  | 86 => ⟨S128x256, .i32⟩
  | 87 => ⟨S128x256, .i32⟩
  | 88 => ⟨S_, .i32⟩
  | 89 => ⟨S128x256, .i32⟩
  | 90 => ⟨S128x256, .i1⟩
  | 91 => ⟨S_, .i32⟩
  | 92 => ⟨S128x256, .i32⟩
  | 93 => ⟨S128x256, .i1⟩
  | 94 => ⟨S128x256, .i1⟩
  | 95 => ⟨S1x128x256, .i1⟩
  | 96 => ⟨S_, .i32⟩
  | 97 => ⟨S128x256, .i32⟩
  | 98 => ⟨S128x256, .i1⟩
  | 99 => ⟨S128x1x256, .i1⟩
  | 100 => ⟨S128x128x256, .i1⟩
  | 101 => ⟨S128x128x256, .i1⟩
  | 102 => ⟨S128x128x256, .i1⟩
  | 103 => ⟨S128x1x1x128x256, .i1⟩
  | 104 => ⟨S1x2x8x128x256, .f32⟩
  | 105 => ⟨S128x2x8x128x256, .f32⟩
  | 106 => ⟨S128x2x8x128x256, .f32⟩
  | 107 => ⟨S_, .f32⟩
  | 108 => ⟨S_, .f32⟩
  | 109 => ⟨S128x2x8x128x256, .i1⟩
  | 110 => ⟨S128x2x8x128x256, .f32⟩
  | 111 => ⟨S128x2x8x128x256, .f32⟩
  | 112 => ⟨S2x8x1x1, .f32⟩
  | 113 => ⟨S128x2x8x128x1, .f32⟩
  | 114 => ⟨S128x2x8x128x257, .f32⟩
  | 115 => ⟨S_, .f32⟩
  | 116 => ⟨S128x2x8x128, .f32⟩
  | 117 => ⟨S_, .f32⟩
  | 118 => ⟨S128x2x8x128, .f32⟩
  | 119 => ⟨S128x2x8x128, .f32⟩
  | 120 => ⟨S128x2x8x128x1, .f32⟩
  | 121 => ⟨S128x2x8x128x257, .f32⟩
  | 122 => ⟨S128x2x8x128x257, .f32⟩
  | 123 => ⟨S128x2x8x128x257, .f32⟩
  | 124 => ⟨S_, .f32⟩
  | 125 => ⟨S128x2x8x128, .f32⟩
  | 126 => ⟨S128x2x8x128x1, .f32⟩
  | 127 => ⟨S128x2x8x128x257, .f32⟩
  | _ => ⟨S16384x8704, .bf16⟩

abbrev hbmTy0_1 (i : Nat) : BufTy := match i % 128 with
  | 0 => ⟨S128x2x8x128x257, .f32⟩
  | 1 => ⟨S128x2x8x128x256, .f32⟩
  | 2 => ⟨S128x2x128x8x128, .f32⟩
  | 3 => ⟨S128x128x2x8x128, .f32⟩
  | 4 => ⟨S16384x2048, .f32⟩
  | 5 => ⟨S16384x2048, .bf16⟩
  | _ => ⟨S16384x8704, .bf16⟩

abbrev hbmTy (i : Nat) : BufTy := match i / 128 with
  | 0 => hbmTy0_0 i
  | 1 => hbmTy0_1 i
  | _ => ⟨S16384x8704, .bf16⟩

abbrev bufTy : (tb : Table) → Fin (tcTables nBuf tb) → BufTy
  | .hbm, ⟨i, _⟩ => hbmTy i
  | _, _ => ⟨S16384x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_call1_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_2 : Ref sig .tc := ⟨.hbm, 37, rfl⟩
abbrev main_v29 : Ref sig .tc := ⟨.hbm, 38, rfl⟩
abbrev main_v30 : Ref sig .tc := ⟨.hbm, 39, rfl⟩
abbrev main_c_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_6 : Ref sig .tc := ⟨.hbm, 55, rfl⟩
abbrev main_v42 : Ref sig .tc := ⟨.hbm, 56, rfl⟩
abbrev main_v43 : Ref sig .tc := ⟨.hbm, 57, rfl⟩
abbrev main_c_7 : Ref sig .tc := ⟨.hbm, 58, rfl⟩
abbrev main_v44 : Ref sig .tc := ⟨.hbm, 59, rfl⟩
abbrev main_v45 : Ref sig .tc := ⟨.hbm, 60, rfl⟩
abbrev main_c_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_9 : Ref sig .tc := ⟨.hbm, 65, rfl⟩
abbrev main_v49 : Ref sig .tc := ⟨.hbm, 66, rfl⟩
abbrev main_v50 : Ref sig .tc := ⟨.hbm, 67, rfl⟩
abbrev main_c_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c_11 : Ref sig .tc := ⟨.hbm, 78, rfl⟩
abbrev main_v60 : Ref sig .tc := ⟨.hbm, 79, rfl⟩
abbrev main_v61 : Ref sig .tc := ⟨.hbm, 80, rfl⟩
abbrev main_c_12 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_c_13 : Ref sig .tc := ⟨.hbm, 88, rfl⟩
abbrev main_v68 : Ref sig .tc := ⟨.hbm, 89, rfl⟩
abbrev main_v69 : Ref sig .tc := ⟨.hbm, 90, rfl⟩
abbrev main_c_14 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_c_15 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_16 : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_17 : Ref sig .tc := ⟨.hbm, 115, rfl⟩
abbrev main_v88 : Ref sig .tc := ⟨.hbm, 116, rfl⟩
abbrev main_cst_18 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_19 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩

abbrev nD : Nat := 1
abbrev τ : Topo := Topo.v7x

variable {F : FTy → Type} [FloatOps F]
-- ==== InProj.lean ====
abbrev S16384x4096 : Shape := ⟨2, ![16384, 4096]⟩
abbrev S2x4096x8704 : Shape := ⟨3, ![2, 4096, 8704]⟩
abbrev S1x8704 : Shape := ⟨2, ![1, 8704]⟩
abbrev S16384x8704 : Shape := ⟨2, ![16384, 8704]⟩
abbrev S1024x4096 : Shape := ⟨2, ![1024, 4096]⟩
abbrev S1x4096x512 : Shape := ⟨3, ![1, 4096, 512]⟩
abbrev S1x512 : Shape := ⟨2, ![1, 512]⟩
abbrev S1024x512 : Shape := ⟨2, ![1024, 512]⟩
abbrev S4096x512 : Shape := ⟨2, ![4096, 512]⟩

abbrev nBuf : Space → Nat
  | .hbm => 4
  | .vmem => 9
  | .smem => 0
  | _ => 0

abbrev bufTy : (tb : Table) → Fin (tcTables nBuf tb) → BufTy
  | .hbm, ⟨0, _⟩ => ⟨S16384x4096, .bf16⟩
  | .hbm, ⟨1, _⟩ => ⟨S2x4096x8704, .f32⟩
  | .hbm, ⟨2, _⟩ => ⟨S1x8704, .f32⟩
  | .hbm, ⟨3, _⟩ => ⟨S16384x8704, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S4096x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![17, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S16384x4096 : Shape := ⟨2, ![16384, 4096]⟩
abbrev S2x4096x8704 : Shape := ⟨3, ![2, 4096, 8704]⟩
abbrev S1x4096x8704 : Shape := ⟨3, ![1, 4096, 8704]⟩
abbrev S4096x8704 : Shape := ⟨2, ![4096, 8704]⟩
abbrev S16384x8704 : Shape := ⟨2, ![16384, 8704]⟩
abbrev S8704 : Shape := ⟨1, ![8704]⟩
abbrev S_ : Shape := ⟨0, ![]⟩
abbrev S1x8704 : Shape := ⟨2, ![1, 8704]⟩

abbrev nBuf : Space → Nat
  | .hbm => 30
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x8704, .f32⟩
  | .hbm, ⟨2, _⟩ => ⟨S16384x4096, .f32⟩
  | .hbm, ⟨3, _⟩ => ⟨S1x4096x8704, .f32⟩
  | .hbm, ⟨4, _⟩ => ⟨S4096x8704, .f32⟩
  | .hbm, ⟨5, _⟩ => ⟨S16384x8704, .f32⟩
  | .hbm, ⟨6, _⟩ => ⟨S8704, .i32⟩
  | .hbm, ⟨7, _⟩ => ⟨S_, .i32⟩
  | .hbm, ⟨8, _⟩ => ⟨S8704, .i32⟩
  | .hbm, ⟨9, _⟩ => ⟨S8704, .i1⟩
  | .hbm, ⟨10, _⟩ => ⟨S_, .i32⟩
  | .hbm, ⟨11, _⟩ => ⟨S8704, .i32⟩
  | .hbm, ⟨12, _⟩ => ⟨S8704, .i1⟩
  | .hbm, ⟨13, _⟩ => ⟨S_, .i32⟩
  | .hbm, ⟨14, _⟩ => ⟨S8704, .i32⟩
  | .hbm, ⟨15, _⟩ => ⟨S8704, .i1⟩
  | .hbm, ⟨16, _⟩ => ⟨S8704, .i1⟩
  | .hbm, ⟨17, _⟩ => ⟨S_, .f32⟩
  | .hbm, ⟨18, _⟩ => ⟨S_, .f32⟩
  | .hbm, ⟨19, _⟩ => ⟨S8704, .f32⟩
  | .hbm, ⟨20, _⟩ => ⟨S8704, .f32⟩
  | .hbm, ⟨21, _⟩ => ⟨S8704, .f32⟩
  | .hbm, ⟨22, _⟩ => ⟨S_, .f32⟩
  | .hbm, ⟨23, _⟩ => ⟨S8704, .f32⟩
  | .hbm, ⟨24, _⟩ => ⟨S8704, .f32⟩
  | .hbm, ⟨25, _⟩ => ⟨S1x8704, .f32⟩
  | .hbm, ⟨26, _⟩ => ⟨S1x8704, .f32⟩
  | .hbm, ⟨27, _⟩ => ⟨S16384x8704, .f32⟩
  | .hbm, ⟨28, _⟩ => ⟨S16384x8704, .f32⟩
  | .hbm, ⟨29, _⟩ => ⟨S16384x8704, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v12 : Ref sig .tc := ⟨.hbm, 21, rfl⟩
abbrev main_cst_3 : Ref sig .tc := ⟨.hbm, 22, rfl⟩
abbrev main_call1_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== OutProj.lean ====
abbrev S16384x2048 : Shape := ⟨2, ![16384, 2048]⟩
abbrev S2x4096x4096 : Shape := ⟨3, ![2, 4096, 4096]⟩
abbrev S16384x4096 : Shape := ⟨2, ![16384, 4096]⟩
abbrev S1x4096 : Shape := ⟨2, ![1, 4096]⟩
abbrev S1024x2048 : Shape := ⟨2, ![1024, 2048]⟩
abbrev S1x4096x512 : Shape := ⟨3, ![1, 4096, 512]⟩
abbrev S1024x512 : Shape := ⟨2, ![1024, 512]⟩
abbrev S1x512 : Shape := ⟨2, ![1, 512]⟩
abbrev S4096x512 : Shape := ⟨2, ![4096, 512]⟩
abbrev S2048x512 : Shape := ⟨2, ![2048, 512]⟩

abbrev nBuf : Space → Nat
  | .hbm => 6
  | .vmem => 13
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2x4096x4096, .f32⟩
  | .hbm, ⟨3, _⟩ => ⟨S16384x4096, .f32⟩
  | .hbm, ⟨4, _⟩ => ⟨S1x4096, .f32⟩
  | .hbm, ⟨5, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x4096x512, .f32⟩
  | .local _ .vmem, ⟨5, _⟩ => ⟨S1x4096x512, .f32⟩
  | .local _ .vmem, ⟨6, _⟩ => ⟨S1024x512, .f32⟩
  | .local _ .vmem, ⟨7, _⟩ => ⟨S1024x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S4096x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutProjRefIdeal.lean ====
abbrev S16384x2048 : Shape := ⟨2, ![16384, 2048]⟩
abbrev S2x4096x4096 : Shape := ⟨3, ![2, 4096, 4096]⟩
abbrev S16384x4096 : Shape := ⟨2, ![16384, 4096]⟩
abbrev S1x4096 : Shape := ⟨2, ![1, 4096]⟩
abbrev S1x4096x4096 : Shape := ⟨3, ![1, 4096, 4096]⟩
abbrev S4096x4096 : Shape := ⟨2, ![4096, 4096]⟩

abbrev nBuf : Space → Nat
  | .hbm => 14
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2x4096x4096, .f32⟩
  | .hbm, ⟨3, _⟩ => ⟨S16384x4096, .f32⟩
  | .hbm, ⟨4, _⟩ => ⟨S1x4096, .f32⟩
  | .hbm, ⟨5, _⟩ => ⟨S16384x2048, .f32⟩
  | .hbm, ⟨6, _⟩ => ⟨S16384x2048, .f32⟩
  | .hbm, ⟨7, _⟩ => ⟨S16384x4096, .f32⟩
  | .hbm, ⟨8, _⟩ => ⟨S1x4096x4096, .f32⟩
  | .hbm, ⟨9, _⟩ => ⟨S4096x4096, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== MlpUp.lean ====
abbrev S16384x4096 : Shape := ⟨2, ![16384, 4096]⟩
abbrev S2x4096x22016 : Shape := ⟨3, ![2, 4096, 22016]⟩
abbrev S2x3x11008 : Shape := ⟨3, ![2, 3, 11008]⟩
abbrev S2x11008 : Shape := ⟨2, ![2, 11008]⟩
abbrev S1x3x11008 : Shape := ⟨3, ![1, 3, 11008]⟩
abbrev S3x11008 : Shape := ⟨2, ![3, 11008]⟩
abbrev S1x11008 : Shape := ⟨2, ![1, 11008]⟩
abbrev S11008 : Shape := ⟨1, ![11008]⟩
abbrev S16384x11008 : Shape := ⟨2, ![16384, 11008]⟩
abbrev S1024x4096 : Shape := ⟨2, ![1024, 4096]⟩
abbrev S1x4096x256 : Shape := ⟨3, ![1, 4096, 256]⟩
abbrev S3x256 : Shape := ⟨2, ![3, 256]⟩
abbrev S1x256 : Shape := ⟨2, ![1, 256]⟩
abbrev S1024x256 : Shape := ⟨2, ![1024, 256]⟩
abbrev S8x256 : Shape := ⟨2, ![8, 256]⟩
abbrev S4096x512 : Shape := ⟨2, ![4096, 512]⟩
abbrev S1024x512 : Shape := ⟨2, ![1024, 512]⟩
abbrev S4096x256 : Shape := ⟨2, ![4096, 256]⟩
abbrev S1016x256 : Shape := ⟨2, ![1016, 256]⟩
abbrev S128x4096 : Shape := ⟨2, ![128, 4096]⟩
abbrev S128x512 : Shape := ⟨2, ![128, 512]⟩

abbrev nBuf : Space → Nat
  | .hbm => 10
  | .vmem => 15
  | .smem => 0
  | _ => 0

abbrev bufTy : (tb : Table) → Fin (tcTables nBuf tb) → BufTy
  | .hbm, ⟨0, _⟩ => ⟨S16384x4096, .bf16⟩
  | .hbm, ⟨1, _⟩ => ⟨S2x4096x22016, .f32⟩
  | .hbm, ⟨2, _⟩ => ⟨S2x3x11008, .f32⟩
  | .hbm, ⟨3, _⟩ => ⟨S2x11008, .f32⟩
  | .hbm, ⟨4, _⟩ => ⟨S1x3x11008, .f32⟩
  | .hbm, ⟨5, _⟩ => ⟨S3x11008, .f32⟩
  | .hbm, ⟨6, _⟩ => ⟨S1x11008, .f32⟩
  | .hbm, ⟨7, _⟩ => ⟨S11008, .f32⟩
  | .hbm, ⟨8, _⟩ => ⟨S1x11008, .f32⟩
  | .hbm, ⟨9, _⟩ => ⟨S16384x11008, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1024x256, .bf16⟩
  | .local _ .vmem, ⟨11, _⟩ => ⟨S1024x256, .bf16⟩
  | .local _ .vmem, ⟨12, _⟩ => ⟨S8x256, .f32⟩
  | .local _ .vmem, ⟨13, _⟩ => ⟨S4096x512, .bf16⟩
  | .local _ .vmem, ⟨14, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![689], ![false]⟩

def cc0_transform_0 (i : grid0.Coords) : Fin 2 → Nat :=
  let arg0 : BitVec 32 := BitVec.ofNat 32 (i 0).val
  let c687_i32 : BitVec 32 := 687#32
  let v0 : BitVec 32 := Scalar.minsi arg0 c687_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_1 (i : grid0.Coords) : Fin 3 → Nat :=
  let arg0 : BitVec 32 := BitVec.ofNat 32 (i 0).val
  let c687_i32 : BitVec 32 := 687#32
  let v0 : BitVec 32 := Scalar.minsi arg0 c687_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![c0_i32_4.toNat, c0_i32_5.toNat, v17.toNat]

def cc0_transform_2 (i : grid0.Coords) : Fin 3 → Nat :=
  let arg0 : BitVec 32 := BitVec.ofNat 32 (i 0).val
  let c687_i32 : BitVec 32 := 687#32
  let v0 : BitVec 32 := Scalar.minsi arg0 c687_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c43_i32 : BitVec 32 := 43#32
  let v18 : BitVec 32 := Scalar.addi c43_i32 v17
  let c0_i32_4 : BitVec 32 := 0#32
  let c0_i32_5 : BitVec 32 := 0#32
  let c0_i32_6 : BitVec 32 := 0#32
  ![c0_i32_4.toNat, c0_i32_5.toNat, v18.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![c0_i32_6.toNat, v18.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![c0_i32_6.toNat, v18.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  let v2 : BitVec 1 := Scalar.cmpi .eq c16_i32 c0_i32_0
  let c1_i32_1 : BitVec 32 := 1#32
  let v3 : BitVec 32 := Scalar.select v2 c1_i32_1 c16_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.subi arg0 c1_i32_5
  let c0_i32_6 : BitVec 32 := 0#32
  let v13 : BitVec 32 := Scalar.maxsi v12 c0_i32_6
  let c16_i32_7 : BitVec 32 := 16#32
  let v14 : BitVec 32 := Scalar.divsi v13 c16_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c16_i32_7 c0_i32_10
  let v21 : BitVec 32 := Scalar.extui v20
  let c0_i32_11 : BitVec 32 := 0#32
  let v22 : BitVec 1 := Scalar.cmpi .slt c16_i32_7 c0_i32_11
  let v23 : BitVec 32 := Scalar.extui v22
  let v24 : BitVec 32 := Scalar.subi v21 v23
  let v25 : BitVec 1 := Scalar.cmpi .ne v19 v24
  let v26 : BitVec 32 := Scalar.remsi v13 c16_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c0_i32_14 : BitVec 32 := 0#32
  ![v11.toNat, v30.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpUpRefIdeal.lean ====
abbrev S16384x4096 : Shape := ⟨2, ![16384, 4096]⟩
abbrev S2x4096x22016 : Shape := ⟨3, ![2, 4096, 22016]⟩
abbrev S2x3x11008 : Shape := ⟨3, ![2, 3, 11008]⟩
abbrev S2x11008 : Shape := ⟨2, ![2, 11008]⟩
abbrev S1x4096x22016 : Shape := ⟨3, ![1, 4096, 22016]⟩
abbrev S4096x22016 : Shape := ⟨2, ![4096, 22016]⟩
abbrev S16384x22016 : Shape := ⟨2, ![16384, 22016]⟩
abbrev S16384x11008 : Shape := ⟨2, ![16384, 11008]⟩
abbrev S_ : Shape := ⟨0, ![]⟩
abbrev S16386x11008 : Shape := ⟨2, ![16386, 11008]⟩
abbrev S1x11008 : Shape := ⟨2, ![1, 11008]⟩
abbrev S11008 : Shape := ⟨1, ![11008]⟩
abbrev S1x1x11008 : Shape := ⟨3, ![1, 1, 11008]⟩

abbrev nBuf : Space → Nat
  | .hbm => 49
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x22016, .f32⟩
  | .hbm, ⟨2, _⟩ => ⟨S2x3x11008, .f32⟩
  | .hbm, ⟨3, _⟩ => ⟨S2x11008, .f32⟩
  | .hbm, ⟨4, _⟩ => ⟨S16384x4096, .f32⟩
  | .hbm, ⟨5, _⟩ => ⟨S1x4096x22016, .f32⟩
  | .hbm, ⟨6, _⟩ => ⟨S4096x22016, .f32⟩
  | .hbm, ⟨7, _⟩ => ⟨S16384x22016, .f32⟩
  | .hbm, ⟨8, _⟩ => ⟨S16384x11008, .f32⟩
  | .hbm, ⟨9, _⟩ => ⟨S16384x11008, .f32⟩
  | .hbm, ⟨10, _⟩ => ⟨S_, .i32⟩
  | .hbm, ⟨11, _⟩ => ⟨S_, .f32⟩
  | .hbm, ⟨12, _⟩ => ⟨S16386x11008, .f32⟩
  | .hbm, ⟨13, _⟩ => ⟨S1x11008, .f32⟩
  | .hbm, ⟨14, _⟩ => ⟨S11008, .f32⟩
  | .hbm, ⟨15, _⟩ => ⟨S16384x11008, .f32⟩
  | .hbm, ⟨16, _⟩ => ⟨S1x1x11008, .f32⟩
  | .hbm, ⟨17, _⟩ => ⟨S11008, .f32⟩
  | .hbm, ⟨18, _⟩ => ⟨S1x11008, .f32⟩
  | .hbm, ⟨19, _⟩ => ⟨S16384x11008, .f32⟩
  | .hbm, ⟨20, _⟩ => ⟨S16384x11008, .f32⟩
  | .hbm, ⟨21, _⟩ => ⟨S1x11008, .f32⟩
  | .hbm, ⟨22, _⟩ => ⟨S16384x11008, .f32⟩
  | .hbm, ⟨23, _⟩ => ⟨S16384x11008, .f32⟩
  | .hbm, ⟨24, _⟩ => ⟨S16384x11008, .f32⟩
  | .hbm, ⟨25, _⟩ => ⟨S1x1x11008, .f32⟩
  | .hbm, ⟨26, _⟩ => ⟨S11008, .f32⟩
  | .hbm, ⟨27, _⟩ => ⟨S1x11008, .f32⟩
  | .hbm, ⟨28, _⟩ => ⟨S16384x11008, .f32⟩
  | .hbm, ⟨29, _⟩ => ⟨S16384x11008, .f32⟩
  | .hbm, ⟨30, _⟩ => ⟨S16384x11008, .f32⟩
  | .hbm, ⟨31, _⟩ => ⟨S16384x11008, .f32⟩
  | .hbm, ⟨32, _⟩ => ⟨S1x1x11008, .f32⟩
  | .hbm, ⟨33, _⟩ => ⟨S11008, .f32⟩
  | .hbm, ⟨34, _⟩ => ⟨S1x11008, .f32⟩
  | .hbm, ⟨35, _⟩ => ⟨S16384x11008, .f32⟩
  | .hbm, ⟨36, _⟩ => ⟨S16384x11008, .f32⟩
  | .hbm, ⟨37, _⟩ => ⟨S16384x11008, .f32⟩
  | .hbm, ⟨38, _⟩ => ⟨S16384x11008, .f32⟩
  | .hbm, ⟨39, _⟩ => ⟨S16384x11008, .f32⟩
  | .hbm, ⟨40, _⟩ => ⟨S_, .f32⟩
  | .hbm, ⟨41, _⟩ => ⟨S16384x11008, .f32⟩
  | .hbm, ⟨42, _⟩ => ⟨S16384x11008, .f32⟩
  | .hbm, ⟨43, _⟩ => ⟨S_, .f32⟩
  | .hbm, ⟨44, _⟩ => ⟨S16384x11008, .f32⟩
  | .hbm, ⟨45, _⟩ => ⟨S16384x11008, .f32⟩
  | .hbm, ⟨46, _⟩ => ⟨S16384x11008, .f32⟩
  | .hbm, ⟨47, _⟩ => ⟨S16384x11008, .f32⟩
  | .hbm, ⟨48, _⟩ => ⟨S16384x11008, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== MlpDown.lean ====
abbrev S16384x11008 : Shape := ⟨2, ![16384, 11008]⟩
abbrev S11008x4096 : Shape := ⟨2, ![11008, 4096]⟩
abbrev S16384x4096 : Shape := ⟨2, ![16384, 4096]⟩
abbrev S1x4096 : Shape := ⟨2, ![1, 4096]⟩
abbrev S512x11008 : Shape := ⟨2, ![512, 11008]⟩
abbrev S11008x512 : Shape := ⟨2, ![11008, 512]⟩
abbrev S512x512 : Shape := ⟨2, ![512, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .bf16⟩
  | .hbm, ⟨2, _⟩ => ⟨S16384x4096, .f32⟩
  | .hbm, ⟨3, _⟩ => ⟨S1x4096, .f32⟩
  | .hbm, ⟨4, _⟩ => ⟨S16384x4096, .f32⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MlpDownRefIdeal.lean ====
abbrev S16384x11008 : Shape := ⟨2, ![16384, 11008]⟩
abbrev S11008x4096 : Shape := ⟨2, ![11008, 4096]⟩
abbrev S16384x4096 : Shape := ⟨2, ![16384, 4096]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .bf16⟩
  | .hbm, ⟨2, _⟩ => ⟨S16384x4096, .f32⟩
  | .hbm, ⟨3, _⟩ => ⟨S1x4096, .f32⟩
  | .hbm, ⟨4, _⟩ => ⟨S16384x11008, .f32⟩
  | .hbm, ⟨5, _⟩ => ⟨S11008x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x4096, .f32⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== FinalNorm.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Modulate.lean ====
abbrev S16384x4096 : Shape := ⟨2, ![16384, 4096]⟩
abbrev S2x4096 : Shape := ⟨2, ![2, 4096]⟩
abbrev S1x4096 : Shape := ⟨2, ![1, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩

abbrev nBuf : Space → Nat
  | .hbm => 8
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S2x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S512x4096, .bf16⟩
  | .local _ .vmem, ⟨6, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ModulateRefIdeal.lean ====
abbrev S16384x4096 : Shape := ⟨2, ![16384, 4096]⟩
abbrev S2x4096 : Shape := ⟨2, ![2, 4096]⟩
abbrev S1x4096 : Shape := ⟨2, ![1, 4096]⟩
abbrev S_ : Shape := ⟨0, ![]⟩
abbrev S16384 : Shape := ⟨1, ![16384]⟩
abbrev S16384x1 : Shape := ⟨2, ![16384, 1]⟩
abbrev S4096 : Shape := ⟨1, ![4096]⟩

abbrev nBuf : Space → Nat
  | .hbm => 30
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S2x4096, .f32⟩
  | .hbm, ⟨2, _⟩ => ⟨S1x4096, .f32⟩
  | .hbm, ⟨3, _⟩ => ⟨S1x4096, .f32⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S1x4096, .f32⟩
  | .hbm, ⟨18, _⟩ => ⟨S4096, .f32⟩
  | .hbm, ⟨19, _⟩ => ⟨S1x4096, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S1x4096, .f32⟩
  | .hbm, ⟨24, _⟩ => ⟨S1x4096, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== AdaMod.lean ====
abbrev S1x4096 : Shape := ⟨2, ![1, 4096]⟩
abbrev S2x4096x24576 : Shape := ⟨3, ![2, 4096, 24576]⟩
abbrev S2x24576 : Shape := ⟨2, ![2, 24576]⟩
abbrev S4096x1 : Shape := ⟨2, ![4096, 1]⟩
abbrev S2x1x24576 : Shape := ⟨3, ![2, 1, 24576]⟩
abbrev S1x4096x512 : Shape := ⟨3, ![1, 4096, 512]⟩
abbrev S1x1x512 : Shape := ⟨3, ![1, 1, 512]⟩
abbrev S4096x512 : Shape := ⟨2, ![4096, 512]⟩
abbrev S512 : Shape := ⟨1, ![512]⟩
abbrev S1x512 : Shape := ⟨2, ![1, 512]⟩

abbrev nBuf : Space → Nat
  | .hbm => 6
  | .vmem => 7
  | .smem => 0
  | _ => 0

abbrev bufTy : (tb : Table) → Fin (tcTables nBuf tb) → BufTy
  | .hbm, ⟨0, _⟩ => ⟨S1x4096, .f32⟩
  | .hbm, ⟨1, _⟩ => ⟨S2x4096x24576, .f32⟩
  | .hbm, ⟨2, _⟩ => ⟨S2x24576, .f32⟩
  | .hbm, ⟨3, _⟩ => ⟨S4096x1, .f32⟩
  | .hbm, ⟨4, _⟩ => ⟨S2x1x24576, .f32⟩
  | .hbm, ⟨5, _⟩ => ⟨S2x1x24576, .f32⟩
  | .local _ .vmem, ⟨0, _⟩ => ⟨S4096x1, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S4096x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaModRefIdeal.lean ====
abbrev S1x4096 : Shape := ⟨2, ![1, 4096]⟩
abbrev S2x4096x24576 : Shape := ⟨3, ![2, 4096, 24576]⟩
abbrev S2x24576 : Shape := ⟨2, ![2, 24576]⟩
abbrev S_ : Shape := ⟨0, ![]⟩
abbrev S2x24576x1 : Shape := ⟨3, ![2, 24576, 1]⟩
abbrev S2x1x24576 : Shape := ⟨3, ![2, 1, 24576]⟩

abbrev nBuf : Space → Nat
  | .hbm => 16
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S2x4096x24576, .f32⟩
  | .hbm, ⟨2, _⟩ => ⟨S2x24576, .f32⟩
  | .hbm, ⟨3, _⟩ => ⟨S1x4096, .f32⟩
  | .hbm, ⟨4, _⟩ => ⟨S1x4096, .f32⟩
  | .hbm, ⟨5, _⟩ => ⟨S_, .f32⟩
  | .hbm, ⟨6, _⟩ => ⟨S1x4096, .f32⟩
  | .hbm, ⟨7, _⟩ => ⟨S1x4096, .f32⟩
  | .hbm, ⟨8, _⟩ => ⟨S_, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S2x24576x1, .f32⟩
  | .hbm, ⟨13, _⟩ => ⟨S2x1x24576, .f32⟩
  | .hbm, ⟨14, _⟩ => ⟨S2x1x24576, .f32⟩
  | .hbm, ⟨15, _⟩ => ⟨S2x1x24576, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== CastDown.lean ====
abbrev S2x11008x4096 : Shape := ⟨3, ![2, 11008, 4096]⟩
abbrev S11008x4096 : Shape := ⟨2, ![11008, 4096]⟩
abbrev S1x688x4096 : Shape := ⟨3, ![1, 688, 4096]⟩
abbrev S688x4096 : Shape := ⟨2, ![688, 4096]⟩

abbrev nBuf : Space → Nat
  | .hbm => 2
  | .vmem => 4
  | .smem => 0
  | _ => 0

abbrev bufTy : (tb : Table) → Fin (tcTables nBuf tb) → BufTy
  | .hbm, ⟨0, _⟩ => ⟨S2x11008x4096, .f32⟩
  | .hbm, ⟨1, _⟩ => ⟨S11008x4096, .bf16⟩
  | .local _ .vmem, ⟨0, _⟩ => ⟨S1x688x4096, .f32⟩
  | .local _ .vmem, ⟨1, _⟩ => ⟨S1x688x4096, .f32⟩
  | .local _ .vmem, ⟨2, _⟩ => ⟨S688x4096, .bf16⟩
  | .local _ .vmem, ⟨3, _⟩ => ⟨S688x4096, .bf16⟩
  | _, _ => ⟨S2x11008x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x688x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastDownRefIdeal.lean ====
abbrev S2x11008x4096 : Shape := ⟨3, ![2, 11008, 4096]⟩
abbrev S1x11008x4096 : Shape := ⟨3, ![1, 11008, 4096]⟩
abbrev S11008x4096 : Shape := ⟨2, ![11008, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2x11008x4096, .f32⟩
  | .hbm, ⟨1, _⟩ => ⟨S1x11008x4096, .f32⟩
  | .hbm, ⟨2, _⟩ => ⟨S11008x4096, .f32⟩
  | .hbm, ⟨3, _⟩ => ⟨S11008x4096, .bf16⟩
  | _, _ => ⟨S2x11008x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Diff.lean ====
abbrev S16384x8704 : Shape := ⟨2, ![16384, 8704]⟩
abbrev S32x24 : Shape := ⟨2, ![32, 24]⟩
abbrev S2x128 : Shape := ⟨2, ![2, 128]⟩
abbrev S2x256 : Shape := ⟨2, ![2, 256]⟩
abbrev S384 : Shape := ⟨1, ![384]⟩
abbrev S_ : Shape := ⟨0, ![]⟩
abbrev S384x1 : Shape := ⟨2, ![384, 1]⟩
abbrev S384x24 : Shape := ⟨2, ![384, 24]⟩
abbrev S24x384 : Shape := ⟨2, ![24, 384]⟩
abbrev S1x24x1x384 : Shape := ⟨4, ![1, 24, 1, 384]⟩
abbrev S1x24x128x384 : Shape := ⟨4, ![1, 24, 128, 384]⟩
abbrev S24x49152 : Shape := ⟨2, ![24, 49152]⟩
abbrev S24x49024 : Shape := ⟨2, ![24, 49024]⟩
abbrev S24x128x383 : Shape := ⟨3, ![24, 128, 383]⟩
abbrev S24x128x256 : Shape := ⟨3, ![24, 128, 256]⟩
abbrev S16x128x256 : Shape := ⟨3, ![16, 128, 256]⟩
abbrev S1x8 : Shape := ⟨2, ![1, 8]⟩
abbrev S8 : Shape := ⟨1, ![8]⟩
abbrev S8x128x256 : Shape := ⟨3, ![8, 128, 256]⟩
abbrev S8x1x1 : Shape := ⟨3, ![8, 1, 1]⟩
abbrev S8x128x128 : Shape := ⟨3, ![8, 128, 128]⟩
abbrev S8x128x512 : Shape := ⟨3, ![8, 128, 512]⟩
abbrev S8x512x512 : Shape := ⟨3, ![8, 512, 512]⟩
abbrev S1x128 : Shape := ⟨2, ![1, 128]⟩
abbrev S128 : Shape := ⟨1, ![128]⟩
abbrev S1x256 : Shape := ⟨2, ![1, 256]⟩
abbrev S256 : Shape := ⟨1, ![256]⟩
abbrev S16384x2048 : Shape := ⟨2, ![16384, 2048]⟩
abbrev S512x256 : Shape := ⟨2, ![512, 256]⟩
abbrev S16384x256 : Shape := ⟨2, ![16384, 256]⟩
abbrev S1x512x512 : Shape := ⟨3, ![1, 512, 512]⟩
abbrev S1x128x128 : Shape := ⟨3, ![1, 128, 128]⟩
abbrev S2x512x128 : Shape := ⟨3, ![2, 512, 128]⟩
abbrev S2x512x256 : Shape := ⟨3, ![2, 512, 256]⟩
abbrev S2x2x512x512 : Shape := ⟨4, ![2, 2, 512, 512]⟩
abbrev S2x2x512x128 : Shape := ⟨4, ![2, 2, 512, 128]⟩
abbrev S512x128 : Shape := ⟨2, ![512, 128]⟩
abbrev S512x512 : Shape := ⟨2, ![512, 512]⟩
abbrev S1x1x512x512 : Shape := ⟨4, ![1, 1, 512, 512]⟩
abbrev S1x1x512x128 : Shape := ⟨4, ![1, 1, 512, 128]⟩
abbrev S1x512x128 : Shape := ⟨3, ![1, 512, 128]⟩
abbrev S512 : Shape := ⟨1, ![512]⟩
abbrev S512x1 : Shape := ⟨2, ![512, 1]⟩
abbrev S2x512x512 : Shape := ⟨3, ![2, 512, 512]⟩
abbrev S1x2x512x512 : Shape := ⟨4, ![1, 2, 512, 512]⟩
abbrev S1x2x512x128 : Shape := ⟨4, ![1, 2, 512, 128]⟩
abbrev S1x512x256 : Shape := ⟨3, ![1, 512, 256]⟩
abbrev S128x128 : Shape := ⟨2, ![128, 128]⟩
abbrev S128x384 : Shape := ⟨2, ![128, 384]⟩
abbrev S128x512 : Shape := ⟨2, ![128, 512]⟩
abbrev S384x512 : Shape := ⟨2, ![384, 512]⟩
abbrev S1 : Shape := ⟨1, ![1]⟩
abbrev S1x1 : Shape := ⟨2, ![1, 1]⟩

abbrev nBuf : Space → Nat
  | .hbm => 95
  | .vmem => 24
  | .smem => 0
  | _ => 0

abbrev bufTy : (tb : Table) → Fin (tcTables nBuf tb) → BufTy
  | .hbm, ⟨0, _⟩ => ⟨S16384x8704, .bf16⟩
  | .hbm, ⟨1, _⟩ => ⟨S32x24, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x256, .f32⟩
  | .hbm, ⟨7, _⟩ => ⟨S384, .i32⟩
  | .hbm, ⟨8, _⟩ => ⟨S384, .i32⟩
  | .hbm, ⟨9, _⟩ => ⟨S384, .i1⟩
  | .hbm, ⟨10, _⟩ => ⟨S_, .i32⟩
  | .hbm, ⟨11, _⟩ => ⟨S384, .i32⟩
  | .hbm, ⟨12, _⟩ => ⟨S384, .i32⟩
  | .hbm, ⟨13, _⟩ => ⟨S_, .i32⟩
  | .hbm, ⟨14, _⟩ => ⟨S384, .i32⟩
  | .hbm, ⟨15, _⟩ => ⟨S384, .i32⟩
  | .hbm, ⟨16, _⟩ => ⟨S384, .f32⟩
  | .hbm, ⟨17, _⟩ => ⟨S_, .f32⟩
  | .hbm, ⟨18, _⟩ => ⟨S384, .f32⟩
  | .hbm, ⟨19, _⟩ => ⟨S384, .f32⟩
  | .hbm, ⟨20, _⟩ => ⟨S384, .f32⟩
  | .hbm, ⟨21, _⟩ => ⟨S_, .f32⟩
  | .hbm, ⟨22, _⟩ => ⟨S384, .f32⟩
  | .hbm, ⟨23, _⟩ => ⟨S384, .f32⟩
  | .hbm, ⟨24, _⟩ => ⟨S_, .f32⟩
  | .hbm, ⟨25, _⟩ => ⟨S384, .f32⟩
  | .hbm, ⟨26, _⟩ => ⟨S384, .f32⟩
  | .hbm, ⟨27, _⟩ => ⟨S384, .i32⟩
  | .hbm, ⟨28, _⟩ => ⟨S_, .i32⟩
  | .hbm, ⟨29, _⟩ => ⟨S384, .i32⟩
  | .hbm, ⟨30, _⟩ => ⟨S384, .i32⟩
  | .hbm, ⟨31, _⟩ => ⟨S_, .i32⟩
  | .hbm, ⟨32, _⟩ => ⟨S384, .i32⟩
  | .hbm, ⟨33, _⟩ => ⟨S384, .i32⟩
  | .hbm, ⟨34, _⟩ => ⟨S_, .i32⟩
  | .hbm, ⟨35, _⟩ => ⟨S384, .i32⟩
  | .hbm, ⟨36, _⟩ => ⟨S384, .i1⟩
  | .hbm, ⟨37, _⟩ => ⟨S384, .i32⟩
  | .hbm, ⟨38, _⟩ => ⟨S_, .i32⟩
  | .hbm, ⟨39, _⟩ => ⟨S384, .i32⟩
  | .hbm, ⟨40, _⟩ => ⟨S384, .i1⟩
  | .hbm, ⟨41, _⟩ => ⟨S_, .i32⟩
  | .hbm, ⟨42, _⟩ => ⟨S384, .i32⟩
  | .hbm, ⟨43, _⟩ => ⟨S384, .i32⟩
  | .hbm, ⟨44, _⟩ => ⟨S384, .i32⟩
  | .hbm, ⟨45, _⟩ => ⟨S384x1, .i32⟩
  | .hbm, ⟨46, _⟩ => ⟨S384x24, .f32⟩
  | .hbm, ⟨47, _⟩ => ⟨S_, .i32⟩
  | .hbm, ⟨48, _⟩ => ⟨S384, .i32⟩
  | .hbm, ⟨49, _⟩ => ⟨S384, .i32⟩
  | .hbm, ⟨50, _⟩ => ⟨S384, .i32⟩
  | .hbm, ⟨51, _⟩ => ⟨S384x1, .i32⟩
  | .hbm, ⟨52, _⟩ => ⟨S384x24, .f32⟩
  | .hbm, ⟨53, _⟩ => ⟨S24x384, .f32⟩
  | .hbm, ⟨54, _⟩ => ⟨S1x24x1x384, .f32⟩
  | .hbm, ⟨55, _⟩ => ⟨S1x24x128x384, .f32⟩
  | .hbm, ⟨56, _⟩ => ⟨S24x49152, .f32⟩
  | .hbm, ⟨57, _⟩ => ⟨S24x49024, .f32⟩
  | .hbm, ⟨58, _⟩ => ⟨S24x128x383, .f32⟩
  | .hbm, ⟨59, _⟩ => ⟨S24x128x256, .f32⟩
  | .hbm, ⟨60, _⟩ => ⟨S16x128x256, .f32⟩
  | .hbm, ⟨61, _⟩ => ⟨S1x8, .f32⟩
  | .hbm, ⟨62, _⟩ => ⟨S8, .f32⟩
  | .hbm, ⟨63, _⟩ => ⟨S8x128x256, .f32⟩
  | .hbm, ⟨64, _⟩ => ⟨S8x1x1, .f32⟩
  | .hbm, ⟨65, _⟩ => ⟨S8x128x256, .f32⟩
  | .hbm, ⟨66, _⟩ => ⟨S8x128x256, .f32⟩
  | .hbm, ⟨67, _⟩ => ⟨S_, .f32⟩
  | .hbm, ⟨68, _⟩ => ⟨S8x128x256, .f32⟩
  | .hbm, ⟨69, _⟩ => ⟨S8x128x256, .f32⟩
  | .hbm, ⟨70, _⟩ => ⟨S8x128x128, .f32⟩
  | .hbm, ⟨71, _⟩ => ⟨S8x128x128, .f32⟩
  | .hbm, ⟨72, _⟩ => ⟨S_, .f32⟩
  | .hbm, ⟨73, _⟩ => ⟨S8x128x128, .f32⟩
  | .hbm, ⟨74, _⟩ => ⟨S8x128x512, .f32⟩
  | .hbm, ⟨75, _⟩ => ⟨S8x128x512, .f32⟩
  | .hbm, ⟨76, _⟩ => ⟨S8x128x512, .f32⟩
  | .hbm, ⟨77, _⟩ => ⟨S8x128x512, .f32⟩
  | .hbm, ⟨78, _⟩ => ⟨S8x512x512, .f32⟩
  | .hbm, ⟨79, _⟩ => ⟨S1x128, .f32⟩
  | .hbm, ⟨80, _⟩ => ⟨S128, .f32⟩
  | .hbm, ⟨81, _⟩ => ⟨S1x128, .f32⟩
  | .hbm, ⟨82, _⟩ => ⟨S1x128, .f32⟩
  | .hbm, ⟨83, _⟩ => ⟨S128, .f32⟩
  | .hbm, ⟨84, _⟩ => ⟨S1x128, .f32⟩
  | .hbm, ⟨85, _⟩ => ⟨S1x128, .f32⟩
  | .hbm, ⟨86, _⟩ => ⟨S128, .f32⟩
  | .hbm, ⟨87, _⟩ => ⟨S1x128, .f32⟩
  | .hbm, ⟨88, _⟩ => ⟨S1x128, .f32⟩
  | .hbm, ⟨89, _⟩ => ⟨S128, .f32⟩
  | .hbm, ⟨90, _⟩ => ⟨S1x128, .f32⟩
  | .hbm, ⟨91, _⟩ => ⟨S1x256, .f32⟩
  | .hbm, ⟨92, _⟩ => ⟨S256, .f32⟩
  | .hbm, ⟨93, _⟩ => ⟨S1x256, .f32⟩
  | .hbm, ⟨94, _⟩ => ⟨S16384x2048, .bf16⟩
  | .local _ .vmem, ⟨0, _⟩ => ⟨S512x256, .bf16⟩
  | .local _ .vmem, ⟨1, _⟩ => ⟨S512x256, .bf16⟩
  | .local _ .vmem, ⟨2, _⟩ => ⟨S16384x256, .bf16⟩
  | .local _ .vmem, ⟨3, _⟩ => ⟨S16384x256, .bf16⟩
  | .local _ .vmem, ⟨4, _⟩ => ⟨S16384x256, .bf16⟩
  | .local _ .vmem, ⟨5, _⟩ => ⟨S16384x256, .bf16⟩
  | .local _ .vmem, ⟨6, _⟩ => ⟨S1x512x512, .f32⟩
  | .local _ .vmem, ⟨7, _⟩ => ⟨S1x512x512, .f32⟩
  | .local _ .vmem, ⟨8, _⟩ => ⟨S1x128x128, .f32⟩
  | .local _ .vmem, ⟨9, _⟩ => ⟨S1x128x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x256, .f32⟩
  | .local _ .vmem, ⟨15, _⟩ => ⟨S512x256, .bf16⟩
  | .local _ .vmem, ⟨16, _⟩ => ⟨S512x256, .bf16⟩
  | .local _ .vmem, ⟨17, _⟩ => ⟨S2x512x128, .f32⟩
  | .local _ .vmem, ⟨18, _⟩ => ⟨S2x512x128, .f32⟩
  | .local _ .vmem, ⟨19, _⟩ => ⟨S2x512x256, .f32⟩
  | .local _ .vmem, ⟨20, _⟩ => ⟨S2x2x512x512, .f32⟩
  | .local _ .vmem, ⟨21, _⟩ => ⟨S2x2x512x128, .f32⟩
  | .local _ .vmem, ⟨22, _⟩ => ⟨S2x2x512x512, .bf16⟩
  | .local _ .vmem, ⟨23, _⟩ => ⟨S2x2x512x128, .f32⟩
  | _, _ => ⟨S16384x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_v0 : Ref sig .tc := ⟨.hbm, 11, rfl⟩
abbrev main_v1 : Ref sig .tc := ⟨.hbm, 12, rfl⟩
abbrev main_c_3 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_4 : Ref sig .tc := ⟨.hbm, 21, rfl⟩
abbrev main_v8 : Ref sig .tc := ⟨.hbm, 22, rfl⟩
abbrev main_v9 : Ref sig .tc := ⟨.hbm, 23, rfl⟩
abbrev main_cst_5 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_6 : Ref sig .tc := ⟨.hbm, 28, rfl⟩
abbrev main_v13 : Ref sig .tc := ⟨.hbm, 29, rfl⟩
abbrev main_v14 : Ref sig .tc := ⟨.hbm, 30, rfl⟩
abbrev main_c_7 : Ref sig .tc := ⟨.hbm, 31, rfl⟩
abbrev main_v15 : Ref sig .tc := ⟨.hbm, 32, rfl⟩
abbrev main_v16 : Ref sig .tc := ⟨.hbm, 33, rfl⟩
abbrev main_c_8 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_9 : Ref sig .tc := ⟨.hbm, 38, rfl⟩
abbrev main_v20 : Ref sig .tc := ⟨.hbm, 39, rfl⟩
abbrev main_v21 : Ref sig .tc := ⟨.hbm, 40, rfl⟩
abbrev main_c_10 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_11 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_12 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_13 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![8, 32], ![false, false]⟩

def k0_cond1 (i : grid0.Coords) : BitVec 1 :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_16 : BitVec 32 := 1#32
  let v31 : BitVec 1 := Scalar.cmpi .sge v18 c1_i32_16
  let v32 : BitVec 32 := Scalar.extui v31
  let c0_i32_17 : BitVec 32 := 0#32
  let v33 : BitVec 1 := Scalar.cmpi .ne v32 c0_i32_17
  v33

def k0_mult1 : BitVec 32 :=
  let c0_i32_84 : BitVec 32 := 0#32
  c0_i32_84
def k0_mult2 : BitVec 32 :=
  let c512_i32 : BitVec 32 := 512#32
  c512_i32
@[reducible] def k0_t1_loop (i : grid0.Coords) : Scf.Loop 32 :=
  let c0_i32_30 : BitVec 32 := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v56 : BitVec 32 := Scalar.subi v55 c0_i32_30
  let c1_i32_31 : BitVec 32 := 1#32
  let v58 : BitVec 32 := Scalar.divsi v56 c1_i32_31
  let v59 : BitVec 32 := Scalar.muli v58 c1_i32_31
  let v60 : BitVec 32 := Scalar.addi c0_i32_30 v59
  let c1_i32_32 : BitVec 32 := 1#32
  ⟨c0_i32_30, v60, c1_i32_32⟩
def k0_mult3 (i : grid0.Coords) (k0_t1 : Fin (k0_t1_loop i).trips) : BitVec 32 :=
  let c2_i32_86 : BitVec 32 := 2#32
  let c1_i32_85 : BitVec 32 := 1#32
  let c2_i32_84 : BitVec 32 := 2#32
  let c0_i32_30 : BitVec 32 := 0#32
  let c1_i32_32 : BitVec 32 := 1#32
  let arg20 : BitVec 32 := Scf.iv c0_i32_30 c1_i32_32 k0_t1
  let v144 : BitVec 32 := Scalar.muli c2_i32_84 arg20
  let v145 : BitVec 32 := Scalar.addi c1_i32_85 v144
  let v146 : BitVec 32 := Scalar.muli c2_i32_86 v145
  let c2_i32_87 : BitVec 32 := 2#32
  let v147 : BitVec 32 := Scalar.subi v146 c2_i32_87
  let c0_i32_88 : BitVec 32 := 0#32
  let v148 : BitVec 32 := Scalar.maxsi v147 c0_i32_88
  let c512_i32 : BitVec 32 := 512#32
  let v149 : BitVec 32 := Scalar.muli v148 c512_i32
  v149
def k0_off1 (i : grid0.Coords) (k0_t1 : Fin (k0_t1_loop i).trips) (c1_i32_85 : BitVec 32) (c2_i32_87 : BitVec 32) : Fin 2 → Nat :=
  let c2_i32_86 : BitVec 32 := 2#32
  let c2_i32_84 : BitVec 32 := 2#32
  let c0_i32_30 : BitVec 32 := 0#32
  let c1_i32_32 : BitVec 32 := 1#32
  let arg20 : BitVec 32 := Scf.iv c0_i32_30 c1_i32_32 k0_t1
  let v144 : BitVec 32 := Scalar.muli c2_i32_84 arg20
  let v145 : BitVec 32 := Scalar.addi c1_i32_85 v144
  let v146 : BitVec 32 := Scalar.muli c2_i32_86 v145
  let v147 : BitVec 32 := Scalar.subi v146 c2_i32_87
  let c0_i32_88 : BitVec 32 := 0#32
  let v148 : BitVec 32 := Scalar.maxsi v147 c0_i32_88
  let c512_i32 : BitVec 32 := 512#32
  let v149 : BitVec 32 := Scalar.muli v148 c512_i32
  let v150 : BitVec 32 := v149
  let v151 : Index := Scalar.indexCast v150
  let c0_89 : Index := 0#32
  ![v151.toNat, 0]
def k0_mult4 (i : grid0.Coords) (k0_t1 : Fin (k0_t1_loop i).trips) : BitVec 32 :=
  let c2_i32_86 : BitVec 32 := 2#32
  let c1_i32_85 : BitVec 32 := 1#32
  let c2_i32_84 : BitVec 32 := 2#32
  let c0_i32_30 : BitVec 32 := 0#32
  let c1_i32_32 : BitVec 32 := 1#32
  let arg20 : BitVec 32 := Scf.iv c0_i32_30 c1_i32_32 k0_t1
  let v144 : BitVec 32 := Scalar.muli c2_i32_84 arg20
  let v145 : BitVec 32 := Scalar.addi c1_i32_85 v144
  let v146 : BitVec 32 := Scalar.muli c2_i32_86 v145
  let c512_i32_178 : BitVec 32 := 512#32
  let v257 : BitVec 32 := Scalar.muli v146 c512_i32_178
  v257
def k0_off2 (i : grid0.Coords) (k0_t1 : Fin (k0_t1_loop i).trips) (c1_i32_85 : BitVec 32) : Fin 2 → Nat :=
  let c2_i32_86 : BitVec 32 := 2#32
  let c2_i32_84 : BitVec 32 := 2#32
  let c0_i32_30 : BitVec 32 := 0#32
  let c1_i32_32 : BitVec 32 := 1#32
  let arg20 : BitVec 32 := Scf.iv c0_i32_30 c1_i32_32 k0_t1
  let v144 : BitVec 32 := Scalar.muli c2_i32_84 arg20
  let v145 : BitVec 32 := Scalar.addi c1_i32_85 v144
  let v146 : BitVec 32 := Scalar.muli c2_i32_86 v145
  let c512_i32_178 : BitVec 32 := 512#32
  let v257 : BitVec 32 := Scalar.muli v146 c512_i32_178
  let v258 : BitVec 32 := v257
  let v260 : Index := Scalar.indexCast v258
  let c0_181 : Index := 0#32
  ![v260.toNat, 0]
def k0_off3 (i : grid0.Coords) (k0_t1 : Fin (k0_t1_loop i).trips) (c1_i32_85 : BitVec 32) : Fin 2 → Nat :=
  let c2_i32_86 : BitVec 32 := 2#32
  let c2_i32_84 : BitVec 32 := 2#32
  let c0_i32_30 : BitVec 32 := 0#32
  let c1_i32_32 : BitVec 32 := 1#32
  let arg20 : BitVec 32 := Scf.iv c0_i32_30 c1_i32_32 k0_t1
  let v144 : BitVec 32 := Scalar.muli c2_i32_84 arg20
  let v145 : BitVec 32 := Scalar.addi c1_i32_85 v144
  let v146 : BitVec 32 := Scalar.muli c2_i32_86 v145
  let c512_i32_178 : BitVec 32 := 512#32
  let v257 : BitVec 32 := Scalar.muli v146 c512_i32_178
  let v258 : BitVec 32 := v257
  let v277 : Index := Scalar.indexCast v258
  let c128_192 : Index := 128#32
  ![v277.toNat, 128]
def k0_mult5 (i : grid0.Coords) (k0_t1 : Fin (k0_t1_loop i).trips) : BitVec 32 :=
  let c2_i32_86 : BitVec 32 := 2#32
  let c1_i32_85 : BitVec 32 := 1#32
  let c2_i32_84 : BitVec 32 := 2#32
  let c0_i32_30 : BitVec 32 := 0#32
  let c1_i32_32 : BitVec 32 := 1#32
  let arg20 : BitVec 32 := Scf.iv c0_i32_30 c1_i32_32 k0_t1
  let v144 : BitVec 32 := Scalar.muli c2_i32_84 arg20
  let v145 : BitVec 32 := Scalar.addi c1_i32_85 v144
  let v146 : BitVec 32 := Scalar.muli c2_i32_86 v145
  let c1_i32_202 : BitVec 32 := 1#32
  let v293 : BitVec 32 := Scalar.subi v146 c1_i32_202
  let c0_i32_203 : BitVec 32 := 0#32
  let v294 : BitVec 32 := Scalar.maxsi v293 c0_i32_203
  let c512_i32_204 : BitVec 32 := 512#32
  let v295 : BitVec 32 := Scalar.muli v294 c512_i32_204
  v295
def k0_mult6 (i : grid0.Coords) (k0_t1 : Fin (k0_t1_loop i).trips) : BitVec 32 :=
  let c2_i32_86 : BitVec 32 := 2#32
  let c1_i32_85 : BitVec 32 := 1#32
  let c2_i32_84 : BitVec 32 := 2#32
  let c0_i32_30 : BitVec 32 := 0#32
  let c1_i32_32 : BitVec 32 := 1#32
  let arg20 : BitVec 32 := Scf.iv c0_i32_30 c1_i32_32 k0_t1
  let v144 : BitVec 32 := Scalar.muli c2_i32_84 arg20
  let v145 : BitVec 32 := Scalar.addi c1_i32_85 v144
  let v146 : BitVec 32 := Scalar.muli c2_i32_86 v145
  let c1_i32_294 : BitVec 32 := 1#32
  let v403 : BitVec 32 := Scalar.addi v146 c1_i32_294
  let c512_i32_295 : BitVec 32 := 512#32
  let v404 : BitVec 32 := Scalar.muli v403 c512_i32_295
  v404
def k0_off4 (i : grid0.Coords) (k0_t1 : Fin (k0_t1_loop i).trips) (c1_i32_85 : BitVec 32) : Fin 2 → Nat :=
  let c2_i32_86 : BitVec 32 := 2#32
  let c2_i32_84 : BitVec 32 := 2#32
  let c0_i32_30 : BitVec 32 := 0#32
  let c1_i32_32 : BitVec 32 := 1#32
  let arg20 : BitVec 32 := Scf.iv c0_i32_30 c1_i32_32 k0_t1
  let v144 : BitVec 32 := Scalar.muli c2_i32_84 arg20
  let v145 : BitVec 32 := Scalar.addi c1_i32_85 v144
  let v146 : BitVec 32 := Scalar.muli c2_i32_86 v145
  let c1_i32_294 : BitVec 32 := 1#32
  let v403 : BitVec 32 := Scalar.addi v146 c1_i32_294
  let c512_i32_295 : BitVec 32 := 512#32
  let v404 : BitVec 32 := Scalar.muli v403 c512_i32_295
  let v405 : BitVec 32 := v404
  let v407 : Index := Scalar.indexCast v405
  let c0_298 : Index := 0#32
  ![v407.toNat, 0]
def k0_off5 (i : grid0.Coords) (k0_t1 : Fin (k0_t1_loop i).trips) (c1_i32_85 : BitVec 32) : Fin 2 → Nat :=
  let c2_i32_86 : BitVec 32 := 2#32
  let c2_i32_84 : BitVec 32 := 2#32
  let c0_i32_30 : BitVec 32 := 0#32
  let c1_i32_32 : BitVec 32 := 1#32
  let arg20 : BitVec 32 := Scf.iv c0_i32_30 c1_i32_32 k0_t1
  let v144 : BitVec 32 := Scalar.muli c2_i32_84 arg20
  let v145 : BitVec 32 := Scalar.addi c1_i32_85 v144
  let v146 : BitVec 32 := Scalar.muli c2_i32_86 v145
  let c1_i32_294 : BitVec 32 := 1#32
  let v403 : BitVec 32 := Scalar.addi v146 c1_i32_294
  let c512_i32_295 : BitVec 32 := 512#32
  let v404 : BitVec 32 := Scalar.muli v403 c512_i32_295
  let v405 : BitVec 32 := v404
  let v424 : Index := Scalar.indexCast v405
  let c128_310 : Index := 128#32
  ![v424.toNat, 128]
def k0_mult7 (i : grid0.Coords) (k0_t1 : Fin (k0_t1_loop i).trips) : BitVec 32 :=
  let c2_i32_322 : BitVec 32 := 2#32
  let c2_i32_321 : BitVec 32 := 2#32
  let c2_i32_320 : BitVec 32 := 2#32
  let c0_i32_30 : BitVec 32 := 0#32
  let c1_i32_32 : BitVec 32 := 1#32
  let arg20 : BitVec 32 := Scf.iv c0_i32_30 c1_i32_32 k0_t1
  let v440 : BitVec 32 := Scalar.muli c2_i32_320 arg20
  let v441 : BitVec 32 := Scalar.addi c2_i32_321 v440
  let v442 : BitVec 32 := Scalar.muli c2_i32_322 v441
  let c2_i32_323 : BitVec 32 := 2#32
  let v443 : BitVec 32 := Scalar.subi v442 c2_i32_323
  let c0_i32_324 : BitVec 32 := 0#32
  let v444 : BitVec 32 := Scalar.maxsi v443 c0_i32_324
  let c512_i32_325 : BitVec 32 := 512#32
  let v445 : BitVec 32 := Scalar.muli v444 c512_i32_325
  v445
def k0_mult8 (i : grid0.Coords) (k0_t1 : Fin (k0_t1_loop i).trips) : BitVec 32 :=
  let c2_i32_322 : BitVec 32 := 2#32
  let c2_i32_321 : BitVec 32 := 2#32
  let c2_i32_320 : BitVec 32 := 2#32
  let c0_i32_30 : BitVec 32 := 0#32
  let c1_i32_32 : BitVec 32 := 1#32
  let arg20 : BitVec 32 := Scf.iv c0_i32_30 c1_i32_32 k0_t1
  let v440 : BitVec 32 := Scalar.muli c2_i32_320 arg20
  let v441 : BitVec 32 := Scalar.addi c2_i32_321 v440
  let v442 : BitVec 32 := Scalar.muli c2_i32_322 v441
  let c512_i32_415 : BitVec 32 := 512#32
  let v553 : BitVec 32 := Scalar.muli v442 c512_i32_415
  v553
def k0_mult9 (i : grid0.Coords) (k0_t1 : Fin (k0_t1_loop i).trips) : BitVec 32 :=
  let c2_i32_322 : BitVec 32 := 2#32
  let c2_i32_321 : BitVec 32 := 2#32
  let c2_i32_320 : BitVec 32 := 2#32
  let c0_i32_30 : BitVec 32 := 0#32
  let c1_i32_32 : BitVec 32 := 1#32
  let arg20 : BitVec 32 := Scf.iv c0_i32_30 c1_i32_32 k0_t1
  let v440 : BitVec 32 := Scalar.muli c2_i32_320 arg20
  let v441 : BitVec 32 := Scalar.addi c2_i32_321 v440
  let v442 : BitVec 32 := Scalar.muli c2_i32_322 v441
  let c1_i32_440 : BitVec 32 := 1#32
  let v589 : BitVec 32 := Scalar.subi v442 c1_i32_440
  let c0_i32_441 : BitVec 32 := 0#32
  let v590 : BitVec 32 := Scalar.maxsi v589 c0_i32_441
  let c512_i32_442 : BitVec 32 := 512#32
  let v591 : BitVec 32 := Scalar.muli v590 c512_i32_442
  v591
def k0_mult10 (i : grid0.Coords) (k0_t1 : Fin (k0_t1_loop i).trips) : BitVec 32 :=
  let c2_i32_322 : BitVec 32 := 2#32
  let c2_i32_321 : BitVec 32 := 2#32
  let c2_i32_320 : BitVec 32 := 2#32
  let c0_i32_30 : BitVec 32 := 0#32
  let c1_i32_32 : BitVec 32 := 1#32
  let arg20 : BitVec 32 := Scf.iv c0_i32_30 c1_i32_32 k0_t1
  let v440 : BitVec 32 := Scalar.muli c2_i32_320 arg20
  let v441 : BitVec 32 := Scalar.addi c2_i32_321 v440
  let v442 : BitVec 32 := Scalar.muli c2_i32_322 v441
  let c1_i32_532 : BitVec 32 := 1#32
  let v699 : BitVec 32 := Scalar.addi v442 c1_i32_532
  let c512_i32_533 : BitVec 32 := 512#32
  let v700 : BitVec 32 := Scalar.muli v699 c512_i32_533
  v700
@[reducible] def k0_t2_loop (i : grid0.Coords) : Scf.Loop 32 :=
  let c0_i32_30 : BitVec 32 := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v56 : BitVec 32 := Scalar.subi v55 c0_i32_30
  let c1_i32_31 : BitVec 32 := 1#32
  let v58 : BitVec 32 := Scalar.divsi v56 c1_i32_31
  let v59 : BitVec 32 := Scalar.muli v58 c1_i32_31
  let v60 : BitVec 32 := Scalar.addi c0_i32_30 v59
  let v57 : BitVec 32 := Scalar.addi c0_i32_30 v56
  let c1_i32_33 : BitVec 32 := 1#32
  ⟨v60, v57, c1_i32_33⟩
def k0_mult11 (i : grid0.Coords) (k0_t2 : Fin (k0_t2_loop i).trips) : BitVec 32 :=
  let c2_i32_86 : BitVec 32 := 2#32
  let c1_i32_85 : BitVec 32 := 1#32
  let c2_i32_84 : BitVec 32 := 2#32
  let c0_i32_30 : BitVec 32 := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v56 : BitVec 32 := Scalar.subi v55 c0_i32_30
  let c1_i32_31 : BitVec 32 := 1#32
  let v58 : BitVec 32 := Scalar.divsi v56 c1_i32_31
  let v59 : BitVec 32 := Scalar.muli v58 c1_i32_31
  let v60 : BitVec 32 := Scalar.addi c0_i32_30 v59
  let c1_i32_33 : BitVec 32 := 1#32
  let arg20 : BitVec 32 := Scf.iv v60 c1_i32_33 k0_t2
  let v144 : BitVec 32 := Scalar.muli c2_i32_84 arg20
  let v145 : BitVec 32 := Scalar.addi c1_i32_85 v144
  let v146 : BitVec 32 := Scalar.muli c2_i32_86 v145
  let c2_i32_87 : BitVec 32 := 2#32
  let v147 : BitVec 32 := Scalar.subi v146 c2_i32_87
  let c0_i32_88 : BitVec 32 := 0#32
  let v148 : BitVec 32 := Scalar.maxsi v147 c0_i32_88
  let c512_i32 : BitVec 32 := 512#32
  let v149 : BitVec 32 := Scalar.muli v148 c512_i32
  v149
def k0_off6 (i : grid0.Coords) (k0_t2 : Fin (k0_t2_loop i).trips) (c1_i32_85 : BitVec 32) (c2_i32_87 : BitVec 32) : Fin 2 → Nat :=
  let c2_i32_86 : BitVec 32 := 2#32
  let c2_i32_84 : BitVec 32 := 2#32
  let c0_i32_30 : BitVec 32 := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v56 : BitVec 32 := Scalar.subi v55 c0_i32_30
  let c1_i32_31 : BitVec 32 := 1#32
  let v58 : BitVec 32 := Scalar.divsi v56 c1_i32_31
  let v59 : BitVec 32 := Scalar.muli v58 c1_i32_31
  let v60 : BitVec 32 := Scalar.addi c0_i32_30 v59
  let c1_i32_33 : BitVec 32 := 1#32
  let arg20 : BitVec 32 := Scf.iv v60 c1_i32_33 k0_t2
  let v144 : BitVec 32 := Scalar.muli c2_i32_84 arg20
  let v145 : BitVec 32 := Scalar.addi c1_i32_85 v144
  let v146 : BitVec 32 := Scalar.muli c2_i32_86 v145
  let v147 : BitVec 32 := Scalar.subi v146 c2_i32_87
  let c0_i32_88 : BitVec 32 := 0#32
  let v148 : BitVec 32 := Scalar.maxsi v147 c0_i32_88
  let c512_i32 : BitVec 32 := 512#32
  let v149 : BitVec 32 := Scalar.muli v148 c512_i32
  let v150 : BitVec 32 := v149
  let v151 : Index := Scalar.indexCast v150
  let c0_89 : Index := 0#32
  ![v151.toNat, 0]
def k0_mult12 (i : grid0.Coords) (k0_t2 : Fin (k0_t2_loop i).trips) : BitVec 32 :=
  let c2_i32_86 : BitVec 32 := 2#32
  let c1_i32_85 : BitVec 32 := 1#32
  let c2_i32_84 : BitVec 32 := 2#32
  let c0_i32_30 : BitVec 32 := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v56 : BitVec 32 := Scalar.subi v55 c0_i32_30
  let c1_i32_31 : BitVec 32 := 1#32
  let v58 : BitVec 32 := Scalar.divsi v56 c1_i32_31
  let v59 : BitVec 32 := Scalar.muli v58 c1_i32_31
  let v60 : BitVec 32 := Scalar.addi c0_i32_30 v59
  let c1_i32_33 : BitVec 32 := 1#32
  let arg20 : BitVec 32 := Scf.iv v60 c1_i32_33 k0_t2
  let v144 : BitVec 32 := Scalar.muli c2_i32_84 arg20
  let v145 : BitVec 32 := Scalar.addi c1_i32_85 v144
  let v146 : BitVec 32 := Scalar.muli c2_i32_86 v145
  let c512_i32_178 : BitVec 32 := 512#32
  let v257 : BitVec 32 := Scalar.muli v146 c512_i32_178
  v257
def k0_off7 (i : grid0.Coords) (k0_t2 : Fin (k0_t2_loop i).trips) (c1_i32_85 : BitVec 32) : Fin 2 → Nat :=
  let c2_i32_86 : BitVec 32 := 2#32
  let c2_i32_84 : BitVec 32 := 2#32
  let c0_i32_30 : BitVec 32 := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v56 : BitVec 32 := Scalar.subi v55 c0_i32_30
  let c1_i32_31 : BitVec 32 := 1#32
  let v58 : BitVec 32 := Scalar.divsi v56 c1_i32_31
  let v59 : BitVec 32 := Scalar.muli v58 c1_i32_31
  let v60 : BitVec 32 := Scalar.addi c0_i32_30 v59
  let c1_i32_33 : BitVec 32 := 1#32
  let arg20 : BitVec 32 := Scf.iv v60 c1_i32_33 k0_t2
  let v144 : BitVec 32 := Scalar.muli c2_i32_84 arg20
  let v145 : BitVec 32 := Scalar.addi c1_i32_85 v144
  let v146 : BitVec 32 := Scalar.muli c2_i32_86 v145
  let c512_i32_178 : BitVec 32 := 512#32
  let v257 : BitVec 32 := Scalar.muli v146 c512_i32_178
  let v258 : BitVec 32 := v257
  let v260 : Index := Scalar.indexCast v258
  let c0_181 : Index := 0#32
  ![v260.toNat, 0]
def k0_off8 (i : grid0.Coords) (k0_t2 : Fin (k0_t2_loop i).trips) (c1_i32_85 : BitVec 32) : Fin 2 → Nat :=
  let c2_i32_86 : BitVec 32 := 2#32
  let c2_i32_84 : BitVec 32 := 2#32
  let c0_i32_30 : BitVec 32 := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v56 : BitVec 32 := Scalar.subi v55 c0_i32_30
  let c1_i32_31 : BitVec 32 := 1#32
  let v58 : BitVec 32 := Scalar.divsi v56 c1_i32_31
  let v59 : BitVec 32 := Scalar.muli v58 c1_i32_31
  let v60 : BitVec 32 := Scalar.addi c0_i32_30 v59
  let c1_i32_33 : BitVec 32 := 1#32
  let arg20 : BitVec 32 := Scf.iv v60 c1_i32_33 k0_t2
  let v144 : BitVec 32 := Scalar.muli c2_i32_84 arg20
  let v145 : BitVec 32 := Scalar.addi c1_i32_85 v144
  let v146 : BitVec 32 := Scalar.muli c2_i32_86 v145
  let c512_i32_178 : BitVec 32 := 512#32
  let v257 : BitVec 32 := Scalar.muli v146 c512_i32_178
  let v258 : BitVec 32 := v257
  let v277 : Index := Scalar.indexCast v258
  let c128_192 : Index := 128#32
  ![v277.toNat, 128]
def k0_mult13 (i : grid0.Coords) (k0_t2 : Fin (k0_t2_loop i).trips) : BitVec 32 :=
  let c2_i32_86 : BitVec 32 := 2#32
  let c1_i32_85 : BitVec 32 := 1#32
  let c2_i32_84 : BitVec 32 := 2#32
  let c0_i32_30 : BitVec 32 := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v56 : BitVec 32 := Scalar.subi v55 c0_i32_30
  let c1_i32_31 : BitVec 32 := 1#32
  let v58 : BitVec 32 := Scalar.divsi v56 c1_i32_31
  let v59 : BitVec 32 := Scalar.muli v58 c1_i32_31
  let v60 : BitVec 32 := Scalar.addi c0_i32_30 v59
  let c1_i32_33 : BitVec 32 := 1#32
  let arg20 : BitVec 32 := Scf.iv v60 c1_i32_33 k0_t2
  let v144 : BitVec 32 := Scalar.muli c2_i32_84 arg20
  let v145 : BitVec 32 := Scalar.addi c1_i32_85 v144
  let v146 : BitVec 32 := Scalar.muli c2_i32_86 v145
  let c1_i32_202 : BitVec 32 := 1#32
  let v293 : BitVec 32 := Scalar.subi v146 c1_i32_202
  let c0_i32_203 : BitVec 32 := 0#32
  let v294 : BitVec 32 := Scalar.maxsi v293 c0_i32_203
  let c512_i32_204 : BitVec 32 := 512#32
  let v295 : BitVec 32 := Scalar.muli v294 c512_i32_204
  v295
def k0_mult14 (i : grid0.Coords) (k0_t2 : Fin (k0_t2_loop i).trips) : BitVec 32 :=
  let c2_i32_86 : BitVec 32 := 2#32
  let c1_i32_85 : BitVec 32 := 1#32
  let c2_i32_84 : BitVec 32 := 2#32
  let c0_i32_30 : BitVec 32 := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v56 : BitVec 32 := Scalar.subi v55 c0_i32_30
  let c1_i32_31 : BitVec 32 := 1#32
  let v58 : BitVec 32 := Scalar.divsi v56 c1_i32_31
  let v59 : BitVec 32 := Scalar.muli v58 c1_i32_31
  let v60 : BitVec 32 := Scalar.addi c0_i32_30 v59
  let c1_i32_33 : BitVec 32 := 1#32
  let arg20 : BitVec 32 := Scf.iv v60 c1_i32_33 k0_t2
  let v144 : BitVec 32 := Scalar.muli c2_i32_84 arg20
  let v145 : BitVec 32 := Scalar.addi c1_i32_85 v144
  let v146 : BitVec 32 := Scalar.muli c2_i32_86 v145
  let c1_i32_294 : BitVec 32 := 1#32
  let v403 : BitVec 32 := Scalar.addi v146 c1_i32_294
  let c512_i32_295 : BitVec 32 := 512#32
  let v404 : BitVec 32 := Scalar.muli v403 c512_i32_295
  v404
def k0_off9 (i : grid0.Coords) (k0_t2 : Fin (k0_t2_loop i).trips) (c1_i32_85 : BitVec 32) : Fin 2 → Nat :=
  let c2_i32_86 : BitVec 32 := 2#32
  let c2_i32_84 : BitVec 32 := 2#32
  let c0_i32_30 : BitVec 32 := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v56 : BitVec 32 := Scalar.subi v55 c0_i32_30
  let c1_i32_31 : BitVec 32 := 1#32
  let v58 : BitVec 32 := Scalar.divsi v56 c1_i32_31
  let v59 : BitVec 32 := Scalar.muli v58 c1_i32_31
  let v60 : BitVec 32 := Scalar.addi c0_i32_30 v59
  let c1_i32_33 : BitVec 32 := 1#32
  let arg20 : BitVec 32 := Scf.iv v60 c1_i32_33 k0_t2
  let v144 : BitVec 32 := Scalar.muli c2_i32_84 arg20
  let v145 : BitVec 32 := Scalar.addi c1_i32_85 v144
  let v146 : BitVec 32 := Scalar.muli c2_i32_86 v145
  let c1_i32_294 : BitVec 32 := 1#32
  let v403 : BitVec 32 := Scalar.addi v146 c1_i32_294
  let c512_i32_295 : BitVec 32 := 512#32
  let v404 : BitVec 32 := Scalar.muli v403 c512_i32_295
  let v405 : BitVec 32 := v404
  let v407 : Index := Scalar.indexCast v405
  let c0_298 : Index := 0#32
  ![v407.toNat, 0]
def k0_off10 (i : grid0.Coords) (k0_t2 : Fin (k0_t2_loop i).trips) (c1_i32_85 : BitVec 32) : Fin 2 → Nat :=
  let c2_i32_86 : BitVec 32 := 2#32
  let c2_i32_84 : BitVec 32 := 2#32
  let c0_i32_30 : BitVec 32 := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v56 : BitVec 32 := Scalar.subi v55 c0_i32_30
  let c1_i32_31 : BitVec 32 := 1#32
  let v58 : BitVec 32 := Scalar.divsi v56 c1_i32_31
  let v59 : BitVec 32 := Scalar.muli v58 c1_i32_31
  let v60 : BitVec 32 := Scalar.addi c0_i32_30 v59
  let c1_i32_33 : BitVec 32 := 1#32
  let arg20 : BitVec 32 := Scf.iv v60 c1_i32_33 k0_t2
  let v144 : BitVec 32 := Scalar.muli c2_i32_84 arg20
  let v145 : BitVec 32 := Scalar.addi c1_i32_85 v144
  let v146 : BitVec 32 := Scalar.muli c2_i32_86 v145
  let c1_i32_294 : BitVec 32 := 1#32
  let v403 : BitVec 32 := Scalar.addi v146 c1_i32_294
  let c512_i32_295 : BitVec 32 := 512#32
  let v404 : BitVec 32 := Scalar.muli v403 c512_i32_295
  let v405 : BitVec 32 := v404
  let v424 : Index := Scalar.indexCast v405
  let c128_310 : Index := 128#32
  ![v424.toNat, 128]
def k0_mult15 (i : grid0.Coords) (k0_t2 : Fin (k0_t2_loop i).trips) : BitVec 32 :=
  let c2_i32_322 : BitVec 32 := 2#32
  let c2_i32_321 : BitVec 32 := 2#32
  let c2_i32_320 : BitVec 32 := 2#32
  let c0_i32_30 : BitVec 32 := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v56 : BitVec 32 := Scalar.subi v55 c0_i32_30
  let c1_i32_31 : BitVec 32 := 1#32
  let v58 : BitVec 32 := Scalar.divsi v56 c1_i32_31
  let v59 : BitVec 32 := Scalar.muli v58 c1_i32_31
  let v60 : BitVec 32 := Scalar.addi c0_i32_30 v59
  let c1_i32_33 : BitVec 32 := 1#32
  let arg20 : BitVec 32 := Scf.iv v60 c1_i32_33 k0_t2
  let v440 : BitVec 32 := Scalar.muli c2_i32_320 arg20
  let v441 : BitVec 32 := Scalar.addi c2_i32_321 v440
  let v442 : BitVec 32 := Scalar.muli c2_i32_322 v441
  let c2_i32_323 : BitVec 32 := 2#32
  let v443 : BitVec 32 := Scalar.subi v442 c2_i32_323
  let c0_i32_324 : BitVec 32 := 0#32
  let v444 : BitVec 32 := Scalar.maxsi v443 c0_i32_324
  let c512_i32_325 : BitVec 32 := 512#32
  let v445 : BitVec 32 := Scalar.muli v444 c512_i32_325
  v445
def k0_mult16 (i : grid0.Coords) (k0_t2 : Fin (k0_t2_loop i).trips) : BitVec 32 :=
  let c2_i32_322 : BitVec 32 := 2#32
  let c2_i32_321 : BitVec 32 := 2#32
  let c2_i32_320 : BitVec 32 := 2#32
  let c0_i32_30 : BitVec 32 := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v56 : BitVec 32 := Scalar.subi v55 c0_i32_30
  let c1_i32_31 : BitVec 32 := 1#32
  let v58 : BitVec 32 := Scalar.divsi v56 c1_i32_31
  let v59 : BitVec 32 := Scalar.muli v58 c1_i32_31
  let v60 : BitVec 32 := Scalar.addi c0_i32_30 v59
  let c1_i32_33 : BitVec 32 := 1#32
  let arg20 : BitVec 32 := Scf.iv v60 c1_i32_33 k0_t2
  let v440 : BitVec 32 := Scalar.muli c2_i32_320 arg20
  let v441 : BitVec 32 := Scalar.addi c2_i32_321 v440
  let v442 : BitVec 32 := Scalar.muli c2_i32_322 v441
  let c512_i32_415 : BitVec 32 := 512#32
  let v553 : BitVec 32 := Scalar.muli v442 c512_i32_415
  v553
def k0_mult17 (i : grid0.Coords) (k0_t2 : Fin (k0_t2_loop i).trips) : BitVec 32 :=
  let c2_i32_322 : BitVec 32 := 2#32
  let c2_i32_321 : BitVec 32 := 2#32
  let c2_i32_320 : BitVec 32 := 2#32
  let c0_i32_30 : BitVec 32 := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v56 : BitVec 32 := Scalar.subi v55 c0_i32_30
  let c1_i32_31 : BitVec 32 := 1#32
  let v58 : BitVec 32 := Scalar.divsi v56 c1_i32_31
  let v59 : BitVec 32 := Scalar.muli v58 c1_i32_31
  let v60 : BitVec 32 := Scalar.addi c0_i32_30 v59
  let c1_i32_33 : BitVec 32 := 1#32
  let arg20 : BitVec 32 := Scf.iv v60 c1_i32_33 k0_t2
  let v440 : BitVec 32 := Scalar.muli c2_i32_320 arg20
  let v441 : BitVec 32 := Scalar.addi c2_i32_321 v440
  let v442 : BitVec 32 := Scalar.muli c2_i32_322 v441
  let c1_i32_440 : BitVec 32 := 1#32
  let v589 : BitVec 32 := Scalar.subi v442 c1_i32_440
  let c0_i32_441 : BitVec 32 := 0#32
  let v590 : BitVec 32 := Scalar.maxsi v589 c0_i32_441
  let c512_i32_442 : BitVec 32 := 512#32
  let v591 : BitVec 32 := Scalar.muli v590 c512_i32_442
  v591
def k0_mult18 (i : grid0.Coords) (k0_t2 : Fin (k0_t2_loop i).trips) : BitVec 32 :=
  let c2_i32_322 : BitVec 32 := 2#32
  let c2_i32_321 : BitVec 32 := 2#32
  let c2_i32_320 : BitVec 32 := 2#32
  let c0_i32_30 : BitVec 32 := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v56 : BitVec 32 := Scalar.subi v55 c0_i32_30
  let c1_i32_31 : BitVec 32 := 1#32
  let v58 : BitVec 32 := Scalar.divsi v56 c1_i32_31
  let v59 : BitVec 32 := Scalar.muli v58 c1_i32_31
  let v60 : BitVec 32 := Scalar.addi c0_i32_30 v59
  let c1_i32_33 : BitVec 32 := 1#32
  let arg20 : BitVec 32 := Scf.iv v60 c1_i32_33 k0_t2
  let v440 : BitVec 32 := Scalar.muli c2_i32_320 arg20
  let v441 : BitVec 32 := Scalar.addi c2_i32_321 v440
  let v442 : BitVec 32 := Scalar.muli c2_i32_322 v441
  let c1_i32_532 : BitVec 32 := 1#32
  let v699 : BitVec 32 := Scalar.addi v442 c1_i32_532
  let c512_i32_533 : BitVec 32 := 512#32
  let v700 : BitVec 32 := Scalar.muli v699 c512_i32_533
  v700
@[reducible] def k0_t3_loop (i : grid0.Coords) : Scf.Loop 32 :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_34 : BitVec 32 := 1#32
  let v61 : BitVec 32 := Scalar.minsi v18 c1_i32_34
  let c2_i32_35 : BitVec 32 := 2#32
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v62 : BitVec 32 := Scalar.muli c2_i32_35 v55
  let v63 : BitVec 32 := Scalar.addi v61 v62
  let v64 : BitVec 32 := Scalar.subi v18 v63
  let c1_i32_37 : BitVec 32 := 1#32
  let v66 : BitVec 32 := Scalar.divsi v64 c1_i32_37
  let v67 : BitVec 32 := Scalar.muli v66 c1_i32_37
  let v68 : BitVec 32 := Scalar.addi v63 v67
  let c1_i32_38 : BitVec 32 := 1#32
  ⟨v63, v68, c1_i32_38⟩
def k0_mult19 (i : grid0.Coords) (k0_t3 : Fin (k0_t3_loop i).trips) : BitVec 32 :=
  let c2_i32_84 : BitVec 32 := 2#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_34 : BitVec 32 := 1#32
  let v61 : BitVec 32 := Scalar.minsi v18 c1_i32_34
  let c2_i32_35 : BitVec 32 := 2#32
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v62 : BitVec 32 := Scalar.muli c2_i32_35 v55
  let v63 : BitVec 32 := Scalar.addi v61 v62
  let c1_i32_38 : BitVec 32 := 1#32
  let arg20 : BitVec 32 := Scf.iv v63 c1_i32_38 k0_t3
  let v144 : BitVec 32 := Scalar.muli c2_i32_84 arg20
  let c2_i32_85 : BitVec 32 := 2#32
  let v145 : BitVec 32 := Scalar.subi v144 c2_i32_85
  let c0_i32_86 : BitVec 32 := 0#32
  let v146 : BitVec 32 := Scalar.maxsi v145 c0_i32_86
  let c512_i32 : BitVec 32 := 512#32
  let v147 : BitVec 32 := Scalar.muli v146 c512_i32
  v147
def k0_off11 (i : grid0.Coords) (k0_t3 : Fin (k0_t3_loop i).trips) (c2_i32_85 : BitVec 32) : Fin 2 → Nat :=
  let c2_i32_84 : BitVec 32 := 2#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_34 : BitVec 32 := 1#32
  let v61 : BitVec 32 := Scalar.minsi v18 c1_i32_34
  let c2_i32_35 : BitVec 32 := 2#32
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v62 : BitVec 32 := Scalar.muli c2_i32_35 v55
  let v63 : BitVec 32 := Scalar.addi v61 v62
  let c1_i32_38 : BitVec 32 := 1#32
  let arg20 : BitVec 32 := Scf.iv v63 c1_i32_38 k0_t3
  let v144 : BitVec 32 := Scalar.muli c2_i32_84 arg20
  let v145 : BitVec 32 := Scalar.subi v144 c2_i32_85
  let c0_i32_86 : BitVec 32 := 0#32
  let v146 : BitVec 32 := Scalar.maxsi v145 c0_i32_86
  let c512_i32 : BitVec 32 := 512#32
  let v147 : BitVec 32 := Scalar.muli v146 c512_i32
  let v148 : BitVec 32 := v147
  let v149 : Index := Scalar.indexCast v148
  let c0_87 : Index := 0#32
  ![v149.toNat, 0]
def k0_mult20 (i : grid0.Coords) (k0_t3 : Fin (k0_t3_loop i).trips) : BitVec 32 :=
  let c2_i32_84 : BitVec 32 := 2#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_34 : BitVec 32 := 1#32
  let v61 : BitVec 32 := Scalar.minsi v18 c1_i32_34
  let c2_i32_35 : BitVec 32 := 2#32
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v62 : BitVec 32 := Scalar.muli c2_i32_35 v55
  let v63 : BitVec 32 := Scalar.addi v61 v62
  let c1_i32_38 : BitVec 32 := 1#32
  let arg20 : BitVec 32 := Scf.iv v63 c1_i32_38 k0_t3
  let v144 : BitVec 32 := Scalar.muli c2_i32_84 arg20
  let c512_i32_176 : BitVec 32 := 512#32
  let v255 : BitVec 32 := Scalar.muli v144 c512_i32_176
  v255
def k0_off12 (i : grid0.Coords) (k0_t3 : Fin (k0_t3_loop i).trips) : Fin 2 → Nat :=
  let c2_i32_84 : BitVec 32 := 2#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_34 : BitVec 32 := 1#32
  let v61 : BitVec 32 := Scalar.minsi v18 c1_i32_34
  let c2_i32_35 : BitVec 32 := 2#32
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v62 : BitVec 32 := Scalar.muli c2_i32_35 v55
  let v63 : BitVec 32 := Scalar.addi v61 v62
  let c1_i32_38 : BitVec 32 := 1#32
  let arg20 : BitVec 32 := Scf.iv v63 c1_i32_38 k0_t3
  let v144 : BitVec 32 := Scalar.muli c2_i32_84 arg20
  let c512_i32_176 : BitVec 32 := 512#32
  let v255 : BitVec 32 := Scalar.muli v144 c512_i32_176
  let v256 : BitVec 32 := v255
  let v258 : Index := Scalar.indexCast v256
  let c0_179 : Index := 0#32
  ![v258.toNat, 0]
def k0_off13 (i : grid0.Coords) (k0_t3 : Fin (k0_t3_loop i).trips) : Fin 2 → Nat :=
  let c2_i32_84 : BitVec 32 := 2#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_34 : BitVec 32 := 1#32
  let v61 : BitVec 32 := Scalar.minsi v18 c1_i32_34
  let c2_i32_35 : BitVec 32 := 2#32
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v62 : BitVec 32 := Scalar.muli c2_i32_35 v55
  let v63 : BitVec 32 := Scalar.addi v61 v62
  let c1_i32_38 : BitVec 32 := 1#32
  let arg20 : BitVec 32 := Scf.iv v63 c1_i32_38 k0_t3
  let v144 : BitVec 32 := Scalar.muli c2_i32_84 arg20
  let c512_i32_176 : BitVec 32 := 512#32
  let v255 : BitVec 32 := Scalar.muli v144 c512_i32_176
  let v256 : BitVec 32 := v255
  let v275 : Index := Scalar.indexCast v256
  let c128_190 : Index := 128#32
  ![v275.toNat, 128]
def k0_mult21 (i : grid0.Coords) (k0_t3 : Fin (k0_t3_loop i).trips) : BitVec 32 :=
  let c2_i32_84 : BitVec 32 := 2#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_34 : BitVec 32 := 1#32
  let v61 : BitVec 32 := Scalar.minsi v18 c1_i32_34
  let c2_i32_35 : BitVec 32 := 2#32
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v62 : BitVec 32 := Scalar.muli c2_i32_35 v55
  let v63 : BitVec 32 := Scalar.addi v61 v62
  let c1_i32_38 : BitVec 32 := 1#32
  let arg20 : BitVec 32 := Scf.iv v63 c1_i32_38 k0_t3
  let v144 : BitVec 32 := Scalar.muli c2_i32_84 arg20
  let c1_i32_200 : BitVec 32 := 1#32
  let v291 : BitVec 32 := Scalar.subi v144 c1_i32_200
  let c0_i32_201 : BitVec 32 := 0#32
  let v292 : BitVec 32 := Scalar.maxsi v291 c0_i32_201
  let c512_i32_202 : BitVec 32 := 512#32
  let v293 : BitVec 32 := Scalar.muli v292 c512_i32_202
  v293
def k0_mult22 (i : grid0.Coords) (k0_t3 : Fin (k0_t3_loop i).trips) : BitVec 32 :=
  let c2_i32_84 : BitVec 32 := 2#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_34 : BitVec 32 := 1#32
  let v61 : BitVec 32 := Scalar.minsi v18 c1_i32_34
  let c2_i32_35 : BitVec 32 := 2#32
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v62 : BitVec 32 := Scalar.muli c2_i32_35 v55
  let v63 : BitVec 32 := Scalar.addi v61 v62
  let c1_i32_38 : BitVec 32 := 1#32
  let arg20 : BitVec 32 := Scf.iv v63 c1_i32_38 k0_t3
  let v144 : BitVec 32 := Scalar.muli c2_i32_84 arg20
  let c1_i32_292 : BitVec 32 := 1#32
  let v401 : BitVec 32 := Scalar.addi v144 c1_i32_292
  let c512_i32_293 : BitVec 32 := 512#32
  let v402 : BitVec 32 := Scalar.muli v401 c512_i32_293
  v402
def k0_off14 (i : grid0.Coords) (k0_t3 : Fin (k0_t3_loop i).trips) : Fin 2 → Nat :=
  let c2_i32_84 : BitVec 32 := 2#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_34 : BitVec 32 := 1#32
  let v61 : BitVec 32 := Scalar.minsi v18 c1_i32_34
  let c2_i32_35 : BitVec 32 := 2#32
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v62 : BitVec 32 := Scalar.muli c2_i32_35 v55
  let v63 : BitVec 32 := Scalar.addi v61 v62
  let c1_i32_38 : BitVec 32 := 1#32
  let arg20 : BitVec 32 := Scf.iv v63 c1_i32_38 k0_t3
  let v144 : BitVec 32 := Scalar.muli c2_i32_84 arg20
  let c1_i32_292 : BitVec 32 := 1#32
  let v401 : BitVec 32 := Scalar.addi v144 c1_i32_292
  let c512_i32_293 : BitVec 32 := 512#32
  let v402 : BitVec 32 := Scalar.muli v401 c512_i32_293
  let v403 : BitVec 32 := v402
  let v405 : Index := Scalar.indexCast v403
  let c0_296 : Index := 0#32
  ![v405.toNat, 0]
def k0_off15 (i : grid0.Coords) (k0_t3 : Fin (k0_t3_loop i).trips) : Fin 2 → Nat :=
  let c2_i32_84 : BitVec 32 := 2#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_34 : BitVec 32 := 1#32
  let v61 : BitVec 32 := Scalar.minsi v18 c1_i32_34
  let c2_i32_35 : BitVec 32 := 2#32
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v62 : BitVec 32 := Scalar.muli c2_i32_35 v55
  let v63 : BitVec 32 := Scalar.addi v61 v62
  let c1_i32_38 : BitVec 32 := 1#32
  let arg20 : BitVec 32 := Scf.iv v63 c1_i32_38 k0_t3
  let v144 : BitVec 32 := Scalar.muli c2_i32_84 arg20
  let c1_i32_292 : BitVec 32 := 1#32
  let v401 : BitVec 32 := Scalar.addi v144 c1_i32_292
  let c512_i32_293 : BitVec 32 := 512#32
  let v402 : BitVec 32 := Scalar.muli v401 c512_i32_293
  let v403 : BitVec 32 := v402
  let v422 : Index := Scalar.indexCast v403
  let c128_308 : Index := 128#32
  ![v422.toNat, 128]
@[reducible] def k0_t4_loop (i : grid0.Coords) : Scf.Loop 32 :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_34 : BitVec 32 := 1#32
  let v61 : BitVec 32 := Scalar.minsi v18 c1_i32_34
  let c2_i32_35 : BitVec 32 := 2#32
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v62 : BitVec 32 := Scalar.muli c2_i32_35 v55
  let v63 : BitVec 32 := Scalar.addi v61 v62
  let v64 : BitVec 32 := Scalar.subi v18 v63
  let c1_i32_37 : BitVec 32 := 1#32
  let v66 : BitVec 32 := Scalar.divsi v64 c1_i32_37
  let v67 : BitVec 32 := Scalar.muli v66 c1_i32_37
  let v68 : BitVec 32 := Scalar.addi v63 v67
  let v65 : BitVec 32 := Scalar.addi v63 v64
  let c1_i32_39 : BitVec 32 := 1#32
  ⟨v68, v65, c1_i32_39⟩
def k0_mult23 (i : grid0.Coords) (k0_t4 : Fin (k0_t4_loop i).trips) : BitVec 32 :=
  let c2_i32_84 : BitVec 32 := 2#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_34 : BitVec 32 := 1#32
  let v61 : BitVec 32 := Scalar.minsi v18 c1_i32_34
  let c2_i32_35 : BitVec 32 := 2#32
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v62 : BitVec 32 := Scalar.muli c2_i32_35 v55
  let v63 : BitVec 32 := Scalar.addi v61 v62
  let v64 : BitVec 32 := Scalar.subi v18 v63
  let c1_i32_37 : BitVec 32 := 1#32
  let v66 : BitVec 32 := Scalar.divsi v64 c1_i32_37
  let v67 : BitVec 32 := Scalar.muli v66 c1_i32_37
  let v68 : BitVec 32 := Scalar.addi v63 v67
  let c1_i32_39 : BitVec 32 := 1#32
  let arg20 : BitVec 32 := Scf.iv v68 c1_i32_39 k0_t4
  let v144 : BitVec 32 := Scalar.muli c2_i32_84 arg20
  let c2_i32_85 : BitVec 32 := 2#32
  let v145 : BitVec 32 := Scalar.subi v144 c2_i32_85
  let c0_i32_86 : BitVec 32 := 0#32
  let v146 : BitVec 32 := Scalar.maxsi v145 c0_i32_86
  let c512_i32 : BitVec 32 := 512#32
  let v147 : BitVec 32 := Scalar.muli v146 c512_i32
  v147
def k0_off16 (i : grid0.Coords) (k0_t4 : Fin (k0_t4_loop i).trips) (c2_i32_85 : BitVec 32) : Fin 2 → Nat :=
  let c2_i32_84 : BitVec 32 := 2#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_34 : BitVec 32 := 1#32
  let v61 : BitVec 32 := Scalar.minsi v18 c1_i32_34
  let c2_i32_35 : BitVec 32 := 2#32
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v62 : BitVec 32 := Scalar.muli c2_i32_35 v55
  let v63 : BitVec 32 := Scalar.addi v61 v62
  let v64 : BitVec 32 := Scalar.subi v18 v63
  let c1_i32_37 : BitVec 32 := 1#32
  let v66 : BitVec 32 := Scalar.divsi v64 c1_i32_37
  let v67 : BitVec 32 := Scalar.muli v66 c1_i32_37
  let v68 : BitVec 32 := Scalar.addi v63 v67
  let c1_i32_39 : BitVec 32 := 1#32
  let arg20 : BitVec 32 := Scf.iv v68 c1_i32_39 k0_t4
  let v144 : BitVec 32 := Scalar.muli c2_i32_84 arg20
  let v145 : BitVec 32 := Scalar.subi v144 c2_i32_85
  let c0_i32_86 : BitVec 32 := 0#32
  let v146 : BitVec 32 := Scalar.maxsi v145 c0_i32_86
  let c512_i32 : BitVec 32 := 512#32
  let v147 : BitVec 32 := Scalar.muli v146 c512_i32
  let v148 : BitVec 32 := v147
  let v149 : Index := Scalar.indexCast v148
  let c0_87 : Index := 0#32
  ![v149.toNat, 0]
def k0_mult24 (i : grid0.Coords) (k0_t4 : Fin (k0_t4_loop i).trips) : BitVec 32 :=
  let c2_i32_84 : BitVec 32 := 2#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_34 : BitVec 32 := 1#32
  let v61 : BitVec 32 := Scalar.minsi v18 c1_i32_34
  let c2_i32_35 : BitVec 32 := 2#32
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v62 : BitVec 32 := Scalar.muli c2_i32_35 v55
  let v63 : BitVec 32 := Scalar.addi v61 v62
  let v64 : BitVec 32 := Scalar.subi v18 v63
  let c1_i32_37 : BitVec 32 := 1#32
  let v66 : BitVec 32 := Scalar.divsi v64 c1_i32_37
  let v67 : BitVec 32 := Scalar.muli v66 c1_i32_37
  let v68 : BitVec 32 := Scalar.addi v63 v67
  let c1_i32_39 : BitVec 32 := 1#32
  let arg20 : BitVec 32 := Scf.iv v68 c1_i32_39 k0_t4
  let v144 : BitVec 32 := Scalar.muli c2_i32_84 arg20
  let c512_i32_176 : BitVec 32 := 512#32
  let v255 : BitVec 32 := Scalar.muli v144 c512_i32_176
  v255
def k0_off17 (i : grid0.Coords) (k0_t4 : Fin (k0_t4_loop i).trips) : Fin 2 → Nat :=
  let c2_i32_84 : BitVec 32 := 2#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_34 : BitVec 32 := 1#32
  let v61 : BitVec 32 := Scalar.minsi v18 c1_i32_34
  let c2_i32_35 : BitVec 32 := 2#32
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v62 : BitVec 32 := Scalar.muli c2_i32_35 v55
  let v63 : BitVec 32 := Scalar.addi v61 v62
  let v64 : BitVec 32 := Scalar.subi v18 v63
  let c1_i32_37 : BitVec 32 := 1#32
  let v66 : BitVec 32 := Scalar.divsi v64 c1_i32_37
  let v67 : BitVec 32 := Scalar.muli v66 c1_i32_37
  let v68 : BitVec 32 := Scalar.addi v63 v67
  let c1_i32_39 : BitVec 32 := 1#32
  let arg20 : BitVec 32 := Scf.iv v68 c1_i32_39 k0_t4
  let v144 : BitVec 32 := Scalar.muli c2_i32_84 arg20
  let c512_i32_176 : BitVec 32 := 512#32
  let v255 : BitVec 32 := Scalar.muli v144 c512_i32_176
  let v256 : BitVec 32 := v255
  let v258 : Index := Scalar.indexCast v256
  let c0_179 : Index := 0#32
  ![v258.toNat, 0]
def k0_off18 (i : grid0.Coords) (k0_t4 : Fin (k0_t4_loop i).trips) : Fin 2 → Nat :=
  let c2_i32_84 : BitVec 32 := 2#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_34 : BitVec 32 := 1#32
  let v61 : BitVec 32 := Scalar.minsi v18 c1_i32_34
  let c2_i32_35 : BitVec 32 := 2#32
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v62 : BitVec 32 := Scalar.muli c2_i32_35 v55
  let v63 : BitVec 32 := Scalar.addi v61 v62
  let v64 : BitVec 32 := Scalar.subi v18 v63
  let c1_i32_37 : BitVec 32 := 1#32
  let v66 : BitVec 32 := Scalar.divsi v64 c1_i32_37
  let v67 : BitVec 32 := Scalar.muli v66 c1_i32_37
  let v68 : BitVec 32 := Scalar.addi v63 v67
  let c1_i32_39 : BitVec 32 := 1#32
  let arg20 : BitVec 32 := Scf.iv v68 c1_i32_39 k0_t4
  let v144 : BitVec 32 := Scalar.muli c2_i32_84 arg20
  let c512_i32_176 : BitVec 32 := 512#32
  let v255 : BitVec 32 := Scalar.muli v144 c512_i32_176
  let v256 : BitVec 32 := v255
  let v275 : Index := Scalar.indexCast v256
  let c128_190 : Index := 128#32
  ![v275.toNat, 128]
def k0_mult25 (i : grid0.Coords) (k0_t4 : Fin (k0_t4_loop i).trips) : BitVec 32 :=
  let c2_i32_84 : BitVec 32 := 2#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_34 : BitVec 32 := 1#32
  let v61 : BitVec 32 := Scalar.minsi v18 c1_i32_34
  let c2_i32_35 : BitVec 32 := 2#32
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v62 : BitVec 32 := Scalar.muli c2_i32_35 v55
  let v63 : BitVec 32 := Scalar.addi v61 v62
  let v64 : BitVec 32 := Scalar.subi v18 v63
  let c1_i32_37 : BitVec 32 := 1#32
  let v66 : BitVec 32 := Scalar.divsi v64 c1_i32_37
  let v67 : BitVec 32 := Scalar.muli v66 c1_i32_37
  let v68 : BitVec 32 := Scalar.addi v63 v67
  let c1_i32_39 : BitVec 32 := 1#32
  let arg20 : BitVec 32 := Scf.iv v68 c1_i32_39 k0_t4
  let v144 : BitVec 32 := Scalar.muli c2_i32_84 arg20
  let c1_i32_200 : BitVec 32 := 1#32
  let v291 : BitVec 32 := Scalar.subi v144 c1_i32_200
  let c0_i32_201 : BitVec 32 := 0#32
  let v292 : BitVec 32 := Scalar.maxsi v291 c0_i32_201
  let c512_i32_202 : BitVec 32 := 512#32
  let v293 : BitVec 32 := Scalar.muli v292 c512_i32_202
  v293
def k0_mult26 (i : grid0.Coords) (k0_t4 : Fin (k0_t4_loop i).trips) : BitVec 32 :=
  let c2_i32_84 : BitVec 32 := 2#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_34 : BitVec 32 := 1#32
  let v61 : BitVec 32 := Scalar.minsi v18 c1_i32_34
  let c2_i32_35 : BitVec 32 := 2#32
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v62 : BitVec 32 := Scalar.muli c2_i32_35 v55
  let v63 : BitVec 32 := Scalar.addi v61 v62
  let v64 : BitVec 32 := Scalar.subi v18 v63
  let c1_i32_37 : BitVec 32 := 1#32
  let v66 : BitVec 32 := Scalar.divsi v64 c1_i32_37
  let v67 : BitVec 32 := Scalar.muli v66 c1_i32_37
  let v68 : BitVec 32 := Scalar.addi v63 v67
  let c1_i32_39 : BitVec 32 := 1#32
  let arg20 : BitVec 32 := Scf.iv v68 c1_i32_39 k0_t4
  let v144 : BitVec 32 := Scalar.muli c2_i32_84 arg20
  let c1_i32_292 : BitVec 32 := 1#32
  let v401 : BitVec 32 := Scalar.addi v144 c1_i32_292
  let c512_i32_293 : BitVec 32 := 512#32
  let v402 : BitVec 32 := Scalar.muli v401 c512_i32_293
  v402
def k0_off19 (i : grid0.Coords) (k0_t4 : Fin (k0_t4_loop i).trips) : Fin 2 → Nat :=
  let c2_i32_84 : BitVec 32 := 2#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_34 : BitVec 32 := 1#32
  let v61 : BitVec 32 := Scalar.minsi v18 c1_i32_34
  let c2_i32_35 : BitVec 32 := 2#32
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v62 : BitVec 32 := Scalar.muli c2_i32_35 v55
  let v63 : BitVec 32 := Scalar.addi v61 v62
  let v64 : BitVec 32 := Scalar.subi v18 v63
  let c1_i32_37 : BitVec 32 := 1#32
  let v66 : BitVec 32 := Scalar.divsi v64 c1_i32_37
  let v67 : BitVec 32 := Scalar.muli v66 c1_i32_37
  let v68 : BitVec 32 := Scalar.addi v63 v67
  let c1_i32_39 : BitVec 32 := 1#32
  let arg20 : BitVec 32 := Scf.iv v68 c1_i32_39 k0_t4
  let v144 : BitVec 32 := Scalar.muli c2_i32_84 arg20
  let c1_i32_292 : BitVec 32 := 1#32
  let v401 : BitVec 32 := Scalar.addi v144 c1_i32_292
  let c512_i32_293 : BitVec 32 := 512#32
  let v402 : BitVec 32 := Scalar.muli v401 c512_i32_293
  let v403 : BitVec 32 := v402
  let v405 : Index := Scalar.indexCast v403
  let c0_296 : Index := 0#32
  ![v405.toNat, 0]
def k0_off20 (i : grid0.Coords) (k0_t4 : Fin (k0_t4_loop i).trips) : Fin 2 → Nat :=
  let c2_i32_84 : BitVec 32 := 2#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let c1_i32_34 : BitVec 32 := 1#32
  let v61 : BitVec 32 := Scalar.minsi v18 c1_i32_34
  let c2_i32_35 : BitVec 32 := 2#32
  let c1_i32_20 : BitVec 32 := 1#32
  let v37 : BitVec 32 := Scalar.subi v18 c1_i32_20
  let c0_i32_21 : BitVec 32 := 0#32
  let v38 : BitVec 32 := Scalar.maxsi v37 c0_i32_21
  let c0_i32_23 : BitVec 32 := 0#32
  let v40 : BitVec 1 := Scalar.cmpi .sgt v38 c0_i32_23
  let v41 : BitVec 32 := Scalar.extui v40
  let c0_i32_24 : BitVec 32 := 0#32
  let v42 : BitVec 1 := Scalar.cmpi .slt v38 c0_i32_24
  let v43 : BitVec 32 := Scalar.extui v42
  let v44 : BitVec 32 := Scalar.subi v41 v43
  let c2_i32_22 : BitVec 32 := 2#32
  let c0_i32_25 : BitVec 32 := 0#32
  let v45 : BitVec 1 := Scalar.cmpi .sgt c2_i32_22 c0_i32_25
  let v46 : BitVec 32 := Scalar.extui v45
  let c0_i32_26 : BitVec 32 := 0#32
  let v47 : BitVec 1 := Scalar.cmpi .slt c2_i32_22 c0_i32_26
  let v48 : BitVec 32 := Scalar.extui v47
  let v49 : BitVec 32 := Scalar.subi v46 v48
  let v50 : BitVec 1 := Scalar.cmpi .ne v44 v49
  let v51 : BitVec 32 := Scalar.remsi v38 c2_i32_22
  let c0_i32_27 : BitVec 32 := 0#32
  let v52 : BitVec 1 := Scalar.cmpi .ne v51 c0_i32_27
  let v53 : BitVec 1 := Scalar.andi v50 v52
  let v39 : BitVec 32 := Scalar.divsi v38 c2_i32_22
  let c1_i32_28 : BitVec 32 := 1#32
  let v54 : BitVec 32 := Scalar.subi v39 c1_i32_28
  let v55 : BitVec 32 := Scalar.select v53 v54 v39
  let v62 : BitVec 32 := Scalar.muli c2_i32_35 v55
  let v63 : BitVec 32 := Scalar.addi v61 v62
  let v64 : BitVec 32 := Scalar.subi v18 v63
  let c1_i32_37 : BitVec 32 := 1#32
  let v66 : BitVec 32 := Scalar.divsi v64 c1_i32_37
  let v67 : BitVec 32 := Scalar.muli v66 c1_i32_37
  let v68 : BitVec 32 := Scalar.addi v63 v67
  let c1_i32_39 : BitVec 32 := 1#32
  let arg20 : BitVec 32 := Scf.iv v68 c1_i32_39 k0_t4
  let v144 : BitVec 32 := Scalar.muli c2_i32_84 arg20
  let c1_i32_292 : BitVec 32 := 1#32
  let v401 : BitVec 32 := Scalar.addi v144 c1_i32_292
  let c512_i32_293 : BitVec 32 := 512#32
  let v402 : BitVec 32 := Scalar.muli v401 c512_i32_293
  let v403 : BitVec 32 := v402
  let v422 : Index := Scalar.indexCast v403
  let c128_308 : Index := 128#32
  ![v422.toNat, 128]
def k0_cond3 (i : grid0.Coords) : BitVec 1 :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c2_i32_43 : BitVec 32 := 2#32
  let c0_i32_44 : BitVec 32 := 0#32
  let v72 : BitVec 1 := Scalar.cmpi .eq c2_i32_43 c0_i32_44
  let c1_i32_45 : BitVec 32 := 1#32
  let v73 : BitVec 32 := Scalar.select v72 c1_i32_45 c2_i32_43
  let v74 : BitVec 32 := Scalar.remsi v1 v73
  let c0_i32_47 : BitVec 32 := 0#32
  let v76 : BitVec 1 := Scalar.cmpi .slt v74 c0_i32_47
  let c0_i32_48 : BitVec 32 := 0#32
  let v77 : BitVec 1 := Scalar.cmpi .slt v73 c0_i32_48
  let v78 : BitVec 1 := Scalar.xori v76 v77
  let c0_i32_46 : BitVec 32 := 0#32
  let v75 : BitVec 1 := Scalar.cmpi .ne v74 c0_i32_46
  let v79 : BitVec 1 := Scalar.andi v78 v75
  let v80 : BitVec 32 := Scalar.addi v74 v73
  let v81 : BitVec 32 := Scalar.select v79 v80 v74
  let c1_i32_49 : BitVec 32 := 1#32
  let v82 : BitVec 1 := Scalar.cmpi .eq v81 c1_i32_49
  let v83 : BitVec 32 := Scalar.extui v82
  let c0_i32_50 : BitVec 32 := 0#32
  let v84 : BitVec 1 := Scalar.cmpi .ne v83 c0_i32_50
  v84

def k0_mult27 (i : grid0.Coords) : BitVec 32 :=
  let c2_i32_40 : BitVec 32 := 2#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v69 : BitVec 32 := Scalar.muli c2_i32_40 v18
  let c2_i32_84 : BitVec 32 := 2#32
  let v144 : BitVec 32 := Scalar.subi v69 c2_i32_84
  let c0_i32_85 : BitVec 32 := 0#32
  let v145 : BitVec 32 := Scalar.maxsi v144 c0_i32_85
  let c512_i32 : BitVec 32 := 512#32
  let v146 : BitVec 32 := Scalar.muli v145 c512_i32
  v146
def k0_off21 (i : grid0.Coords) (c2_i32_84 : BitVec 32) : Fin 2 → Nat :=
  let c2_i32_40 : BitVec 32 := 2#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v69 : BitVec 32 := Scalar.muli c2_i32_40 v18
  let v144 : BitVec 32 := Scalar.subi v69 c2_i32_84
  let c0_i32_85 : BitVec 32 := 0#32
  let v145 : BitVec 32 := Scalar.maxsi v144 c0_i32_85
  let c512_i32 : BitVec 32 := 512#32
  let v146 : BitVec 32 := Scalar.muli v145 c512_i32
  let v147 : BitVec 32 := v146
  let v148 : Index := Scalar.indexCast v147
  let c0_86 : Index := 0#32
  ![v148.toNat, 0]
def k0_mult28 (i : grid0.Coords) : BitVec 32 :=
  let c2_i32_40 : BitVec 32 := 2#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v69 : BitVec 32 := Scalar.muli c2_i32_40 v18
  let c512_i32_175 : BitVec 32 := 512#32
  let v254 : BitVec 32 := Scalar.muli v69 c512_i32_175
  v254
def k0_off22 (i : grid0.Coords) : Fin 2 → Nat :=
  let c2_i32_40 : BitVec 32 := 2#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v69 : BitVec 32 := Scalar.muli c2_i32_40 v18
  let c512_i32_175 : BitVec 32 := 512#32
  let v254 : BitVec 32 := Scalar.muli v69 c512_i32_175
  let v255 : BitVec 32 := v254
  let v257 : Index := Scalar.indexCast v255
  let c0_178 : Index := 0#32
  ![v257.toNat, 0]
def k0_off23 (i : grid0.Coords) : Fin 2 → Nat :=
  let c2_i32_40 : BitVec 32 := 2#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v69 : BitVec 32 := Scalar.muli c2_i32_40 v18
  let c512_i32_175 : BitVec 32 := 512#32
  let v254 : BitVec 32 := Scalar.muli v69 c512_i32_175
  let v255 : BitVec 32 := v254
  let v274 : Index := Scalar.indexCast v255
  let c128_189 : Index := 128#32
  ![v274.toNat, 128]
def k0_mult29 (i : grid0.Coords) : BitVec 32 :=
  let c2_i32_40 : BitVec 32 := 2#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v69 : BitVec 32 := Scalar.muli c2_i32_40 v18
  let c1_i32_199 : BitVec 32 := 1#32
  let v290 : BitVec 32 := Scalar.subi v69 c1_i32_199
  let c0_i32_200 : BitVec 32 := 0#32
  let v291 : BitVec 32 := Scalar.maxsi v290 c0_i32_200
  let c512_i32_201 : BitVec 32 := 512#32
  let v292 : BitVec 32 := Scalar.muli v291 c512_i32_201
  v292
def k0_mult30 (i : grid0.Coords) : BitVec 32 :=
  let arg1 : BitVec 32 := BitVec.ofNat 32 (i 1).val
  let c1_i32_41 : BitVec 32 := 1#32
  let v70 : BitVec 32 := Scalar.subi arg1 c1_i32_41
  let c0_i32_42 : BitVec 32 := 0#32
  let v71 : BitVec 32 := Scalar.maxsi v70 c0_i32_42
  let c512_i32_291 : BitVec 32 := 512#32
  let v400 : BitVec 32 := Scalar.muli v71 c512_i32_291
  v400
def k0_off24 (i : grid0.Coords) : Fin 2 → Nat :=
  let arg1 : BitVec 32 := BitVec.ofNat 32 (i 1).val
  let c1_i32_41 : BitVec 32 := 1#32
  let v70 : BitVec 32 := Scalar.subi arg1 c1_i32_41
  let c0_i32_42 : BitVec 32 := 0#32
  let v71 : BitVec 32 := Scalar.maxsi v70 c0_i32_42
  let c512_i32_291 : BitVec 32 := 512#32
  let v400 : BitVec 32 := Scalar.muli v71 c512_i32_291
  let v401 : BitVec 32 := v400
  let v403 : Index := Scalar.indexCast v401
  let c0_294 : Index := 0#32
  ![v403.toNat, 0]
def k0_off25 (i : grid0.Coords) : Fin 2 → Nat :=
  let arg1 : BitVec 32 := BitVec.ofNat 32 (i 1).val
  let c1_i32_41 : BitVec 32 := 1#32
  let v70 : BitVec 32 := Scalar.subi arg1 c1_i32_41
  let c0_i32_42 : BitVec 32 := 0#32
  let v71 : BitVec 32 := Scalar.maxsi v70 c0_i32_42
  let c512_i32_291 : BitVec 32 := 512#32
  let v400 : BitVec 32 := Scalar.muli v71 c512_i32_291
  let v401 : BitVec 32 := v400
  let v428 : Index := Scalar.indexCast v401
  let c128_309 : Index := 128#32
  ![v428.toNat, 128]
def k0_mult31 (i : grid0.Coords) : BitVec 32 :=
  let c2_i32_40 : BitVec 32 := 2#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v69 : BitVec 32 := Scalar.muli c2_i32_40 v18
  let c512_i32_322 : BitVec 32 := 512#32
  let v452 : BitVec 32 := Scalar.muli v69 c512_i32_322
  v452
def k0_off26 (i : grid0.Coords) : Fin 2 → Nat :=
  let c2_i32_40 : BitVec 32 := 2#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v69 : BitVec 32 := Scalar.muli c2_i32_40 v18
  let c512_i32_322 : BitVec 32 := 512#32
  let v452 : BitVec 32 := Scalar.muli v69 c512_i32_322
  let v453 : BitVec 32 := v452
  let v454 : Index := Scalar.indexCast v453
  let c0_323 : Index := 0#32
  ![v454.toNat, 0]
def k0_mult32 (i : grid0.Coords) : BitVec 32 :=
  let arg1 : BitVec 32 := BitVec.ofNat 32 (i 1).val
  let c512_i32_412 : BitVec 32 := 512#32
  let v560 : BitVec 32 := Scalar.muli arg1 c512_i32_412
  v560
def k0_off27 (i : grid0.Coords) : Fin 2 → Nat :=
  let arg1 : BitVec 32 := BitVec.ofNat 32 (i 1).val
  let c512_i32_412 : BitVec 32 := 512#32
  let v560 : BitVec 32 := Scalar.muli arg1 c512_i32_412
  let v561 : BitVec 32 := v560
  let v563 : Index := Scalar.indexCast v561
  let c0_415 : Index := 0#32
  ![v563.toNat, 0]
def k0_off28 (i : grid0.Coords) : Fin 2 → Nat :=
  let arg1 : BitVec 32 := BitVec.ofNat 32 (i 1).val
  let c512_i32_412 : BitVec 32 := 512#32
  let v560 : BitVec 32 := Scalar.muli arg1 c512_i32_412
  let v561 : BitVec 32 := v560
  let v588 : Index := Scalar.indexCast v561
  let c128_431 : Index := 128#32
  ![v588.toNat, 128]
def k0_mult33 (i : grid0.Coords) : BitVec 32 :=
  let arg1 : BitVec 32 := BitVec.ofNat 32 (i 1).val
  let c1_i32_41 : BitVec 32 := 1#32
  let v70 : BitVec 32 := Scalar.subi arg1 c1_i32_41
  let c0_i32_42 : BitVec 32 := 0#32
  let v71 : BitVec 32 := Scalar.maxsi v70 c0_i32_42
  let c512_i32_445 : BitVec 32 := 512#32
  let v612 : BitVec 32 := Scalar.muli v71 c512_i32_445
  v612
def k0_off29 (i : grid0.Coords) : Fin 2 → Nat :=
  let arg1 : BitVec 32 := BitVec.ofNat 32 (i 1).val
  let c1_i32_41 : BitVec 32 := 1#32
  let v70 : BitVec 32 := Scalar.subi arg1 c1_i32_41
  let c0_i32_42 : BitVec 32 := 0#32
  let v71 : BitVec 32 := Scalar.maxsi v70 c0_i32_42
  let c512_i32_445 : BitVec 32 := 512#32
  let v612 : BitVec 32 := Scalar.muli v71 c512_i32_445
  let v613 : BitVec 32 := v612
  let v614 : Index := Scalar.indexCast v613
  let c0_446 : Index := 0#32
  ![v614.toNat, 0]
def k0_mult34 (i : grid0.Coords) : BitVec 32 :=
  let arg1 : BitVec 32 := BitVec.ofNat 32 (i 1).val
  let c512_i32_535 : BitVec 32 := 512#32
  let v720 : BitVec 32 := Scalar.muli arg1 c512_i32_535
  v720
def k0_off30 (i : grid0.Coords) : Fin 2 → Nat :=
  let arg1 : BitVec 32 := BitVec.ofNat 32 (i 1).val
  let c512_i32_535 : BitVec 32 := 512#32
  let v720 : BitVec 32 := Scalar.muli arg1 c512_i32_535
  let v721 : BitVec 32 := v720
  let v722 : Index := Scalar.indexCast v721
  let c0_536 : Index := 0#32
  ![v722.toNat, 0]
def k0_cond4 (i : grid0.Coords) : BitVec 1 :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c2_i32_43 : BitVec 32 := 2#32
  let c0_i32_44 : BitVec 32 := 0#32
  let v72 : BitVec 1 := Scalar.cmpi .eq c2_i32_43 c0_i32_44
  let c1_i32_45 : BitVec 32 := 1#32
  let v73 : BitVec 32 := Scalar.select v72 c1_i32_45 c2_i32_43
  let v74 : BitVec 32 := Scalar.remsi v1 v73
  let c0_i32_47 : BitVec 32 := 0#32
  let v76 : BitVec 1 := Scalar.cmpi .slt v74 c0_i32_47
  let c0_i32_48 : BitVec 32 := 0#32
  let v77 : BitVec 1 := Scalar.cmpi .slt v73 c0_i32_48
  let v78 : BitVec 1 := Scalar.xori v76 v77
  let c0_i32_46 : BitVec 32 := 0#32
  let v75 : BitVec 1 := Scalar.cmpi .ne v74 c0_i32_46
  let v79 : BitVec 1 := Scalar.andi v78 v75
  let v80 : BitVec 32 := Scalar.addi v74 v73
  let v81 : BitVec 32 := Scalar.select v79 v80 v74
  let c1_i32_49 : BitVec 32 := 1#32
  let v82 : BitVec 1 := Scalar.cmpi .eq v81 c1_i32_49
  let v_true : BitVec 1 := 1#1
  let v85 : BitVec 1 := Scalar.xori v82 v_true
  let v86 : BitVec 32 := Scalar.extui v85
  let c0_i32_51 : BitVec 32 := 0#32
  let v87 : BitVec 1 := Scalar.cmpi .ne v86 c0_i32_51
  v87

def k0_mult35 (i : grid0.Coords) : BitVec 32 :=
  let c2_i32_40 : BitVec 32 := 2#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v69 : BitVec 32 := Scalar.muli c2_i32_40 v18
  let c2_i32_87 : BitVec 32 := 2#32
  let v146 : BitVec 32 := Scalar.subi v69 c2_i32_87
  let c0_i32_88 : BitVec 32 := 0#32
  let v147 : BitVec 32 := Scalar.maxsi v146 c0_i32_88
  let c512_i32 : BitVec 32 := 512#32
  let v148 : BitVec 32 := Scalar.muli v147 c512_i32
  v148
def k0_off31 (i : grid0.Coords) (c2_i32_87 : BitVec 32) : Fin 2 → Nat :=
  let c2_i32_40 : BitVec 32 := 2#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v69 : BitVec 32 := Scalar.muli c2_i32_40 v18
  let v146 : BitVec 32 := Scalar.subi v69 c2_i32_87
  let c0_i32_88 : BitVec 32 := 0#32
  let v147 : BitVec 32 := Scalar.maxsi v146 c0_i32_88
  let c512_i32 : BitVec 32 := 512#32
  let v148 : BitVec 32 := Scalar.muli v147 c512_i32
  let v149 : BitVec 32 := v148
  let v150 : Index := Scalar.indexCast v149
  let c0_89 : Index := 0#32
  ![v150.toNat, 0]
def k0_mult36 (i : grid0.Coords) : BitVec 32 :=
  let arg1 : BitVec 32 := BitVec.ofNat 32 (i 1).val
  let c1_i32_41 : BitVec 32 := 1#32
  let v70 : BitVec 32 := Scalar.subi arg1 c1_i32_41
  let c0_i32_42 : BitVec 32 := 0#32
  let v71 : BitVec 32 := Scalar.maxsi v70 c0_i32_42
  let c512_i32_178 : BitVec 32 := 512#32
  let v256 : BitVec 32 := Scalar.muli v71 c512_i32_178
  v256
def k0_off32 (i : grid0.Coords) : Fin 2 → Nat :=
  let arg1 : BitVec 32 := BitVec.ofNat 32 (i 1).val
  let c1_i32_41 : BitVec 32 := 1#32
  let v70 : BitVec 32 := Scalar.subi arg1 c1_i32_41
  let c0_i32_42 : BitVec 32 := 0#32
  let v71 : BitVec 32 := Scalar.maxsi v70 c0_i32_42
  let c512_i32_178 : BitVec 32 := 512#32
  let v256 : BitVec 32 := Scalar.muli v71 c512_i32_178
  let v257 : BitVec 32 := v256
  let v259 : Index := Scalar.indexCast v257
  let c0_181 : Index := 0#32
  ![v259.toNat, 0]
def k0_off33 (i : grid0.Coords) : Fin 2 → Nat :=
  let arg1 : BitVec 32 := BitVec.ofNat 32 (i 1).val
  let c1_i32_41 : BitVec 32 := 1#32
  let v70 : BitVec 32 := Scalar.subi arg1 c1_i32_41
  let c0_i32_42 : BitVec 32 := 0#32
  let v71 : BitVec 32 := Scalar.maxsi v70 c0_i32_42
  let c512_i32_178 : BitVec 32 := 512#32
  let v256 : BitVec 32 := Scalar.muli v71 c512_i32_178
  let v257 : BitVec 32 := v256
  let v286 : Index := Scalar.indexCast v257
  let c128_195 : Index := 128#32
  ![v286.toNat, 128]
def k0_mult37 (i : grid0.Coords) : BitVec 32 :=
  let c2_i32_40 : BitVec 32 := 2#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32 : BitVec 32 := 2#32
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let v2 : BitVec 32 := Scalar.divsi v1 c2_i32
  let c1_i32_5 : BitVec 32 := 1#32
  let v17 : BitVec 32 := Scalar.subi v2 c1_i32_5
  let v18 : BitVec 32 := Scalar.select v16 v17 v2
  let v69 : BitVec 32 := Scalar.muli c2_i32_40 v18
  let c1_i32_208 : BitVec 32 := 1#32
  let v312 : BitVec 32 := Scalar.subi v69 c1_i32_208
  let c0_i32_209 : BitVec 32 := 0#32
  let v313 : BitVec 32 := Scalar.maxsi v312 c0_i32_209
  let c512_i32_210 : BitVec 32 := 512#32
  let v314 : BitVec 32 := Scalar.muli v313 c512_i32_210
  v314
def k0_mult38 (i : grid0.Coords) : BitVec 32 :=
  let arg1 : BitVec 32 := BitVec.ofNat 32 (i 1).val
  let c512_i32_300 : BitVec 32 := 512#32
  let v422 : BitVec 32 := Scalar.muli arg1 c512_i32_300
  v422
def k0_off34 (i : grid0.Coords) : Fin 2 → Nat :=
  let arg1 : BitVec 32 := BitVec.ofNat 32 (i 1).val
  let c512_i32_300 : BitVec 32 := 512#32
  let v422 : BitVec 32 := Scalar.muli arg1 c512_i32_300
  let v423 : BitVec 32 := v422
  let v425 : Index := Scalar.indexCast v423
  let c0_303 : Index := 0#32
  ![v425.toNat, 0]
def k0_off35 (i : grid0.Coords) : Fin 2 → Nat :=
  let arg1 : BitVec 32 := BitVec.ofNat 32 (i 1).val
  let c512_i32_300 : BitVec 32 := 512#32
  let v422 : BitVec 32 := Scalar.muli arg1 c512_i32_300
  let v423 : BitVec 32 := v422
  let v450 : Index := Scalar.indexCast v423
  let c128_319 : Index := 128#32
  ![v450.toNat, 128]
def k0_mult39 (i : grid0.Coords) : BitVec 32 :=
  let arg1 : BitVec 32 := BitVec.ofNat 32 (i 1).val
  let c1_i32_41 : BitVec 32 := 1#32
  let v70 : BitVec 32 := Scalar.subi arg1 c1_i32_41
  let c0_i32_42 : BitVec 32 := 0#32
  let v71 : BitVec 32 := Scalar.maxsi v70 c0_i32_42
  let c512_i32_333 : BitVec 32 := 512#32
  let v474 : BitVec 32 := Scalar.muli v71 c512_i32_333
  v474
def k0_off36 (i : grid0.Coords) : Fin 2 → Nat :=
  let arg1 : BitVec 32 := BitVec.ofNat 32 (i 1).val
  let c1_i32_41 : BitVec 32 := 1#32
  let v70 : BitVec 32 := Scalar.subi arg1 c1_i32_41
  let c0_i32_42 : BitVec 32 := 0#32
  let v71 : BitVec 32 := Scalar.maxsi v70 c0_i32_42
  let c512_i32_333 : BitVec 32 := 512#32
  let v474 : BitVec 32 := Scalar.muli v71 c512_i32_333
  let v475 : BitVec 32 := v474
  let v476 : Index := Scalar.indexCast v475
  let c0_334 : Index := 0#32
  ![v476.toNat, 0]
def k0_mult40 (i : grid0.Coords) : BitVec 32 :=
  let arg1 : BitVec 32 := BitVec.ofNat 32 (i 1).val
  let c512_i32_423 : BitVec 32 := 512#32
  let v582 : BitVec 32 := Scalar.muli arg1 c512_i32_423
  v582
def k0_off37 (i : grid0.Coords) : Fin 2 → Nat :=
  let arg1 : BitVec 32 := BitVec.ofNat 32 (i 1).val
  let c512_i32_423 : BitVec 32 := 512#32
  let v582 : BitVec 32 := Scalar.muli arg1 c512_i32_423
  let v583 : BitVec 32 := v582
  let v584 : Index := Scalar.indexCast v583
  let c0_424 : Index := 0#32
  ![v584.toNat, 0]
def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Proof.DiffState.lean ====
module

public import proofs.«01_k».proof.Proof.Gen.DiffIdeal.Frame
public import proofs.«01_k».proof.Proof.Gen.DiffIdeal.Skeleton
public import Idealize.ShloMosaic.Lib.Pipeline.ValueKit

@[expose] public section

set_option maxRecDepth 65536

noncomputable section

namespace Cert.DiffRun

open Cert.DiffIdeal Cert.DiffIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a point holds of its buffers: the ten inputs at given contents, the output and the seven scratches at anything. -/
def St (c : Dev nD) (arg2 : Memref sig .tc .vmem S512x256 .bf16) (arg3 : Memref sig .tc .vmem S16384x256 .bf16) (arg4 : Memref sig .tc .vmem S16384x256 .bf16) (arg5 : Memref sig .tc .vmem S1x512x512 .f32) (arg6 : Memref sig .tc .vmem S1x128x128 .f32) (arg7 : Memref sig .tc .vmem S1x128 .f32) (arg8 : Memref sig .tc .vmem S1x128 .f32) (arg9 : Memref sig .tc .vmem S1x128 .f32) (arg10 : Memref sig .tc .vmem S1x128 .f32) (arg11 : Memref sig .tc .vmem S1x256 .f32) (arg12 : Memref sig .tc .vmem S512x256 .bf16) (arg13 : Memref sig .tc .vmem S2x512x128 .f32) (arg14 : Memref sig .tc .vmem S2x512x128 .f32) (arg15 : Memref sig .tc .vmem S2x512x256 .f32) (arg16 : Memref sig .tc .vmem S2x2x512x512 .f32) (arg17 : Memref sig .tc .vmem S2x2x512x128 .f32) (arg18 : Memref sig .tc .vmem S2x2x512x512 .bf16) (arg19 : Memref sig .tc .vmem S2x2x512x128 .f32) (x2 : Vec F S512x256 .bf16) (x3 : Vec F S16384x256 .bf16) (x4 : Vec F S16384x256 .bf16) (x5 : Vec F S1x512x512 .f32) (x6 : Vec F S1x128x128 .f32) (x7 : Vec F S1x128 .f32) (x8 : Vec F S1x128 .f32) (x9 : Vec F S1x128 .f32) (x10 : Vec F S1x128 .f32) (x11 : Vec F S1x256 .f32) : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d))

end Cert.DiffRun

end
-- ==== Proof.DiffParts.lean ====
module

public import proofs.«01_k».proof.Proof.DiffState

@[expose] public section

set_option maxRecDepth 65536

noncomputable section

namespace Cert.DiffRun

open Cert.DiffIdeal Cert.DiffIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first remainder loop makes no trip. -/
theorem trips2 (i : grid0.Coords) : (k0_t2_loop i).trips = 0 := by
  unfold k0_t2_loop
  generalize i 1 = j
  revert j
  decide +kernel

/-- The second remainder loop makes no trip. -/
theorem trips4 (i : grid0.Coords) : (k0_t4_loop i).trips = 0 := by
  unfold k0_t4_loop
  generalize i 1 = j
  revert j
  decide +kernel

/-- The two last branches are never taken at one point. -/
theorem excl (i : grid0.Coords) : k0_cond3 i = 1#1 → ¬ k0_cond4 i = 1#1 := by
  unfold k0_cond3 k0_cond4
  generalize i 1 = j
  revert j
  decide +kernel

/-- One of them is taken. -/
theorem incl (i : grid0.Coords) : ¬ k0_cond3 i = 1#1 → k0_cond4 i = 1#1 := by
  unfold k0_cond3 k0_cond4
  generalize i 1 = j
  revert j
  decide +kernel

variable (c : Dev nD) (i : grid0.Coords) (arg2 : Memref sig .tc .vmem S512x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x512x512 .f32) (harg5 : arg5.IsWhole) (arg6 : Memref sig .tc .vmem S1x128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x256 .f32) (harg11 : arg11.IsWhole) (arg12 : Memref sig .tc .vmem S512x256 .bf16) (harg12 : arg12.IsWhole) (arg13 : Memref sig .tc .vmem S2x512x128 .f32) (harg13 : arg13.IsWhole) (arg14 : Memref sig .tc .vmem S2x512x128 .f32) (harg14 : arg14.IsWhole) (arg15 : Memref sig .tc .vmem S2x512x256 .f32) (harg15 : arg15.IsWhole) (arg16 : Memref sig .tc .vmem S2x2x512x512 .f32) (harg16 : arg16.IsWhole) (arg17 : Memref sig .tc .vmem S2x2x512x128 .f32) (harg17 : arg17.IsWhole) (arg18 : Memref sig .tc .vmem S2x2x512x512 .bf16) (harg18 : arg18.IsWhole) (arg19 : Memref sig .tc .vmem S2x2x512x128 .f32) (harg19 : arg19.IsWhole) (x2 : Vec F S512x256 .bf16) (x3 : Vec F S16384x256 .bf16) (x4 : Vec F S16384x256 .bf16) (x5 : Vec F S1x512x512 .f32) (x6 : Vec F S1x128x128 .f32) (x7 : Vec F S1x128 .f32) (x8 : Vec F S1x128 .f32) (x9 : Vec F S1x128 .f32) (x10 : Vec F S1x128 .f32) (x11 : Vec F S1x256 .f32)

/-- A trip of the first remainder loop: there is none. -/
theorem trip2 (v18 v32 v60 : BitVec 32) (k : Fin (k0_t2_loop i).trips) (u : Unit) :
    St c arg2 arg3 arg4 arg5 arg6 arg7 arg8 arg9 arg10 arg11 arg12 arg13 arg14 arg15 arg16 arg17 arg18 arg19 x2 x3 x4 x5 x6 x7 x8 x9 x10 x11 ⊢ wp frame (wpE (defs₀ (F := F)) Variants.none c none) Set.univ (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v18 v32 v60 k u) (fun _ => St c arg2 arg3 arg4 arg5 arg6 arg7 arg8 arg9 arg10 arg11 arg12 arg13 arg14 arg15 arg16 arg17 arg18 arg19 x2 x3 x4 x5 x6 x7 x8 x9 x10 x11) :=
  (Fin.cast (trips2 i) k).elim0

/-- A trip of the second remainder loop: there is none. -/
theorem trip4 (arg1 v1 v18 v63 v67 v68 : BitVec 32) (k : Fin (k0_t4_loop i).trips) (u : Unit) :
    St c arg2 arg3 arg4 arg5 arg6 arg7 arg8 arg9 arg10 arg11 arg12 arg13 arg14 arg15 arg16 arg17 arg18 arg19 x2 x3 x4 x5 x6 x7 x8 x9 x10 x11 ⊢ wp frame (wpE (defs₀ (F := F)) Variants.none c none) Set.univ (k0_t4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v18 v63 v67 v68 k u) (fun _ => St c arg2 arg3 arg4 arg5 arg6 arg7 arg8 arg9 arg10 arg11 arg12 arg13 arg14 arg15 arg16 arg17 arg18 arg19 x2 x3 x4 x5 x6 x7 x8 x9 x10 x11) :=
  (Fin.cast (trips4 i) k).elim0

set_option maxHeartbeats 60000000 in
/-- The first part clears three scratches. -/
theorem part94 :
    St c arg2 arg3 arg4 arg5 arg6 arg7 arg8 arg9 arg10 arg11 arg12 arg13 arg14 arg15 arg16 arg17 arg18 arg19 x2 x3 x4 x5 x6 x7 x8 x9 x10 x11 ⊢ wp frame (wpE (defs₀ (F := F)) Variants.none c none) Set.univ (k0_part94 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => St c arg2 arg3 arg4 arg5 arg6 arg7 arg8 arg9 arg10 arg11 arg12 arg13 arg14 arg15 arg16 arg17 arg18 arg19 x2 x3 x4 x5 x6 x7 x8 x9 x10 x11) := by
  rw [k0_part94_eq_skeleton]
  unfold k0_part94_skel St owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  sl_exec_parts
  sl_step
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists f10; isplitr; · ipureintro; exact hf10
    iexact H10
  isplitl [H11]
  · iexists f11; isplitr; · ipureintro; exact hf11
    iexact H11
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  isplitl [H18]
  · iexists _; iexists _; isplitr; swap; · iexact H18
    ipureintro; rfl
  iexists _; iexists _; isplitr; swap; · iexact H19
  ipureintro; rfl

set_option maxHeartbeats 60000000 in
/-- The fourth part reads scratches. -/
theorem part97 (v95 : FVec F S1x1 .f32) (v97 v99 : FVec F S1x128 .f32) :
    St c arg2 arg3 arg4 arg5 arg6 arg7 arg8 arg9 arg10 arg11 arg12 arg13 arg14 arg15 arg16 arg17 arg18 arg19 x2 x3 x4 x5 x6 x7 x8 x9 x10 x11 ⊢ wp frame (wpE (defs₀ (F := F)) Variants.none c none) Set.univ (k0_part97 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v95 v97 v99) (fun _ => St c arg2 arg3 arg4 arg5 arg6 arg7 arg8 arg9 arg10 arg11 arg12 arg13 arg14 arg15 arg16 arg17 arg18 arg19 x2 x3 x4 x5 x6 x7 x8 x9 x10 x11) := by
  rw [k0_part97_eq_skeleton]
  unfold k0_part97_skel St owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  sl_exec_parts
  sl_step
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists f10; isplitr; · ipureintro; exact hf10
    iexact H10
  isplitl [H11]
  · iexists f11; isplitr; · ipureintro; exact hf11
    iexact H11
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  isplitl [H18]
  · iexists _; iexists _; isplitr; swap; · iexact H18
    ipureintro; rfl
  iexists _; iexists _; isplitr; swap; · iexact H19
  ipureintro; rfl

end Cert.DiffRun

end
-- ==== Proof.DiffTrip1.lean ====
module

public import proofs.«01_k».proof.Proof.DiffState

@[expose] public section

set_option maxRecDepth 65536

noncomputable section

namespace Cert.DiffRun

open Cert.DiffIdeal Cert.DiffIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S512x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x512x512 .f32) (harg5 : arg5.IsWhole) (arg6 : Memref sig .tc .vmem S1x128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x256 .f32) (harg11 : arg11.IsWhole) (arg12 : Memref sig .tc .vmem S512x256 .bf16) (harg12 : arg12.IsWhole) (arg13 : Memref sig .tc .vmem S2x512x128 .f32) (harg13 : arg13.IsWhole) (arg14 : Memref sig .tc .vmem S2x512x128 .f32) (harg14 : arg14.IsWhole) (arg15 : Memref sig .tc .vmem S2x512x256 .f32) (harg15 : arg15.IsWhole) (arg16 : Memref sig .tc .vmem S2x2x512x512 .f32) (harg16 : arg16.IsWhole) (arg17 : Memref sig .tc .vmem S2x2x512x128 .f32) (harg17 : arg17.IsWhole) (arg18 : Memref sig .tc .vmem S2x2x512x512 .bf16) (harg18 : arg18.IsWhole) (arg19 : Memref sig .tc .vmem S2x2x512x128 .f32) (harg19 : arg19.IsWhole) (x2 : Vec F S512x256 .bf16) (x3 : Vec F S16384x256 .bf16) (x4 : Vec F S16384x256 .bf16) (x5 : Vec F S1x512x512 .f32) (x6 : Vec F S1x128x128 .f32) (x7 : Vec F S1x128 .f32) (x8 : Vec F S1x128 .f32) (x9 : Vec F S1x128 .f32) (x10 : Vec F S1x128 .f32) (x11 : Vec F S1x256 .f32)

set_option maxHeartbeats 60000000 in
/-- One trip of the loop keeps what the point holds. -/
theorem trip1 (v18 v32 : BitVec 32) (k : Fin (k0_t1_loop i).trips) (u : Unit) :
    St c arg2 arg3 arg4 arg5 arg6 arg7 arg8 arg9 arg10 arg11 arg12 arg13 arg14 arg15 arg16 arg17 arg18 arg19 x2 x3 x4 x5 x6 x7 x8 x9 x10 x11 ⊢ wp frame (wpE (defs₀ (F := F)) Variants.none c none) Set.univ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v18 v32 k u) (fun _ => St c arg2 arg3 arg4 arg5 arg6 arg7 arg8 arg9 arg10 arg11 arg12 arg13 arg14 arg15 arg16 arg17 arg18 arg19 x2 x3 x4 x5 x6 x7 x8 x9 x10 x11) := by
  unfold k0_t1_body St owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  sl_exec_parts
  sl_step
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists f10; isplitr; · ipureintro; exact hf10
    iexact H10
  isplitl [H11]
  · iexists f11; isplitr; · ipureintro; exact hf11
    iexact H11
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  isplitl [H18]
  · iexists _; iexists _; isplitr; swap; · iexact H18
    ipureintro; rfl
  iexists _; iexists _; isplitr; swap; · iexact H19
  ipureintro; rfl

end Cert.DiffRun

end
-- ==== Proof.DiffTrip3.lean ====
module

public import proofs.«01_k».proof.Proof.DiffState

@[expose] public section

set_option maxRecDepth 65536

noncomputable section

namespace Cert.DiffRun

open Cert.DiffIdeal Cert.DiffIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S512x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x512x512 .f32) (harg5 : arg5.IsWhole) (arg6 : Memref sig .tc .vmem S1x128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x256 .f32) (harg11 : arg11.IsWhole) (arg12 : Memref sig .tc .vmem S512x256 .bf16) (harg12 : arg12.IsWhole) (arg13 : Memref sig .tc .vmem S2x512x128 .f32) (harg13 : arg13.IsWhole) (arg14 : Memref sig .tc .vmem S2x512x128 .f32) (harg14 : arg14.IsWhole) (arg15 : Memref sig .tc .vmem S2x512x256 .f32) (harg15 : arg15.IsWhole) (arg16 : Memref sig .tc .vmem S2x2x512x512 .f32) (harg16 : arg16.IsWhole) (arg17 : Memref sig .tc .vmem S2x2x512x128 .f32) (harg17 : arg17.IsWhole) (arg18 : Memref sig .tc .vmem S2x2x512x512 .bf16) (harg18 : arg18.IsWhole) (arg19 : Memref sig .tc .vmem S2x2x512x128 .f32) (harg19 : arg19.IsWhole) (x2 : Vec F S512x256 .bf16) (x3 : Vec F S16384x256 .bf16) (x4 : Vec F S16384x256 .bf16) (x5 : Vec F S1x512x512 .f32) (x6 : Vec F S1x128x128 .f32) (x7 : Vec F S1x128 .f32) (x8 : Vec F S1x128 .f32) (x9 : Vec F S1x128 .f32) (x10 : Vec F S1x128 .f32) (x11 : Vec F S1x256 .f32)

set_option maxHeartbeats 60000000 in
/-- One trip of the loop keeps what the point holds. -/
theorem trip3 (arg1 v1 v18 v63 v67 : BitVec 32) (k : Fin (k0_t3_loop i).trips) (u : Unit) :
    St c arg2 arg3 arg4 arg5 arg6 arg7 arg8 arg9 arg10 arg11 arg12 arg13 arg14 arg15 arg16 arg17 arg18 arg19 x2 x3 x4 x5 x6 x7 x8 x9 x10 x11 ⊢ wp frame (wpE (defs₀ (F := F)) Variants.none c none) Set.univ (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v18 v63 v67 k u) (fun _ => St c arg2 arg3 arg4 arg5 arg6 arg7 arg8 arg9 arg10 arg11 arg12 arg13 arg14 arg15 arg16 arg17 arg18 arg19 x2 x3 x4 x5 x6 x7 x8 x9 x10 x11) := by
  unfold k0_t3_body St owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  sl_exec_parts
  sl_step
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists f10; isplitr; · ipureintro; exact hf10
    iexact H10
  isplitl [H11]
  · iexists f11; isplitr; · ipureintro; exact hf11
    iexact H11
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  isplitl [H18]
  · iexists _; iexists _; isplitr; swap; · iexact H18
    ipureintro; rfl
  iexists _; iexists _; isplitr; swap; · iexact H19
  ipureintro; rfl

end Cert.DiffRun

end
-- ==== Proof.DiffMid.lean ====
module

public import proofs.«01_k».proof.Proof.DiffParts
public import proofs.«01_k».proof.Proof.DiffTrip1
public import proofs.«01_k».proof.Proof.DiffTrip3

@[expose] public section

set_option maxRecDepth 65536

noncomputable section

namespace Cert.DiffRun

open Cert.DiffIdeal Cert.DiffIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S512x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x512x512 .f32) (harg5 : arg5.IsWhole) (arg6 : Memref sig .tc .vmem S1x128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x256 .f32) (harg11 : arg11.IsWhole) (arg12 : Memref sig .tc .vmem S512x256 .bf16) (harg12 : arg12.IsWhole) (arg13 : Memref sig .tc .vmem S2x512x128 .f32) (harg13 : arg13.IsWhole) (arg14 : Memref sig .tc .vmem S2x512x128 .f32) (harg14 : arg14.IsWhole) (arg15 : Memref sig .tc .vmem S2x512x256 .f32) (harg15 : arg15.IsWhole) (arg16 : Memref sig .tc .vmem S2x2x512x512 .f32) (harg16 : arg16.IsWhole) (arg17 : Memref sig .tc .vmem S2x2x512x128 .f32) (harg17 : arg17.IsWhole) (arg18 : Memref sig .tc .vmem S2x2x512x512 .bf16) (harg18 : arg18.IsWhole) (arg19 : Memref sig .tc .vmem S2x2x512x128 .f32) (harg19 : arg19.IsWhole) (x2 : Vec F S512x256 .bf16) (x3 : Vec F S16384x256 .bf16) (x4 : Vec F S16384x256 .bf16) (x5 : Vec F S1x512x512 .f32) (x6 : Vec F S1x128x128 .f32) (x7 : Vec F S1x128 .f32) (x8 : Vec F S1x128 .f32) (x9 : Vec F S1x128 .f32) (x10 : Vec F S1x128 .f32) (x11 : Vec F S1x256 .f32)

set_option maxHeartbeats 60000000 in
/-- The second part: the first tile or none, then the loop over tiles. -/
theorem part95 (v18 v32 : BitVec 32) :
    St c arg2 arg3 arg4 arg5 arg6 arg7 arg8 arg9 arg10 arg11 arg12 arg13 arg14 arg15 arg16 arg17 arg18 arg19 x2 x3 x4 x5 x6 x7 x8 x9 x10 x11 ⊢ wp frame (wpE (defs₀ (F := F)) Variants.none c none) Set.univ (k0_part95 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v18 v32) (fun _ => St c arg2 arg3 arg4 arg5 arg6 arg7 arg8 arg9 arg10 arg11 arg12 arg13 arg14 arg15 arg16 arg17 arg18 arg19 x2 x3 x4 x5 x6 x7 x8 x9 x10 x11) := by
  rw [k0_part95_eq_skeleton]
  unfold k0_part95_skel
  unfold St owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  by_cases h1 : k0_cond1 i = 1#1 <;> by_cases h2 : Scalar.cmpi .ne (Scalar.extui (Scalar.cmpi .eq v18 0#32)) 0#32 = 1#1
  all_goals
    sl_exec_parts (disch := first | sl_exact h1 | sl_exact h2)
    iapply (Scf.wp_for_bind frame (wpE (defs₀ (F := F)) Variants.none c none) Set.univ _ _ _ _ _ _ (fun _ _ => St c arg2 arg3 arg4 arg5 arg6 arg7 arg8 arg9 arg10 arg11 arg12 arg13 arg14 arg15 arg16 arg17 arg18 arg19 x2 x3 x4 x5 x6 x7 x8 x9 x10 x11)
      (fun k u => trip1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x8 x9 x10 x11 v18 v32 k u)) $$ [H2 H3 H4 H5 H6 H7 H8 H9 H10 H11 H12 H13 H14 H15 H16 H17 H18 H19]
    · unfold St owns
      isplitl [H2]
      · iexists f2; isplitr; · ipureintro; exact hf2
        iexact H2
      isplitl [H3]
      · iexists f3; isplitr; · ipureintro; exact hf3
        iexact H3
      isplitl [H4]
      · iexists f4; isplitr; · ipureintro; exact hf4
        iexact H4
      isplitl [H5]
      · iexists f5; isplitr; · ipureintro; exact hf5
        iexact H5
      isplitl [H6]
      · iexists f6; isplitr; · ipureintro; exact hf6
        iexact H6
      isplitl [H7]
      · iexists f7; isplitr; · ipureintro; exact hf7
        iexact H7
      isplitl [H8]
      · iexists f8; isplitr; · ipureintro; exact hf8
        iexact H8
      isplitl [H9]
      · iexists f9; isplitr; · ipureintro; exact hf9
        iexact H9
      isplitl [H10]
      · iexists f10; isplitr; · ipureintro; exact hf10
        iexact H10
      isplitl [H11]
      · iexists f11; isplitr; · ipureintro; exact hf11
        iexact H11
      isplitl [H12]
      · iexists _; iexists _; isplitr; swap; · iexact H12
        ipureintro; rfl
      isplitl [H13]
      · iexists _; iexists _; isplitr; swap; · iexact H13
        ipureintro; rfl
      isplitl [H14]
      · iexists _; iexists _; isplitr; swap; · iexact H14
        ipureintro; rfl
      isplitl [H15]
      · iexists _; iexists _; isplitr; swap; · iexact H15
        ipureintro; rfl
      isplitl [H16]
      · iexists _; iexists _; isplitr; swap; · iexact H16
        ipureintro; rfl
      isplitl [H17]
      · iexists _; iexists _; isplitr; swap; · iexact H17
        ipureintro; rfl
      isplitl [H18]
      · iexists _; iexists _; isplitr; swap; · iexact H18
        ipureintro; rfl
      iexists _; iexists _; isplitr; swap; · iexact H19
      ipureintro; rfl
    iintro %u HS
    unfold St owns
    icases HS with ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
    sl_exec_parts
    iapply (Scf.wp_for_bind frame (wpE (defs₀ (F := F)) Variants.none c none) Set.univ _ _ _ _ _ _ (fun _ _ => St c arg2 arg3 arg4 arg5 arg6 arg7 arg8 arg9 arg10 arg11 arg12 arg13 arg14 arg15 arg16 arg17 arg18 arg19 x2 x3 x4 x5 x6 x7 x8 x9 x10 x11)
      (fun k u => trip2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x8 x9 x10 x11 v18 v32 _ k u)) $$ [H2 H3 H4 H5 H6 H7 H8 H9 H10 H11 H12 H13 H14 H15 H16 H17 H18 H19]
    · unfold St owns
      isplitl [H2]
      · iexists f2; isplitr; · ipureintro; exact hf2
        iexact H2
      isplitl [H3]
      · iexists f3; isplitr; · ipureintro; exact hf3
        iexact H3
      isplitl [H4]
      · iexists f4; isplitr; · ipureintro; exact hf4
        iexact H4
      isplitl [H5]
      · iexists f5; isplitr; · ipureintro; exact hf5
        iexact H5
      isplitl [H6]
      · iexists f6; isplitr; · ipureintro; exact hf6
        iexact H6
      isplitl [H7]
      · iexists f7; isplitr; · ipureintro; exact hf7
        iexact H7
      isplitl [H8]
      · iexists f8; isplitr; · ipureintro; exact hf8
        iexact H8
      isplitl [H9]
      · iexists f9; isplitr; · ipureintro; exact hf9
        iexact H9
      isplitl [H10]
      · iexists f10; isplitr; · ipureintro; exact hf10
        iexact H10
      isplitl [H11]
      · iexists f11; isplitr; · ipureintro; exact hf11
        iexact H11
      isplitl [H12]
      · iexists _; iexists _; isplitr; swap; · iexact H12
        ipureintro; rfl
      isplitl [H13]
      · iexists _; iexists _; isplitr; swap; · iexact H13
        ipureintro; rfl
      isplitl [H14]
      · iexists _; iexists _; isplitr; swap; · iexact H14
        ipureintro; rfl
      isplitl [H15]
      · iexists _; iexists _; isplitr; swap; · iexact H15
        ipureintro; rfl
      isplitl [H16]
      · iexists _; iexists _; isplitr; swap; · iexact H16
        ipureintro; rfl
      isplitl [H17]
      · iexists _; iexists _; isplitr; swap; · iexact H17
        ipureintro; rfl
      isplitl [H18]
      · iexists _; iexists _; isplitr; swap; · iexact H18
        ipureintro; rfl
      iexists _; iexists _; isplitr; swap; · iexact H19
      ipureintro; rfl
    iintro %u HS
    unfold St owns
    icases HS with ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
    sl_exec_parts
    sl_step
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    isplitl [H7]
    · iexists f7; isplitr; · ipureintro; exact hf7
      iexact H7
    isplitl [H8]
    · iexists f8; isplitr; · ipureintro; exact hf8
      iexact H8
    isplitl [H9]
    · iexists f9; isplitr; · ipureintro; exact hf9
      iexact H9
    isplitl [H10]
    · iexists f10; isplitr; · ipureintro; exact hf10
      iexact H10
    isplitl [H11]
    · iexists f11; isplitr; · ipureintro; exact hf11
      iexact H11
    isplitl [H12]
    · iexists _; iexists _; isplitr; swap; · iexact H12
      ipureintro; rfl
    isplitl [H13]
    · iexists _; iexists _; isplitr; swap; · iexact H13
      ipureintro; rfl
    isplitl [H14]
    · iexists _; iexists _; isplitr; swap; · iexact H14
      ipureintro; rfl
    isplitl [H15]
    · iexists _; iexists _; isplitr; swap; · iexact H15
      ipureintro; rfl
    isplitl [H16]
    · iexists _; iexists _; isplitr; swap; · iexact H16
      ipureintro; rfl
    isplitl [H17]
    · iexists _; iexists _; isplitr; swap; · iexact H17
      ipureintro; rfl
    isplitl [H18]
    · iexists _; iexists _; isplitr; swap; · iexact H18
      ipureintro; rfl
    iexists _; iexists _; isplitr; swap; · iexact H19
    ipureintro; rfl

end Cert.DiffRun

end
-- ==== Proof.DiffOdd.lean ====
module

public import proofs.«01_k».proof.Proof.DiffParts
public import proofs.«01_k».proof.Proof.DiffTrip1
public import proofs.«01_k».proof.Proof.DiffTrip3

@[expose] public section

set_option maxRecDepth 65536

noncomputable section

namespace Cert.DiffRun

open Cert.DiffIdeal Cert.DiffIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S512x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x512x512 .f32) (harg5 : arg5.IsWhole) (arg6 : Memref sig .tc .vmem S1x128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x256 .f32) (harg11 : arg11.IsWhole) (arg12 : Memref sig .tc .vmem S512x256 .bf16) (harg12 : arg12.IsWhole) (arg13 : Memref sig .tc .vmem S2x512x128 .f32) (harg13 : arg13.IsWhole) (arg14 : Memref sig .tc .vmem S2x512x128 .f32) (harg14 : arg14.IsWhole) (arg15 : Memref sig .tc .vmem S2x512x256 .f32) (harg15 : arg15.IsWhole) (arg16 : Memref sig .tc .vmem S2x2x512x512 .f32) (harg16 : arg16.IsWhole) (arg17 : Memref sig .tc .vmem S2x2x512x128 .f32) (harg17 : arg17.IsWhole) (arg18 : Memref sig .tc .vmem S2x2x512x512 .bf16) (harg18 : arg18.IsWhole) (arg19 : Memref sig .tc .vmem S2x2x512x128 .f32) (harg19 : arg19.IsWhole) (x2 : Vec F S512x256 .bf16) (x3 : Vec F S16384x256 .bf16) (x4 : Vec F S16384x256 .bf16) (x5 : Vec F S1x512x512 .f32) (x6 : Vec F S1x128x128 .f32) (x7 : Vec F S1x128 .f32) (x8 : Vec F S1x128 .f32) (x9 : Vec F S1x128 .f32) (x10 : Vec F S1x128 .f32) (x11 : Vec F S1x256 .f32)

set_option maxHeartbeats 60000000 in
/-- The third part where the count of tiles is odd. -/
theorem part96_odd (h3 : k0_cond3 i = 1#1) (arg1 v1 v18 v63 v67 : BitVec 32) :
    St c arg2 arg3 arg4 arg5 arg6 arg7 arg8 arg9 arg10 arg11 arg12 arg13 arg14 arg15 arg16 arg17 arg18 arg19 x2 x3 x4 x5 x6 x7 x8 x9 x10 x11 ⊢ wp frame (wpE (defs₀ (F := F)) Variants.none c none) Set.univ (k0_part96 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v18 v63 v67) (fun _ => St c arg2 arg3 arg4 arg5 arg6 arg7 arg8 arg9 arg10 arg11 arg12 arg13 arg14 arg15 arg16 arg17 arg18 arg19 x2 x3 x4 x5 x6 x7 x8 x9 x10 x11) := by
  have h4 := excl i h3
  rw [k0_part96_eq_skeleton]
  unfold k0_part96_skel
  unfold St owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  sl_exec_parts
  iapply (Scf.wp_for_bind frame (wpE (defs₀ (F := F)) Variants.none c none) Set.univ _ _ _ _ _ _ (fun _ _ => St c arg2 arg3 arg4 arg5 arg6 arg7 arg8 arg9 arg10 arg11 arg12 arg13 arg14 arg15 arg16 arg17 arg18 arg19 x2 x3 x4 x5 x6 x7 x8 x9 x10 x11)
    (fun k u => trip3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x8 x9 x10 x11 arg1 v1 v18 v63 v67 k u)) $$ [H2 H3 H4 H5 H6 H7 H8 H9 H10 H11 H12 H13 H14 H15 H16 H17 H18 H19]
  · unfold St owns
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    isplitl [H7]
    · iexists f7; isplitr; · ipureintro; exact hf7
      iexact H7
    isplitl [H8]
    · iexists f8; isplitr; · ipureintro; exact hf8
      iexact H8
    isplitl [H9]
    · iexists f9; isplitr; · ipureintro; exact hf9
      iexact H9
    isplitl [H10]
    · iexists f10; isplitr; · ipureintro; exact hf10
      iexact H10
    isplitl [H11]
    · iexists f11; isplitr; · ipureintro; exact hf11
      iexact H11
    isplitl [H12]
    · iexists _; iexists _; isplitr; swap; · iexact H12
      ipureintro; rfl
    isplitl [H13]
    · iexists _; iexists _; isplitr; swap; · iexact H13
      ipureintro; rfl
    isplitl [H14]
    · iexists _; iexists _; isplitr; swap; · iexact H14
      ipureintro; rfl
    isplitl [H15]
    · iexists _; iexists _; isplitr; swap; · iexact H15
      ipureintro; rfl
    isplitl [H16]
    · iexists _; iexists _; isplitr; swap; · iexact H16
      ipureintro; rfl
    isplitl [H17]
    · iexists _; iexists _; isplitr; swap; · iexact H17
      ipureintro; rfl
    isplitl [H18]
    · iexists _; iexists _; isplitr; swap; · iexact H18
      ipureintro; rfl
    iexists _; iexists _; isplitr; swap; · iexact H19
    ipureintro; rfl
  iintro %u HS
  unfold St owns
  icases HS with ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  sl_exec_parts
  iapply (Scf.wp_for_bind frame (wpE (defs₀ (F := F)) Variants.none c none) Set.univ _ _ _ _ _ _ (fun _ _ => St c arg2 arg3 arg4 arg5 arg6 arg7 arg8 arg9 arg10 arg11 arg12 arg13 arg14 arg15 arg16 arg17 arg18 arg19 x2 x3 x4 x5 x6 x7 x8 x9 x10 x11)
    (fun k u => trip4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x8 x9 x10 x11 arg1 v1 v18 v63 v67 _ k u)) $$ [H2 H3 H4 H5 H6 H7 H8 H9 H10 H11 H12 H13 H14 H15 H16 H17 H18 H19]
  · unfold St owns
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    isplitl [H7]
    · iexists f7; isplitr; · ipureintro; exact hf7
      iexact H7
    isplitl [H8]
    · iexists f8; isplitr; · ipureintro; exact hf8
      iexact H8
    isplitl [H9]
    · iexists f9; isplitr; · ipureintro; exact hf9
      iexact H9
    isplitl [H10]
    · iexists f10; isplitr; · ipureintro; exact hf10
      iexact H10
    isplitl [H11]
    · iexists f11; isplitr; · ipureintro; exact hf11
      iexact H11
    isplitl [H12]
    · iexists _; iexists _; isplitr; swap; · iexact H12
      ipureintro; rfl
    isplitl [H13]
    · iexists _; iexists _; isplitr; swap; · iexact H13
      ipureintro; rfl
    isplitl [H14]
    · iexists _; iexists _; isplitr; swap; · iexact H14
      ipureintro; rfl
    isplitl [H15]
    · iexists _; iexists _; isplitr; swap; · iexact H15
      ipureintro; rfl
    isplitl [H16]
    · iexists _; iexists _; isplitr; swap; · iexact H16
      ipureintro; rfl
    isplitl [H17]
    · iexists _; iexists _; isplitr; swap; · iexact H17
      ipureintro; rfl
    isplitl [H18]
    · iexists _; iexists _; isplitr; swap; · iexact H18
      ipureintro; rfl
    iexists _; iexists _; isplitr; swap; · iexact H19
    ipureintro; rfl
  iintro %u HS
  unfold St owns
  icases HS with ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  sl_exec_parts (disch := first | sl_exact h3 | sl_exact h4)
  sl_step
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists f10; isplitr; · ipureintro; exact hf10
    iexact H10
  isplitl [H11]
  · iexists f11; isplitr; · ipureintro; exact hf11
    iexact H11
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  isplitl [H18]
  · iexists _; iexists _; isplitr; swap; · iexact H18
    ipureintro; rfl
  iexists _; iexists _; isplitr; swap; · iexact H19
  ipureintro; rfl

end Cert.DiffRun

end
-- ==== Proof.DiffEven.lean ====
module

public import proofs.«01_k».proof.Proof.DiffParts
public import proofs.«01_k».proof.Proof.DiffTrip1
public import proofs.«01_k».proof.Proof.DiffTrip3

@[expose] public section

set_option maxRecDepth 65536

noncomputable section

namespace Cert.DiffRun

open Cert.DiffIdeal Cert.DiffIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S512x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x512x512 .f32) (harg5 : arg5.IsWhole) (arg6 : Memref sig .tc .vmem S1x128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x256 .f32) (harg11 : arg11.IsWhole) (arg12 : Memref sig .tc .vmem S512x256 .bf16) (harg12 : arg12.IsWhole) (arg13 : Memref sig .tc .vmem S2x512x128 .f32) (harg13 : arg13.IsWhole) (arg14 : Memref sig .tc .vmem S2x512x128 .f32) (harg14 : arg14.IsWhole) (arg15 : Memref sig .tc .vmem S2x512x256 .f32) (harg15 : arg15.IsWhole) (arg16 : Memref sig .tc .vmem S2x2x512x512 .f32) (harg16 : arg16.IsWhole) (arg17 : Memref sig .tc .vmem S2x2x512x128 .f32) (harg17 : arg17.IsWhole) (arg18 : Memref sig .tc .vmem S2x2x512x512 .bf16) (harg18 : arg18.IsWhole) (arg19 : Memref sig .tc .vmem S2x2x512x128 .f32) (harg19 : arg19.IsWhole) (x2 : Vec F S512x256 .bf16) (x3 : Vec F S16384x256 .bf16) (x4 : Vec F S16384x256 .bf16) (x5 : Vec F S1x512x512 .f32) (x6 : Vec F S1x128x128 .f32) (x7 : Vec F S1x128 .f32) (x8 : Vec F S1x128 .f32) (x9 : Vec F S1x128 .f32) (x10 : Vec F S1x128 .f32) (x11 : Vec F S1x256 .f32)

set_option maxHeartbeats 60000000 in
/-- The third part where the count of tiles is even. -/
theorem part96_even (h3 : ¬ k0_cond3 i = 1#1) (arg1 v1 v18 v63 v67 : BitVec 32) :
    St c arg2 arg3 arg4 arg5 arg6 arg7 arg8 arg9 arg10 arg11 arg12 arg13 arg14 arg15 arg16 arg17 arg18 arg19 x2 x3 x4 x5 x6 x7 x8 x9 x10 x11 ⊢ wp frame (wpE (defs₀ (F := F)) Variants.none c none) Set.univ (k0_part96 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v18 v63 v67) (fun _ => St c arg2 arg3 arg4 arg5 arg6 arg7 arg8 arg9 arg10 arg11 arg12 arg13 arg14 arg15 arg16 arg17 arg18 arg19 x2 x3 x4 x5 x6 x7 x8 x9 x10 x11) := by
  have h4 := incl i h3
  rw [k0_part96_eq_skeleton]
  unfold k0_part96_skel
  unfold St owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  sl_exec_parts
  iapply (Scf.wp_for_bind frame (wpE (defs₀ (F := F)) Variants.none c none) Set.univ _ _ _ _ _ _ (fun _ _ => St c arg2 arg3 arg4 arg5 arg6 arg7 arg8 arg9 arg10 arg11 arg12 arg13 arg14 arg15 arg16 arg17 arg18 arg19 x2 x3 x4 x5 x6 x7 x8 x9 x10 x11)
    (fun k u => trip3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x8 x9 x10 x11 arg1 v1 v18 v63 v67 k u)) $$ [H2 H3 H4 H5 H6 H7 H8 H9 H10 H11 H12 H13 H14 H15 H16 H17 H18 H19]
  · unfold St owns
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    isplitl [H7]
    · iexists f7; isplitr; · ipureintro; exact hf7
      iexact H7
    isplitl [H8]
    · iexists f8; isplitr; · ipureintro; exact hf8
      iexact H8
    isplitl [H9]
    · iexists f9; isplitr; · ipureintro; exact hf9
      iexact H9
    isplitl [H10]
    · iexists f10; isplitr; · ipureintro; exact hf10
      iexact H10
    isplitl [H11]
    · iexists f11; isplitr; · ipureintro; exact hf11
      iexact H11
    isplitl [H12]
    · iexists _; iexists _; isplitr; swap; · iexact H12
      ipureintro; rfl
    isplitl [H13]
    · iexists _; iexists _; isplitr; swap; · iexact H13
      ipureintro; rfl
    isplitl [H14]
    · iexists _; iexists _; isplitr; swap; · iexact H14
      ipureintro; rfl
    isplitl [H15]
    · iexists _; iexists _; isplitr; swap; · iexact H15
      ipureintro; rfl
    isplitl [H16]
    · iexists _; iexists _; isplitr; swap; · iexact H16
      ipureintro; rfl
    isplitl [H17]
    · iexists _; iexists _; isplitr; swap; · iexact H17
      ipureintro; rfl
    isplitl [H18]
    · iexists _; iexists _; isplitr; swap; · iexact H18
      ipureintro; rfl
    iexists _; iexists _; isplitr; swap; · iexact H19
    ipureintro; rfl
  iintro %u HS
  unfold St owns
  icases HS with ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  sl_exec_parts
  iapply (Scf.wp_for_bind frame (wpE (defs₀ (F := F)) Variants.none c none) Set.univ _ _ _ _ _ _ (fun _ _ => St c arg2 arg3 arg4 arg5 arg6 arg7 arg8 arg9 arg10 arg11 arg12 arg13 arg14 arg15 arg16 arg17 arg18 arg19 x2 x3 x4 x5 x6 x7 x8 x9 x10 x11)
    (fun k u => trip4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x8 x9 x10 x11 arg1 v1 v18 v63 v67 _ k u)) $$ [H2 H3 H4 H5 H6 H7 H8 H9 H10 H11 H12 H13 H14 H15 H16 H17 H18 H19]
  · unfold St owns
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    isplitl [H7]
    · iexists f7; isplitr; · ipureintro; exact hf7
      iexact H7
    isplitl [H8]
    · iexists f8; isplitr; · ipureintro; exact hf8
      iexact H8
    isplitl [H9]
    · iexists f9; isplitr; · ipureintro; exact hf9
      iexact H9
    isplitl [H10]
    · iexists f10; isplitr; · ipureintro; exact hf10
      iexact H10
    isplitl [H11]
    · iexists f11; isplitr; · ipureintro; exact hf11
      iexact H11
    isplitl [H12]
    · iexists _; iexists _; isplitr; swap; · iexact H12
      ipureintro; rfl
    isplitl [H13]
    · iexists _; iexists _; isplitr; swap; · iexact H13
      ipureintro; rfl
    isplitl [H14]
    · iexists _; iexists _; isplitr; swap; · iexact H14
      ipureintro; rfl
    isplitl [H15]
    · iexists _; iexists _; isplitr; swap; · iexact H15
      ipureintro; rfl
    isplitl [H16]
    · iexists _; iexists _; isplitr; swap; · iexact H16
      ipureintro; rfl
    isplitl [H17]
    · iexists _; iexists _; isplitr; swap; · iexact H17
      ipureintro; rfl
    isplitl [H18]
    · iexists _; iexists _; isplitr; swap; · iexact H18
      ipureintro; rfl
    iexists _; iexists _; isplitr; swap; · iexact H19
    ipureintro; rfl
  iintro %u HS
  unfold St owns
  icases HS with ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  sl_exec_parts (disch := first | sl_exact h3 | sl_exact h4)
  sl_step
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists f10; isplitr; · ipureintro; exact hf10
    iexact H10
  isplitl [H11]
  · iexists f11; isplitr; · ipureintro; exact hf11
    iexact H11
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  isplitl [H18]
  · iexists _; iexists _; isplitr; swap; · iexact H18
    ipureintro; rfl
  iexists _; iexists _; isplitr; swap; · iexact H19
  ipureintro; rfl

end Cert.DiffRun

end
-- ==== Proof.DiffBody.lean ====
module

public import proofs.«01_k».proof.Proof.DiffMid
public import proofs.«01_k».proof.Proof.DiffOdd
public import proofs.«01_k».proof.Proof.DiffEven

@[expose] public section

set_option maxRecDepth 65536

noncomputable section

namespace Cert.DiffRun

open Cert.DiffIdeal Cert.DiffIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S512x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x512x512 .f32) (harg5 : arg5.IsWhole) (arg6 : Memref sig .tc .vmem S1x128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x256 .f32) (harg11 : arg11.IsWhole) (arg12 : Memref sig .tc .vmem S512x256 .bf16) (harg12 : arg12.IsWhole) (arg13 : Memref sig .tc .vmem S2x512x128 .f32) (harg13 : arg13.IsWhole) (arg14 : Memref sig .tc .vmem S2x512x128 .f32) (harg14 : arg14.IsWhole) (arg15 : Memref sig .tc .vmem S2x512x256 .f32) (harg15 : arg15.IsWhole) (arg16 : Memref sig .tc .vmem S2x2x512x512 .f32) (harg16 : arg16.IsWhole) (arg17 : Memref sig .tc .vmem S2x2x512x128 .f32) (harg17 : arg17.IsWhole) (arg18 : Memref sig .tc .vmem S2x2x512x512 .bf16) (harg18 : arg18.IsWhole) (arg19 : Memref sig .tc .vmem S2x2x512x128 .f32) (harg19 : arg19.IsWhole) (x2 : Vec F S512x256 .bf16) (x3 : Vec F S16384x256 .bf16) (x4 : Vec F S16384x256 .bf16) (x5 : Vec F S1x512x512 .f32) (x6 : Vec F S1x128x128 .f32) (x7 : Vec F S1x128 .f32) (x8 : Vec F S1x128 .f32) (x9 : Vec F S1x128 .f32) (x10 : Vec F S1x128 .f32) (x11 : Vec F S1x256 .f32)

/-- A part that keeps what the point holds, then the rest. -/
theorem seq {α β : Type} (S : sProp 𝕄) {p : Prog (TpuEff nD τ sig (Elt F) Λ₀ .tc) α} {k : α → Prog (TpuEff nD τ sig (Elt F) Λ₀ .tc) β} {Q : β → sProp 𝕄}
    (h1 : S ⊢ wp frame (wpE (defs₀ (F := F)) Variants.none c none) Set.univ p (fun _ => S))
    (h2 : ∀ a, S ⊢ wp frame (wpE (defs₀ (F := F)) Variants.none c none) Set.univ (k a) Q) :
    S ⊢ wp frame (wpE (defs₀ (F := F)) Variants.none c none) Set.univ (p >>= k) Q := by
  rw [wp_bind]
  exact h1.trans (wp_mono frame (wpE (defs₀ (F := F)) Variants.none c none) Set.univ h2)

set_option maxHeartbeats 60000000 in
/-- One point of the body: from the inputs' blocks, and the output and the scratches at anything, it ends with the same. -/
theorem body :
    St c arg2 arg3 arg4 arg5 arg6 arg7 arg8 arg9 arg10 arg11 arg12 arg13 arg14 arg15 arg16 arg17 arg18 arg19 x2 x3 x4 x5 x6 x7 x8 x9 x10 x11 ⊢ wp frame (wpE (defs₀ (F := F)) Variants.none c none) Set.univ (cc0_diff_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => St c arg2 arg3 arg4 arg5 arg6 arg7 arg8 arg9 arg10 arg11 arg12 arg13 arg14 arg15 arg16 arg17 arg18 arg19 x2 x3 x4 x5 x6 x7 x8 x9 x10 x11) := by
  rw [cc0_diff_attn_eq_skeleton]
  unfold cc0_diff_attn_skel
  refine seq c _ (part94 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x8 x9 x10 x11) ?_
  rintro ⟨arg1, v1, v18, v32⟩
  refine seq c _ (part95 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x8 x9 x10 x11 v18 v32) ?_
  rintro ⟨v63, v67⟩
  refine seq c _ ?_ ?_
  · by_cases h3 : k0_cond3 i = 1#1
    · exact part96_odd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x8 x9 x10 x11 h3 _ _ _ _ _
    · exact part96_even c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x8 x9 x10 x11 h3 _ _ _ _ _
  rintro ⟨v95, v97, v99⟩
  refine seq c _ (part97 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x2 x3 x4 x5 x6 x7 x8 x9 x10 x11 v95 v97 v99) ?_
  rintro ⟨v135, v138⟩
  unfold St owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  sl_exec_parts
  sl_step
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists f10; isplitr; · ipureintro; exact hf10
    iexact H10
  isplitl [H11]
  · iexists f11; isplitr; · ipureintro; exact hf11
    iexact H11
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  isplitl [H16]
  · iexists _; iexists _; isplitr; swap; · iexact H16
    ipureintro; rfl
  isplitl [H17]
  · iexists _; iexists _; isplitr; swap; · iexact H17
    ipureintro; rfl
  isplitl [H18]
  · iexists _; iexists _; isplitr; swap; · iexact H18
    ipureintro; rfl
  iexists _; iexists _; isplitr; swap; · iexact H19
  ipureintro; rfl

end Cert.DiffRun

end
-- ==== Proof.DiffFrame.lean ====
module

public import proofs.«01_k».proof.Proof.Gen.Diff
public import proofs.«01_k».proof.Proof.DiffBody
public import proofs.«01_k».proof.Defs

@[expose] public section

set_option maxRecDepth 65536

noncomputable section

namespace Cert.DiffRun

open Cert.DiffIdeal Cert.DiffIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the region: the scratches at anything. -/
theorem PhiA0_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA; rw [scopedRest0_eq]; simp only [owns_whole]; try rfl

/-- The pipeline's proof data: each input's buffer at its block; of the output's nothing is said (a stand-in no theorem reads). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => fun _ => Scalar.ofBits .bf16 0#16
  Φ _ := Pipeline.ΦA spec0 c
  q w := Pipeline.shareOf spec0 w
  owed _ := 0

/-- The window whose contents are not named: the output's. -/
def fgt : Fin cfg0.W → Bool := ![false, false, false, false, false, false, false, false, false, false, true]

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ X, owns (c : Thread nD τ) (st0_10 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (∃ X, owns (c : Thread nD τ) (st0_10 t) fullShare X))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = Pipeline.ΦA spec0 c from rfl, show (dats m 0 c).Φ t.castSucc = Pipeline.ΦA spec0 c from rfl, PhiA0_eq]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
  iapply (wp_wand_r frame (wpE (defs₀ (F := F)) Variants.none c none) Set.univ)
  isplitl [HS0 HS1 HS2 HS3 HS4 HS5 HS6 H0 H1 H2 H3 H4 H5 H6 H7 H8 H9 H10]
  · iapply (body c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t))
    unfold St
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    isplitl [HS3]; · iexact HS3
    isplitl [HS4]; · iexact HS4
    isplitl [HS5]; · iexact HS5
    iexact HS6
  iintro %a HT
  unfold St
  icases HT with ⟨H0, H1, H2, H3, H4, H5, H6, H7, H8, H9, H10, HS0, HS1, HS2, HS3, HS4, HS5, HS6⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) : defs₀ (F := F) .tc cfg0.body (cfg0.bodyArgs t (cfg0.slots t)) = bodyAt0 t := by
  unfold defs₀; rw [Defs.onTc_tc]

/-- The body's obligation at every point, the output's contents not named. -/
theorem body_obligation (c : Dev nD) : Pipeline.BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The frame over any float values: it runs, the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_frame_forget_shared cfgs (dats m) (0 : Fin 1) launch₀0 defs₀ Variants.none fgt m ρ main
    (hbody := body_obligation m) (hq := fun _ _ _ => rfl)
    (howed := fun _ _ => rfl) (V := V m) (hmain := hmain m Variants.none) (hA := A_eq m) (hΦ := fun _ _ => rfl) (Q' := _)
    (hQ' := fun r h => ⟨fun c => ⟨(((dats m 0 c).toRForget_arrAt_iff (fgt := fgt) (w := 2) rfl _ _).mp ((h.1 c).1 2)).trans (((dats m 0 c).arrAt_in 2 rfl _).trans ((A_eq m c 2).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩)

set_option maxHeartbeats 8000000 in
/-- The body tables of the two programs are one table: the printed texts are the same. -/
theorem bodies_eq : Cert.DiffIdeal.defs₀ (F := Bits) = Cert.Diff.defs₀ (F := Bits) := by
  unfold Cert.DiffIdeal.defs₀ Cert.Diff.defs₀
  refine congrArg Defs.onTc ?_
  funext l a
  match l, a with
  | 0, (t, s) => rfl

set_option maxHeartbeats 8000000 in
theorem tables_eq : Cert.DiffIdeal.defs (F := Bits) = Cert.Diff.defs (F := Bits) :=
  congrArg (Pipeline.defs (Cert.Diff.pcfgs (F := Bits))) bodies_eq

set_option maxHeartbeats 8000000 in
/-- The frame of the program at float words: the run above, transferred along the equal tables. -/
theorem frame_words : Cert.quiescent_Diff := fun m ρ _ => by
  have h := frame (F := Bits) m ρ
  rw [tables_eq] at h
  exact h

end Cert.DiffRun

end
-- ==== Proof.WinRef.lean ====
module

public import proofs.«01_k».proof.Proof.Gen.SwaRefIdeal
public import Idealize.ShloMosaic.Lib.Pipeline.ValueKit
public import Idealize.ShloMosaic.Lib.Claim

@[expose] public section

set_option maxRecDepth 16384

noncomputable section

namespace Cert.WinRef

open Idealize.ShloMosaic Idealize.ShloMosaic.TcCoe Idealize.SL.Sem
open Cert.SwaRefIdeal Cert.SwaRefIdeal.Gen

/-- The distance from a key to a query, by their places in the band. -/
def DIST : IVec S128x256 32 :=
  subi (broadcastInDim S128x256 ![0, 1] bcast_S128x1_S128x256_0_1 (addi (broadcastInDim S128x1 ![] bcast_S_S128x1 (constantI S_ 32 128#32)) (broadcastInDim S128x1 ![0] bcast_S128_S128x1_0 (iotaInDim S128 32 0)))) (broadcastInDim S128x256 ![0, 1] bcast_S1x256_S128x256_0_1 (broadcastInDim S1x256 ![1] bcast_S256_S1x256_1 (iotaInDim S256 32 0)))

/-- The row of the bias table a distance takes. -/
def BUCKET : IVec S128x256 32 :=
  select (cmpi .slt (select (cmpi .slt (maxsi DIST (broadcastInDim S128x256 ![] bcast_S_S128x256 (constantI S_ 32 0#32))) (broadcastInDim S128x256 ![] bcast_S_S128x256 (constantI S_ 32 16#32))) (maxsi DIST (broadcastInDim S128x256 ![] bcast_S_S128x256 (constantI S_ 32 0#32))) (minsi (addi (broadcastInDim S128x256 ![] bcast_S_S128x256 (constantI S_ 32 16#32)) (fptosi 32 (mulf (Host.divf (Host.log (Host.divf (sitofp .f32 (maxsi (maxsi DIST (broadcastInDim S128x256 ![] bcast_S_S128x256 (constantI S_ 32 0#32))) (broadcastInDim S128x256 ![] bcast_S_S128x256 (constantI S_ 32 1#32)))) (broadcastInDim S128x256 ![] bcast_S_S128x256 (constant S_ .f32 0x41800000#32)))) (broadcastInDim S128x256 ![] bcast_S_S128x256 (constant S_ .f32 0x40051592#32))) (broadcastInDim S128x256 ![] bcast_S_S128x256 (constant S_ .f32 0x41800000#32)) : FVec Ideal S128x256 .f32))) (broadcastInDim S128x256 ![] bcast_S_S128x256 (constantI S_ 32 31#32)))) (broadcastInDim S128x256 ![] bcast_S_S128x256 (constantI S_ 32 0#32))) (addi (select (cmpi .slt (maxsi DIST (broadcastInDim S128x256 ![] bcast_S_S128x256 (constantI S_ 32 0#32))) (broadcastInDim S128x256 ![] bcast_S_S128x256 (constantI S_ 32 16#32))) (maxsi DIST (broadcastInDim S128x256 ![] bcast_S_S128x256 (constantI S_ 32 0#32))) (minsi (addi (broadcastInDim S128x256 ![] bcast_S_S128x256 (constantI S_ 32 16#32)) (fptosi 32 (mulf (Host.divf (Host.log (Host.divf (sitofp .f32 (maxsi (maxsi DIST (broadcastInDim S128x256 ![] bcast_S_S128x256 (constantI S_ 32 0#32))) (broadcastInDim S128x256 ![] bcast_S_S128x256 (constantI S_ 32 1#32)))) (broadcastInDim S128x256 ![] bcast_S_S128x256 (constant S_ .f32 0x41800000#32)))) (broadcastInDim S128x256 ![] bcast_S_S128x256 (constant S_ .f32 0x40051592#32))) (broadcastInDim S128x256 ![] bcast_S_S128x256 (constant S_ .f32 0x41800000#32)) : FVec Ideal S128x256 .f32))) (broadcastInDim S128x256 ![] bcast_S_S128x256 (constantI S_ 32 31#32)))) (broadcastInDim S128x256 ![] bcast_S_S128x256 (constantI S_ 32 32#32))) (select (cmpi .slt (maxsi DIST (broadcastInDim S128x256 ![] bcast_S_S128x256 (constantI S_ 32 0#32))) (broadcastInDim S128x256 ![] bcast_S_S128x256 (constantI S_ 32 16#32))) (maxsi DIST (broadcastInDim S128x256 ![] bcast_S_S128x256 (constantI S_ 32 0#32))) (minsi (addi (broadcastInDim S128x256 ![] bcast_S_S128x256 (constantI S_ 32 16#32)) (fptosi 32 (mulf (Host.divf (Host.log (Host.divf (sitofp .f32 (maxsi (maxsi DIST (broadcastInDim S128x256 ![] bcast_S_S128x256 (constantI S_ 32 0#32))) (broadcastInDim S128x256 ![] bcast_S_S128x256 (constantI S_ 32 1#32)))) (broadcastInDim S128x256 ![] bcast_S_S128x256 (constant S_ .f32 0x41800000#32)))) (broadcastInDim S128x256 ![] bcast_S_S128x256 (constant S_ .f32 0x40051592#32))) (broadcastInDim S128x256 ![] bcast_S_S128x256 (constant S_ .f32 0x41800000#32)) : FVec Ideal S128x256 .f32))) (broadcastInDim S128x256 ![] bcast_S_S128x256 (constantI S_ 32 31#32))))

/-- The bias of a head at a query and a key of the band. -/
def BIAS (RB : FVec Ideal S32x24 .f32) : FVec Ideal S2x8x128x256 .f32 :=
  shapeCast _ (transpose S16x128x256 [2, 0, 1] (Host.gather gather_S32x16_S128x256x1_S128x256x16_2_0_n_n_0_2_116 (extractStridedSlice S32x16 ![0, 0] RB slices_S32x24_S32x16_0_0) (broadcastInDim S128x256x1 ![0, 1] bcast_S128x256_S128x256x1_0_1 BUCKET)) transposes_S128x256x16_S16x128x256_2_0_1) shapeCasts_S16x128x256_S2x8x128x256

/-- Which keys of the band a query sees. -/
def VALID : IVec S128x128x256 1 :=
  andi (broadcastInDim S128x128x256 ![0, 1, 2] bcast_S1x128x256_S128x128x256_0_1_2 (broadcastInDim S1x128x256 ![1, 2] bcast_S128x256_S1x128x256_1_2 (andi (cmpi .sge DIST (broadcastInDim S128x256 ![] bcast_S_S128x256 (constantI S_ 32 0#32))) (cmpi .slt DIST (broadcastInDim S128x256 ![] bcast_S_S128x256 (constantI S_ 32 128#32)))))) (broadcastInDim S128x128x256 ![0, 1, 2] bcast_S128x1x256_S128x128x256_0_1_2 (broadcastInDim S128x1x256 ![0, 2] bcast_S128x256_S128x1x256_0_2 (cmpi .sge (addi (broadcastInDim S128x256 ![0, 1] bcast_S128x1_S128x256_0_1 (muli (subi (broadcastInDim S128x1 ![0] bcast_S128_S128x1_0 (iotaInDim S128 32 0)) (broadcastInDim S128x1 ![] bcast_S_S128x1 (constantI S_ 32 1#32))) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32)))))

/-- The keys a block of queries may see: its own block and the one before. -/
def BANDK (X : FVec Ideal S16384x8704 .bf16) : FVec Ideal S128x256x2x128 .f32 :=
  concatenate S128x256x2x128 1 [⟨S128x128x2x128, (extractStridedSlice S128x128x2x128 ![0, 0, 0, 0] (shapeCast _ (pad S16512x2x128 ![128, 0, 0] ![0, 0, 0] ![0, 0, 0] (shapeCast _ (extractStridedSlice S16384x256 ![0, 2048] (extf .f32 X bitsLt_bf16_f32) slices_S16384x8704_S16384x256_0_2048) shapeCasts_S16384x256_S16384x2x128) (sitofp .f32 (constantI S_ 32 0#32)) pads_S16384x2x128_S16512x2x128_12800_000_000 h_S_) shapeCasts_S16512x2x128_S129x128x2x128) slices_S129x128x2x128_S128x128x2x128_0_0_0_0)⟩, ⟨S128x128x2x128, (extractStridedSlice S128x128x2x128 ![1, 0, 0, 0] (shapeCast _ (pad S16512x2x128 ![128, 0, 0] ![0, 0, 0] ![0, 0, 0] (shapeCast _ (extractStridedSlice S16384x256 ![0, 2048] (extf .f32 X bitsLt_bf16_f32) slices_S16384x8704_S16384x256_0_2048) shapeCasts_S16384x256_S16384x2x128) (sitofp .f32 (constantI S_ 32 0#32)) pads_S16384x2x128_S16512x2x128_12800_000_000 h_S_) shapeCasts_S16512x2x128_S129x128x2x128) slices_S129x128x2x128_S128x128x2x128_1_0_0_0)⟩] concatenates_S128x128x2x128_S128x128x2x128_S128x256x2x128_d1

/-- The values that belong to those keys. -/
def BANDV (X : FVec Ideal S16384x8704 .bf16) : FVec Ideal S128x256x2x128 .f32 :=
  concatenate S128x256x2x128 1 [⟨S128x128x2x128, (extractStridedSlice S128x128x2x128 ![0, 0, 0, 0] (shapeCast _ (pad S16512x2x128 ![128, 0, 0] ![0, 0, 0] ![0, 0, 0] (shapeCast _ (extractStridedSlice S16384x256 ![0, 2304] (extf .f32 X bitsLt_bf16_f32) slices_S16384x8704_S16384x256_0_2304) shapeCasts_S16384x256_S16384x2x128) (sitofp .f32 (constantI S_ 32 0#32)) pads_S16384x2x128_S16512x2x128_12800_000_000 h_S_) shapeCasts_S16512x2x128_S129x128x2x128) slices_S129x128x2x128_S128x128x2x128_0_0_0_0)⟩, ⟨S128x128x2x128, (extractStridedSlice S128x128x2x128 ![1, 0, 0, 0] (shapeCast _ (pad S16512x2x128 ![128, 0, 0] ![0, 0, 0] ![0, 0, 0] (shapeCast _ (extractStridedSlice S16384x256 ![0, 2304] (extf .f32 X bitsLt_bf16_f32) slices_S16384x8704_S16384x256_0_2304) shapeCasts_S16384x256_S16384x2x128) (sitofp .f32 (constantI S_ 32 0#32)) pads_S16384x2x128_S16512x2x128_12800_000_000 h_S_) shapeCasts_S16512x2x128_S129x128x2x128) slices_S129x128x2x128_S128x128x2x128_1_0_0_0)⟩] concatenates_S128x128x2x128_S128x128x2x128_S128x256x2x128_d1

/-- The logits, masked where a query does not see a key. -/
def LOGITS (X : FVec Ideal S16384x8704 .bf16) (RB : FVec Ideal S32x24 .f32) : FVec Ideal S128x2x8x128x256 .f32 :=
  select (broadcastInDim S128x2x8x128x256 ![0, 1, 2, 3, 4] bcast_S128x1x1x128x256_S128x2x8x128x256_0_1_2_3_4 (broadcastInDim S128x1x1x128x256 ![0, 3, 4] bcast_S128x128x256_S128x1x1x128x256_0_3_4 VALID)) (addf (transpose S128x2x8x128x256 [0, 1, 4, 3, 2] (Host.dotGeneral dot_S128x256x2x128_S128x128x2x8x128_S128x2x256x128x8_3_4_1_13_02_02 none (BANDK X) (shapeCast _ (extractStridedSlice S16384x2048 ![0, 0] (extf .f32 X bitsLt_bf16_f32) slices_S16384x8704_S16384x2048_0_0) shapeCasts_S16384x2048_S128x128x2x8x128)) transposes_S128x2x256x128x8_S128x2x8x128x256_0_1_4_3_2) (broadcastInDim S128x2x8x128x256 ![0, 1, 2, 3, 4] bcast_S1x2x8x128x256_S128x2x8x128x256_0_1_2_3_4 (broadcastInDim S1x2x8x128x256 ![1, 2, 3, 4] bcast_S2x8x128x256_S1x2x8x128x256_1_2_3_4 (BIAS RB)))) (broadcastInDim S128x2x8x128x256 ![] bcast_S_S128x2x8x128x256 (id (constant S_ .f32 0xFF800000#32)))

/-- The logits with the head's sink behind them. -/
def CAT (X : FVec Ideal S16384x8704 .bf16) (SK : FVec Ideal S16 .f32) (RB : FVec Ideal S32x24 .f32) : FVec Ideal S128x2x8x128x257 .f32 :=
  concatenate S128x2x8x128x257 4 [⟨S128x2x8x128x256, (LOGITS X RB)⟩, ⟨S128x2x8x128x1, (broadcastInDim S128x2x8x128x1 ![1, 2, 3, 4] bcast_S2x8x1x1_S128x2x8x128x1_1_2_3_4 (shapeCast _ SK shapeCasts_S16_S2x8x1x1))⟩] concatenates_S128x2x8x128x256_S128x2x8x128x1_S128x2x8x128x257_d4

/-- The largest logit of a query and a head. -/
def TOP (X : FVec Ideal S16384x8704 .bf16) (SK : FVec Ideal S16 .f32) (RB : FVec Ideal S32x24 .f32) : FVec Ideal S128x2x8x128 .f32 :=
  Host.reduce FloatOps.maximumf (CAT X SK RB) (constant S_ .f32 0xFF800000#32) reducesTo_S128x2x8x128x257_S128x2x8x128_d4 h_S_

/-- The largest logit, from the bottom up. -/
def MX (X : FVec Ideal S16384x8704 .bf16) (SK : FVec Ideal S16 .f32) (RB : FVec Ideal S32x24 .f32) : FVec Ideal S128x2x8x128 .f32 :=
  maximumf (broadcastInDim S128x2x8x128 ![] bcast_S_S128x2x8x128 (constant S_ .f32 0xFF800000#32)) (TOP X SK RB)

/-- The largest logit at every key. -/
def MXS (X : FVec Ideal S16384x8704 .bf16) (SK : FVec Ideal S16 .f32) (RB : FVec Ideal S32x24 .f32) : FVec Ideal S128x2x8x128x257 .f32 :=
  broadcastInDim S128x2x8x128x257 ![0, 1, 2, 3, 4] bcast_S128x2x8x128x1_S128x2x8x128x257_0_1_2_3_4 (broadcastInDim S128x2x8x128x1 ![0, 1, 2, 3] bcast_S128x2x8x128_S128x2x8x128x1_0_1_2_3 (MX X SK RB))

/-- The exponentials of the logits, less the largest. -/
def NUM (X : FVec Ideal S16384x8704 .bf16) (SK : FVec Ideal S16 .f32) (RB : FVec Ideal S32x24 .f32) : FVec Ideal S128x2x8x128x257 .f32 :=
  Host.exp (subf (CAT X SK RB) (MXS X SK RB))

/-- The sums of those exponentials. -/
def DEN (X : FVec Ideal S16384x8704 .bf16) (SK : FVec Ideal S16 .f32) (RB : FVec Ideal S32x24 .f32) : FVec Ideal S128x2x8x128 .f32 :=
  Host.reduceAdd (NUM X SK RB) (constant S_ .f32 0x00000000#32) reducesTo_S128x2x8x128x257_S128x2x8x128_d4 h_S_

/-- The softmax of those. -/
def SOFT (X : FVec Ideal S16384x8704 .bf16) (SK : FVec Ideal S16 .f32) (RB : FVec Ideal S32x24 .f32) : FVec Ideal S128x2x8x128x257 .f32 :=
  Host.divf (NUM X SK RB) (broadcastInDim S128x2x8x128x257 ![0, 1, 2, 3, 4] bcast_S128x2x8x128x1_S128x2x8x128x257_0_1_2_3_4 (broadcastInDim S128x2x8x128x1 ![0, 1, 2, 3] bcast_S128x2x8x128_S128x2x8x128x1_0_1_2_3 (DEN X SK RB)))

/-- The values weighted with the softmax. -/
def MIX (X : FVec Ideal S16384x8704 .bf16) (SK : FVec Ideal S16 .f32) (RB : FVec Ideal S32x24 .f32) : FVec Ideal S128x2x128x8x128 .f32 :=
  Host.dotGeneral dot_S128x256x2x128_S128x2x8x128x256_S128x2x128x8x128_1_4_3_23_02_01 none (BANDV X) (extractStridedSlice S128x2x8x128x256 ![0, 0, 0, 0, 0] (SOFT X SK RB) slices_S128x2x8x128x257_S128x2x8x128x256_0_0_0_0_0)

/-- Those sums, with a block's rows behind its number. -/
def ROWS (X : FVec Ideal S16384x8704 .bf16) (SK : FVec Ideal S16 .f32) (RB : FVec Ideal S32x24 .f32) : FVec Ideal S128x128x2x8x128 .f32 :=
  transpose S128x128x2x8x128 [0, 4, 1, 3, 2] (MIX X SK RB) transposes_S128x2x128x8x128_S128x128x2x8x128_0_4_1_3_2

/-- The reference's result over the argument arrays. -/
def REF (X : FVec Ideal S16384x8704 .bf16) (SK : FVec Ideal S16 .f32) (RB : FVec Ideal S32x24 .f32) : FVec Ideal S16384x2048 .bf16 :=
  truncf .bf16 (shapeCast _ (ROWS X SK RB) shapeCasts_S128x128x2x8x128_S16384x2048) bitsLt_bf16_f32

/-- A row of a table with 16 columns, gathered. -/
theorem gather_at (x : FVec Ideal S32x16 .f32) (i : IVec S128x256x1 32) (r : Fin 128) (k : Fin 256) (h : Fin 16) :
    Host.gather gather_S32x16_S128x256x1_S128x256x16_2_0_n_n_0_2_116 x i (ix3 r k h) = x (ix2 ⟨min (i (ix3 r k 0)).toInt.toNat 31, by omega⟩ h) := by
  unfold Host.gather
  congr 1
  funext a
  refine Fin.ext ?_
  show GatherDims.start _ _ i a + GatherDims.batchCoord _ _ a + GatherDims.offCoord _ _ a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S32x16_S128x256x1_S128x256x16_2_0_n_n_0_2_116.startIndexMap from List.mem_singleton.mpr rfl)]
    have hsi : gather_S32x16_S128x256x1_S128x256x16_2_0_n_n_0_2_116.siIdx (ix3 r k h) ⟨List.idxOf (0 : Fin 2) gather_S32x16_S128x256x1_S128x256x16_2_0_n_n_0_2_116.startIndexMap, List.idxOf_lt_length_iff.2 (List.mem_singleton.mpr rfl)⟩ = ix3 r k 0 := by
      funext b; refine Fin.ext ?_
      match b with
      | ⟨0, _⟩ => rfl
      | ⟨1, _⟩ => rfl
      | ⟨2, _⟩ => rfl
    rw [hsi]
    rfl
  · unfold GatherDims.start
    rw [dif_neg (show (1 : Fin 2) ∉ gather_S32x16_S128x256x1_S128x256x16_2_0_n_n_0_2_116.startIndexMap from by decide)]
    unfold GatherDims.offCoord
    rw [dif_pos (show (1 : Fin 2) ∈ gather_S32x16_S128x256x1_S128x256x16_2_0_n_n_0_2_116.sKept from by decide)]
    show 0 + 0 + h.val = h.val
    omega

theorem dist_at (r : Fin 128) (k : Fin 256) : DIST (ix2 r k) = IntOp.subi (IntOp.addi 128#32 (BitVec.ofNat 32 r.val)) (BitVec.ofNat 32 k.val) := by
  pointwise [DIST]

theorem valid_at (n : Fin 128) (r : Fin 128) (k : Fin 256) : VALID (ix3 n r k) = IntOp.andi
      (IntOp.andi (IntOp.cmpi .sge (DIST (ix2 r k)) 0#32) (IntOp.cmpi .slt (DIST (ix2 r k)) 128#32))
      (IntOp.cmpi .sge (IntOp.addi (IntOp.muli (IntOp.subi (BitVec.ofNat 32 n.val) 1#32) 128#32) (BitVec.ofNat 32 k.val)) 0#32) := by
  pointwise [VALID]

/-- The row of the bias table, as a word, before a negative one is moved up. -/
def bw0 (u : BitVec 32) : BitVec 32 :=
  Scalar.select (IntOp.cmpi .slt (IntOp.maxsi u 0#32) 16#32) (IntOp.maxsi u 0#32)
    (IntOp.minsi (IntOp.addi 16#32 (FloatOps.fptosi (F := Ideal) (φ := .f32) 32 (Ideal.div (Ideal.log (Ideal.div (FloatOps.sitofp (F := Ideal) FTy.f32 (IntOp.maxsi (IntOp.maxsi u 0#32) 1#32))
      (Ideal.ofBits FTy.f32 0x41800000#32))) (Ideal.ofBits FTy.f32 0x40051592#32) * Ideal.ofBits FTy.f32 0x41800000#32))) 31#32)

/-- The row of the bias table a distance takes, as a word. -/
def bw (u : BitVec 32) : BitVec 32 :=
  Scalar.select (IntOp.cmpi .slt (bw0 u) 0#32) (IntOp.addi (bw0 u) 32#32) (bw0 u)

theorem bucket_at (r : Fin 128) (k : Fin 256) : BUCKET (ix2 r k) = bw (DIST (ix2 r k)) := by
  pointwise [BUCKET]
  rfl

/-- The same, the row a word that is known. -/
theorem gather_eq (x : FVec Ideal S32x16 .f32) (i : IVec S128x256x1 32) (r : Fin 128) (k : Fin 256) (h : Fin 16) (w : BitVec 32) (hw : i (ix3 r k 0) = w) :
    Host.gather gather_S32x16_S128x256x1_S128x256x16_2_0_n_n_0_2_116 x i (ix3 r k h) = x (ix2 ⟨min w.toInt.toNat 31, by omega⟩ h) := by
  subst hw
  exact gather_at x i r k h

theorem start_at (b : IVec S128x256 32) (r : Fin 128) (k : Fin 256) :
    (broadcastInDim S128x256x1 ![0, 1] bcast_S128x256_S128x256x1_0_1 b) (ix3 r k 0) = b (ix2 r k) := by
  pointwise

theorem cols_at (RB : FVec Ideal S32x24 .f32) (a : Fin 32) (h : Fin 16) :
    (extractStridedSlice S32x16 ![0, 0] RB slices_S32x24_S32x16_0_0) (ix2 a h) = RB (ix2 a ⟨h.val, by omega⟩) := by
  pointwise

theorem bias_at (RB : FVec Ideal S32x24 .f32) (h : Fin 2) (g : Fin 8) (r : Fin 128) (k : Fin 256) :
    BIAS RB (ix4 h g r k) = RB (ix2 ⟨min (bw (DIST (ix2 r k))).toInt.toNat 31, by omega⟩ ⟨h.val * 8 + g.val, by omega⟩) := by
  pointwise [BIAS]
  exact (gather_eq _ _ _ _ _ _ ((start_at _ _ _).trans (bucket_at r k))).trans (cols_at _ _ _)

theorem rows_at (X : FVec Ideal S16384x8704 .bf16) (SK : FVec Ideal S16 .f32) (RB : FVec Ideal S32x24 .f32) (n r : Fin 128) (h : Fin 2) (g : Fin 8) (d : Fin 128) :
    ROWS X SK RB (ix5 n r h g d) = MIX X SK RB (ix5 n h d g r) := by
  pointwise [ROWS]

theorem mix_at (X : FVec Ideal S16384x8704 .bf16) (SK : FVec Ideal S16 .f32) (RB : FVec Ideal S32x24 .f32) (n r : Fin 128) (h : Fin 2) (g : Fin 8) (d : Fin 128) :
    MIX X SK RB (ix5 n h d g r) = ∑ x : Fin 256, BANDV X (ix4 n x h d) * SOFT X SK RB (ix5 n h g r x.castSucc) := by
  pointwise [MIX]
  rfl

theorem ref_at (X : FVec Ideal S16384x8704 .bf16) (SK : FVec Ideal S16 .f32) (RB : FVec Ideal S32x24 .f32) (n r : Fin 128) (h : Fin 2) (g : Fin 8) (d : Fin 128) :
    REF X SK RB (ix2 ⟨n.val * 128 + r.val, by omega⟩ ⟨h.val * 1024 + g.val * 128 + d.val, by omega⟩) = ROWS X SK RB (ix5 n r h g d) := by
  pointwise [REF]

theorem bandk_at (X : FVec Ideal S16384x8704 .bf16) (n : Fin 128) (k : Fin 256) (h : Fin 2) (e : Fin 128) (R : Fin 16384) (C : Fin 8704)
    (hR : R.val + 128 = n.val * 128 + k.val) (hC : C.val = 2048 + h.val * 128 + e.val) : BANDK X (ix4 n k h e) = X (ix2 R C) := by
  pointwise [BANDK]
  by_cases hk : k.val < 128
  · rw [dif_pos hk, dif_pos (by omega)]
    congr 2 <;> (apply Fin.ext; simp only []; omega)
  · rw [dif_neg hk, dif_pos (by omega)]
    congr 2 <;> (apply Fin.ext; simp only []; omega)

theorem bandv_at (X : FVec Ideal S16384x8704 .bf16) (n : Fin 128) (k : Fin 256) (h : Fin 2) (e : Fin 128) (R : Fin 16384) (C : Fin 8704)
    (hR : R.val + 128 = n.val * 128 + k.val) (hC : C.val = 2304 + h.val * 128 + e.val) : BANDV X (ix4 n k h e) = X (ix2 R C) := by
  pointwise [BANDV]
  by_cases hk : k.val < 128
  · rw [dif_pos hk, dif_pos (by omega)]
    congr 2 <;> (apply Fin.ext; simp only []; omega)
  · rw [dif_neg hk, dif_pos (by omega)]
    congr 2 <;> (apply Fin.ext; simp only []; omega)

theorem bot_word : Ideal.ofBits FTy.f32 0xFF800000#32 = ⊥ := by
  unfold Ideal.ofBits
  rfl

/-- A key's logit, where it is seen. -/
theorem logits_at (X : FVec Ideal S16384x8704 .bf16) (RB : FVec Ideal S32x24 .f32) (n : Fin 128) (h : Fin 2) (g : Fin 8) (r : Fin 128) (k : Fin 256) :
    LOGITS X RB (ix5 n h g r k) = Scalar.select (VALID (ix3 n r k))
      (∑ x, BANDK X (ix4 n k h x) * X (ix2 ⟨n.val * 128 + r.val, by omega⟩ ⟨h.val * 1024 + g.val * 128 + x.val, by omega⟩) + BIAS RB (ix4 h g r k)) ⊥ := by
  pointwise [LOGITS]
  show Scalar.select _ _ (Ideal.ofBits FTy.f32 0xFF800000#32) = _
  rw [bot_word]

theorem cat_at (X : FVec Ideal S16384x8704 .bf16) (SK : FVec Ideal S16 .f32) (RB : FVec Ideal S32x24 .f32) (n : Fin 128) (h : Fin 2) (g : Fin 8) (r : Fin 128) (k : Fin 256) :
    CAT X SK RB (ix5 n h g r k.castSucc) = LOGITS X RB (ix5 n h g r k) := by
  pointwise [CAT]
  rw [dif_pos (by show k.val < 256; omega)]
  rfl

theorem cat_last (X : FVec Ideal S16384x8704 .bf16) (SK : FVec Ideal S16 .f32) (RB : FVec Ideal S32x24 .f32) (n : Fin 128) (h : Fin 2) (g : Fin 8) (r : Fin 128) (k : Fin 257) (hk : k.val = 256) :
    CAT X SK RB (ix5 n h g r k) = SK (ix1 ⟨h.val * 8 + g.val, by omega⟩) := by
  pointwise [CAT]
  rw [dif_neg (by omega)]

theorem top_at (X : FVec Ideal S16384x8704 .bf16) (SK : FVec Ideal S16 .f32) (RB : FVec Ideal S32x24 .f32) (n : Fin 128) (h : Fin 2) (g : Fin 8) (r : Fin 128) :
    TOP X SK RB (ix4 n h g r) = Finset.fold max ⊥ (fun x => CAT X SK RB (ix5 n h g r x)) Finset.univ := by
  pointwise [TOP]
  rw [bot_word]

theorem max_at (T : FVec Ideal S128x2x8x128 .f32) (n : Fin 128) (h : Fin 2) (g : Fin 8) (r : Fin 128) :
    (maximumf (broadcastInDim S128x2x8x128 ![] bcast_S_S128x2x8x128 (constant S_ .f32 0xFF800000#32)) T) (ix4 n h g r) = max ⊥ (T (ix4 n h g r)) := by
  pointwise
  rw [bot_word]

theorem mx_at (X : FVec Ideal S16384x8704 .bf16) (SK : FVec Ideal S16 .f32) (RB : FVec Ideal S32x24 .f32) (n : Fin 128) (h : Fin 2) (g : Fin 8) (r : Fin 128) : MX X SK RB (ix4 n h g r) = max ⊥ (TOP X SK RB (ix4 n h g r)) := by
  exact max_at (TOP X SK RB) n h g r

theorem mxs_at (X : FVec Ideal S16384x8704 .bf16) (SK : FVec Ideal S16 .f32) (RB : FVec Ideal S32x24 .f32) (n : Fin 128) (h : Fin 2) (g : Fin 8) (r : Fin 128) (k : Fin 257) : MXS X SK RB (ix5 n h g r k) = MX X SK RB (ix4 n h g r) := by
  pointwise [MXS]

theorem num_at (X : FVec Ideal S16384x8704 .bf16) (SK : FVec Ideal S16 .f32) (RB : FVec Ideal S32x24 .f32) (n : Fin 128) (h : Fin 2) (g : Fin 8) (r : Fin 128) (k : Fin 257) :
    NUM X SK RB (ix5 n h g r k) = Ideal.exp (CAT X SK RB (ix5 n h g r k) - max ⊥ (TOP X SK RB (ix4 n h g r))) := by
  rw [← mx_at, ← mxs_at X SK RB n h g r k]
  rfl

theorem den_at (X : FVec Ideal S16384x8704 .bf16) (SK : FVec Ideal S16 .f32) (RB : FVec Ideal S32x24 .f32) (n : Fin 128) (h : Fin 2) (g : Fin 8) (r : Fin 128) :
    DEN X SK RB (ix4 n h g r) = ∑ x, NUM X SK RB (ix5 n h g r x) := by
  pointwise [DEN]

theorem soft_at (X : FVec Ideal S16384x8704 .bf16) (SK : FVec Ideal S16 .f32) (RB : FVec Ideal S32x24 .f32) (n : Fin 128) (h : Fin 2) (g : Fin 8) (r : Fin 128) (k : Fin 257) :
    SOFT X SK RB (ix5 n h g r k) = Ideal.div (NUM X SK RB (ix5 n h g r k)) (DEN X SK RB (ix4 n h g r)) := by
  pointwise [SOFT]

/-- The reference's result at a row of a block, a head and a column. -/
theorem ref_eq (X : FVec Ideal S16384x8704 .bf16) (SK : FVec Ideal S16 .f32) (RB : FVec Ideal S32x24 .f32) (n r : Fin 128) (h : Fin 2) (g : Fin 8) (d : Fin 128) (R : Fin 16384) (C : Fin 2048)
    (hR : R.val = n.val * 128 + r.val) (hC : C.val = h.val * 1024 + g.val * 128 + d.val) :
    REF X SK RB (ix2 R C) = ∑ k : Fin 256, BANDV X (ix4 n k h d) * Ideal.div
      (Ideal.exp (CAT X SK RB (ix5 n h g r k.castSucc) - max ⊥ (Finset.fold max ⊥ (fun x => CAT X SK RB (ix5 n h g r x)) Finset.univ)))
      (∑ x, Ideal.exp (CAT X SK RB (ix5 n h g r x) - max ⊥ (Finset.fold max ⊥ (fun x => CAT X SK RB (ix5 n h g r x)) Finset.univ))) := by
  have eR : R = ⟨n.val * 128 + r.val, by omega⟩ := Fin.ext hR
  have eC : C = ⟨h.val * 1024 + g.val * 128 + d.val, by omega⟩ := Fin.ext hC
  rw [eR, eC, ref_at, rows_at, mix_at]
  simp only [soft_at, den_at, num_at, top_at]

end Cert.WinRef

end
-- ==== Proof.WinSoft.lean ====
module

public import Idealize.ShloMosaic.Lib.Pipeline.ValueKit
public import Idealize.ShloMosaic.Lib.Claim

@[expose] public section

set_option maxRecDepth 16384

noncomputable section

namespace Cert.WinSoft

open Idealize.ShloMosaic

/-- A finite factor distributes over a sum of extended reals. -/
theorem sum_mul_pos {ι : Type} [DecidableEq ι] (s : Finset ι) (f : ι → EReal) (c : ℝ) (hc : 0 ≤ c) :
    (∑ k ∈ s, f k) * (c : EReal) = ∑ k ∈ s, f k * (c : EReal) := by
  induction s using Finset.induction_on with
  | empty => simp
  | insert a s ha ih =>
    rw [Finset.sum_insert ha, Finset.sum_insert ha, ← ih, mul_comm, EReal.left_distrib_of_nonneg_of_ne_top (EReal.coe_nonneg.2 hc) (EReal.coe_ne_top c),
      mul_comm _ (f a), mul_comm (c : EReal) (Finset.sum s f)]

/-- An exponential of a value below the top, less a real, is a real that is not negative, and zero at the bottom. -/
theorem exp_sub (x : EReal) (M : ℝ) (hx : x ≠ ⊤) :
    ∃ e : ℝ, 0 ≤ e ∧ Ideal.exp (x - (M : EReal)) = (e : EReal) ∧ (x = ⊥ → e = 0) ∧ (x ≠ ⊥ → 0 < e) := by
  induction x with
  | bot => exact ⟨0, le_refl _, by rw [EReal.bot_sub]; rfl, fun _ => rfl, fun h => absurd rfl h⟩
  | top => exact absurd rfl hx
  | coe x => exact ⟨Real.exp (x - M), (Real.exp_pos _).le, rfl, fun h => absurd h (EReal.coe_ne_bot x), fun _ => Real.exp_pos _⟩

/-- The largest of finitely many values below the top is below the top. -/
theorem fold_ne_top {n : ℕ} (L : Fin n → EReal) (hL : ∀ k, L k ≠ ⊤) : Finset.fold max ⊥ L Finset.univ < ⊤ := by
  rw [Finset.fold_max_lt]
  exact ⟨bot_lt_top, fun k _ => lt_top_iff_ne_top.2 (hL k)⟩

/-- The largest of the logits and of the sink, folded together. -/
theorem fold_last {n : ℕ} (L : Fin n → EReal) (Lc : Fin (n + 1) → EReal) (s : EReal) (h : ∀ k : Fin n, Lc k.castSucc = L k) (hl : Lc (Fin.last n) = s) :
    Finset.fold max ⊥ Lc Finset.univ = max (Finset.fold max ⊥ L Finset.univ) s := by
  refine eq_of_forall_ge_iff fun c => ?_
  rw [Finset.fold_max_le, max_le_iff, Finset.fold_max_le]
  constructor
  · exact fun ⟨h0, h1⟩ => ⟨⟨h0, fun k _ => h k ▸ h1 _ (Finset.mem_univ _)⟩, hl ▸ h1 _ (Finset.mem_univ _)⟩
  · rintro ⟨⟨h0, h1⟩, h2⟩
    refine ⟨h0, fun k _ => ?_⟩
    induction k using Fin.lastCases with
    | last => exact hl ▸ h2
    | cast k => exact h k ▸ h1 k (Finset.mem_univ _)

/-- The softmax with a sink: dividing the weighted sum is weighting with the quotients. A value at a masked key does not matter. -/
theorem soft {n : ℕ} (L : Fin n → EReal) (Lc : Fin (n + 1) → EReal) (s : EReal) (v V : Fin n → EReal)
    (h : ∀ k : Fin n, Lc k.castSucc = L k) (hl : Lc (Fin.last n) = s) (hL : ∀ k, L k ≠ ⊤) (hs : s ≠ ⊤) (hs' : s ≠ ⊥)
    (hv : ∀ k, L k = ⊥ ∨ v k = V k) :
    Ideal.div (∑ k, Ideal.exp (L k - max (Finset.fold max ⊥ L Finset.univ) s) * v k)
        ((∑ k, Ideal.exp (L k - max (Finset.fold max ⊥ L Finset.univ) s)) + Ideal.exp (s - max (Finset.fold max ⊥ L Finset.univ) s))
      = ∑ k : Fin n, V k * Ideal.div (Ideal.exp (Lc k.castSucc - max ⊥ (Finset.fold max ⊥ Lc Finset.univ)))
          (∑ x, Ideal.exp (Lc x - max ⊥ (Finset.fold max ⊥ Lc Finset.univ))) := by
  classical
  rw [max_eq_right (a := (⊥ : EReal)) bot_le, fold_last L Lc s h hl, Fin.sum_univ_castSucc, hl]
  simp only [h]
  obtain ⟨M, hM⟩ : ∃ M : ℝ, max (Finset.fold max ⊥ L Finset.univ) s = (M : EReal) := by
    have h1 : max (Finset.fold max ⊥ L Finset.univ) s ≠ ⊤ := (max_lt (fold_ne_top L hL) (lt_top_iff_ne_top.2 hs)).ne
    have h2 : max (Finset.fold max ⊥ L Finset.univ) s ≠ ⊥ := (lt_of_lt_of_le (bot_lt_iff_ne_bot.2 hs') (le_max_right _ _)).ne'
    exact ⟨_, (EReal.coe_toReal h1 h2).symm⟩
  rw [hM]
  choose e he0 he hez hep using fun k => exp_sub (L k) M (hL k)
  obtain ⟨u, hu0, hu, -, hup⟩ := exp_sub s M hs
  simp only [he, hu]
  have hD : (∑ k, (e k : EReal)) + (u : EReal) = ((∑ k, e k + u : ℝ) : EReal) := by
    rw [EReal.coe_add]
    congr 1
    exact (map_sum (⟨⟨Real.toEReal, rfl⟩, EReal.coe_add⟩ : ℝ →+ EReal) e Finset.univ).symm
  have hpos : 0 < ∑ k, e k + u := add_pos_of_nonneg_of_pos (Finset.sum_nonneg fun k _ => he0 k) (hup hs')
  have hne : ((∑ k, e k + u : ℝ) : EReal) ≠ 0 := by
    rw [← EReal.coe_zero]; exact fun hh => hpos.ne' (EReal.coe_injective hh)
  rw [hD]
  unfold Ideal.div
  simp only [if_neg hne]
  rw [← EReal.coe_inv, sum_mul_pos _ _ _ (inv_nonneg.2 hpos.le)]
  refine Finset.sum_congr rfl fun k _ => ?_
  rcases hv k with hb | hb
  · rw [hez k hb]; simp
  · rw [hb, mul_comm (e k : EReal) (V k), mul_assoc]

end Cert.WinSoft

end
-- ==== Proof.WinTile.lean ====
module

public import proofs.«01_k».proof.Proof.Gen.SwaIdeal.Value
public import proofs.«01_k».proof.Proof.WinRef
public import proofs.«01_k».proof.Proof.WinSoft

@[expose] public section

set_option maxRecDepth 16384

noncomputable section

namespace Cert.Win

open Idealize.ShloMosaic Idealize.ShloMosaic.TcCoe Idealize.SL.Sem
open Cert.SwaIdeal Cert.SwaIdeal.Gen
open Cert.WinRef (VALID BANDK BANDV BIAS LOGITS CAT REF)

/-- A value that is a real. -/
def Fin' (x : EReal) : Prop := ∃ r : ℝ, x = (r : EReal)

theorem Fin'.mul {x y : EReal} (hx : Fin' x) (hy : Fin' y) : Fin' (x * y) := by
  obtain ⟨a, rfl⟩ := hx
  obtain ⟨b, rfl⟩ := hy
  exact ⟨a * b, (EReal.coe_mul a b).symm⟩

theorem Fin'.add {x y : EReal} (hx : Fin' x) (hy : Fin' y) : Fin' (x + y) := by
  obtain ⟨a, rfl⟩ := hx
  obtain ⟨b, rfl⟩ := hy
  exact ⟨a + b, (EReal.coe_add a b).symm⟩

theorem Fin'.sum {n : ℕ} (f : Fin n → EReal) (h : ∀ k, Fin' (f k)) : Fin' (∑ k, f k) := by
  choose g hg using h
  exact ⟨∑ k, g k, (Finset.sum_congr rfl fun k _ => hg k).trans (map_sum (⟨⟨Real.toEReal, rfl⟩, EReal.coe_add⟩ : ℝ →+ EReal) g Finset.univ).symm⟩

theorem Fin'.ne_top {x : EReal} (h : Fin' x) : x ≠ ⊤ := by
  obtain ⟨a, rfl⟩ := h
  exact EReal.coe_ne_top a

theorem Fin'.ne_bot {x : EReal} (h : Fin' x) : x ≠ ⊥ := by
  obtain ⟨a, rfl⟩ := h
  exact EReal.coe_ne_bot a

/-- Whether the band's place lies before the first row, as a word. -/
theorem third (n : Fin 128) (k : Fin 256) :
    IntOp.cmpi .sge (IntOp.addi (IntOp.muli (IntOp.subi (BitVec.ofNat 32 n.val) 1#32) 128#32) (BitVec.ofNat 32 k.val)) 0#32 = if 128 ≤ n.val * 128 + k.val then 1#1 else 0#1 := by
  revert n k
  decide +kernel

theorem bit (x : BitVec 1) : x = 1#1 ∨ x = 0#1 := by
  revert x; decide

theorem andi_one (x : BitVec 1) : IntOp.andi x 1#1 = x := by
  revert x; decide

theorem andi_zero (x : BitVec 1) : IntOp.andi x 0#1 = 0#1 := by
  revert x; decide

/-- Where a query sees a key, the key's row is a row of the array. -/
theorem valid_ge (n r : Fin 128) (k : Fin 256) (h : VALID (ix3 n r k) = 1#1) : 128 ≤ n.val * 128 + k.val := by
  rw [Cert.WinRef.valid_at, third] at h
  by_contra hc
  rw [if_neg hc, andi_zero] at h
  exact absurd h (by decide)

/-- One tile of the kernel's result is the reference's there. -/
theorem tile_eq (X : FVec Ideal S16384x8704 .bf16) (SK : FVec Ideal S16 .f32) (RB : FVec Ideal S32x24 .f32)
    (n : Fin 128) (h : Fin 2) (g : Fin 8)
    (ok : IVec S128x256 1) (kb vb : FVec Ideal S256x128 .bf16) (q : Vec Ideal S128x128 .bf16) (b : Vec Ideal S1x128x256 .f32) (s : Elt Ideal .f32)
    (r0 d0 : Fin 128) (R : Fin 16384) (C : Fin 2048)
    (hR : R.val = n.val * 128 + r0.val) (hC : C.val = h.val * 1024 + g.val * 128 + d0.val)
    (hok : ∀ (r : Fin 128) (k : Fin 256), ok (ix2 r k) = VALID (ix3 n r k))
    (hkb : ∀ (k : Fin 256) (e : Fin 128) (R' : Fin 16384) (C' : Fin 8704), R'.val + 128 = n.val * 128 + k.val → C'.val = 2048 + h.val * 128 + e.val → kb (ix2 k e) = X (ix2 R' C'))
    (hvb : ∀ (k : Fin 256) (e : Fin 128) (R' : Fin 16384) (C' : Fin 8704), R'.val + 128 = n.val * 128 + k.val → C'.val = 2304 + h.val * 128 + e.val → vb (ix2 k e) = X (ix2 R' C'))
    (hq : ∀ (r e : Fin 128) (R' : Fin 16384) (C' : Fin 8704), R'.val = n.val * 128 + r.val → C'.val = h.val * 1024 + g.val * 128 + e.val → q (ix2 r e) = X (ix2 R' C'))
    (hb : ∀ (r : Fin 128) (k : Fin 256), VALID (ix3 n r k) = 1#1 → b (ix3 0 r k) = BIAS RB (ix4 h g r k))
    (hs : s = SK (ix1 ⟨h.val * 8 + g.val, by omega⟩))
    (fX : ∀ (R' : Fin 16384) (C' : Fin 8704), C'.val < 2304 → Fin' (X (ix2 R' C'))) (fS : ∀ i, Fin' (SK i))
    (fB : ∀ (a : Fin 32) (i : Fin 24), i.val < 16 → Fin' (RB (ix2 a i))) :
    k0_pay37 (F := Ideal) ok kb vb q b s (ix2 r0 d0) = REF X SK RB (ix2 R C) := by
  rw [Cert.WinRef.ref_eq X SK RB n r0 h g d0 R C hR hC]
  pointwise [k0_pay37]
  rw [IdealRules.named_const.ideal_named_scalar _ _ _ _ rfl, Cert.WinRef.bot_word]
  have hn := n.isLt
  have hh := h.isLt
  have hg := g.isLt
  have eL : ∀ k : Fin 256, CAT X SK RB (ix5 n h g r0 k.castSucc)
      = Scalar.select (ok (ix2 r0 k)) ((∑ e : Fin 128, (q (ix2 r0 e) : EReal) * kb (ix2 k e)) + b (ix3 0 r0 k)) ⊥ := by
    intro k
    rw [Cert.WinRef.cat_at, Cert.WinRef.logits_at, hok]
    rcases bit (VALID (ix3 n r0 k)) with hv | hv
    · have hge := valid_ge n r0 k hv
      rw [hv, hb _ _ hv]
      show _ + _ = _ + _
      congr 1
      refine Finset.sum_congr rfl fun e _ => ?_
      rw [mul_comm]
      refine congrArg₂ (· * ·) ?_ ?_
      · exact (hq _ _ _ _ rfl rfl).symm
      · rw [Cert.WinRef.bandk_at X n k h e ⟨n.val * 128 + k.val - 128, by omega⟩ ⟨2048 + h.val * 128 + e.val, by omega⟩ (by simp only []; omega) rfl]
        exact (hkb k e _ _ (by simp only []; omega) rfl).symm
    · rw [hv]; rfl
  have eV : ∀ k : Fin 256, CAT X SK RB (ix5 n h g r0 k.castSucc) = ⊥ ∨ vb (ix2 k d0) = BANDV X (ix4 n k h d0) := by
    intro k
    rcases bit (VALID (ix3 n r0 k)) with hv | hv
    · have hge := valid_ge n r0 k hv
      right
      rw [Cert.WinRef.bandv_at X n k h d0 ⟨n.val * 128 + k.val - 128, by omega⟩ ⟨2304 + h.val * 128 + d0.val, by omega⟩ (by simp only []; omega) rfl]
      exact hvb k d0 _ _ (by simp only []; omega) rfl
    · left
      rw [Cert.WinRef.cat_at, Cert.WinRef.logits_at, hv]; rfl
  have eT : ∀ k : Fin 256, CAT X SK RB (ix5 n h g r0 k.castSucc) ≠ ⊤ := by
    intro k
    rw [Cert.WinRef.cat_at, Cert.WinRef.logits_at]
    rcases bit (VALID (ix3 n r0 k)) with hv | hv
    · have hge := valid_ge n r0 k hv
      rw [hv]
      refine Fin'.ne_top (Fin'.add (Fin'.sum _ fun e => ?_) ?_)
      · refine Fin'.mul ?_ (fX _ _ (by simp only []; omega))
        rw [Cert.WinRef.bandk_at X n k h e ⟨n.val * 128 + k.val - 128, by omega⟩ ⟨2048 + h.val * 128 + e.val, by omega⟩ (by simp only []; omega) rfl]
        exact fX _ _ (by simp only []; omega)
      · rw [Cert.WinRef.bias_at]
        exact fB _ _ (by simp only []; omega)
    · rw [hv]; exact bot_ne_top
  have key := Cert.WinSoft.soft (n := 256) (fun k => CAT X SK RB (ix5 n h g r0 k.castSucc)) (fun k => CAT X SK RB (ix5 n h g r0 k)) s (fun k => vb (ix2 k d0)) (fun k => BANDV X (ix4 n k h d0))
    (fun _ => rfl) ((Cert.WinRef.cat_last X SK RB n h g r0 (Fin.last 256) rfl).trans hs.symm) eT (hs ▸ (fS _).ne_top) (hs ▸ (fS _).ne_bot) eV
  refine Eq.trans ?_ key
  simp only [eL]

end Cert.Win

end
-- ==== Proof.WinBias.lean ====
module

public import proofs.«01_k».proof.Proof.WinTile

@[expose] public section

set_option maxRecDepth 16384

noncomputable section

namespace Cert.Win

open Idealize.ShloMosaic Idealize.ShloMosaic.TcCoe Idealize.SL.Sem
open Idealize.ShloMosaic.Pipeline (Dat)
open Cert.SwaIdeal Cert.SwaIdeal.Gen
open Cert.WinRef (VALID BANDK BANDV BIAS LOGITS CAT REF)

/-- The distances of the table, negative ones at zero. -/
def C1 : IVec S384 32 := maxsi (fun i => lit0 (S384.rowMajor i)) (broadcastInDim S384 ![] bcast_S_S384 (constantI S_ 32 0#32))

/-- The row of the bias table, before a negative one is moved up. -/
def C19 : IVec S384 32 :=
  select (cmpi .slt C1 (broadcastInDim S384 ![] bcast_S_S384 (constantI S_ 32 16#32))) C1
    (minsi (addi (broadcastInDim S384 ![] bcast_S_S384 (constantI S_ 32 16#32)) (fptosi 32 (mulf (Host.divf (Host.log (Host.divf (sitofp .f32 (maxsi C1 (broadcastInDim S384 ![] bcast_S_S384 (constantI S_ 32 1#32)))) (broadcastInDim S384 ![] bcast_S_S384 (constant S_ .f32 0x41800000#32)))) (broadcastInDim S384 ![] bcast_S_S384 (constant S_ .f32 0x40051592#32))) (broadcastInDim S384 ![] bcast_S_S384 (constant S_ .f32 0x41800000#32)) : FVec Ideal S384 .f32))) (broadcastInDim S384 ![] bcast_S_S384 (constantI S_ 32 31#32)))

/-- The row of the bias table. -/
def C24 : IVec S384 32 :=
  select (cmpi .slt C19 (broadcastInDim S384 ![] bcast_S_S384 (constantI S_ 32 0#32))) (addi C19 (broadcastInDim S384 ![] bcast_S_S384 (constantI S_ 32 32#32))) C19

/-- The distance's place in the table, by the place in a skewed row. -/
def C29 : IVec S384 32 :=
  select (constantI S384 1 0#1) (addi (fun i => lit1 (S384.rowMajor i)) (broadcastInDim S384 ![] bcast_S_S384 (constantI S_ 32 384#32))) (fun i => lit1 (S384.rowMajor i))

/-- The bias by the place in a skewed row. -/
def C31 (RB : FVec Ideal S32x24 .f32) : FVec Ideal S384x24 .f32 :=
  Host.gather gather_S384x24_S384x1_S384x24_1_0_n_n_0_1_124 (Host.gather gather_S32x24_S384x1_S384x24_1_0_n_n_0_1_124 RB (broadcastInDim S384x1 ![0] bcast_S384_S384x1_0 C24)) (broadcastInDim S384x1 ![0] bcast_S384_S384x1_0 C29)

/-- The skewed rows, laid one after the other. -/
def C35 (RB : FVec Ideal S32x24 .f32) : FVec Ideal S24x49152 .f32 :=
  shapeCast _ (broadcastInDim S1x24x128x384 ![0, 1, 2, 3] bcast_S1x24x1x384_S1x24x128x384_0_1_2_3 (shapeCast _ (transpose S24x384 [1, 0] (C31 RB) transposes_S384x24_S24x384_1_0) shapeCasts_S24x384_S1x24x1x384)) shapeCasts_S1x24x128x384_S24x49152

/-- The bias of a head at a query and a key. -/
def C39 (RB : FVec Ideal S32x24 .f32) : FVec Ideal S16x128x256 .f32 :=
  extractStridedSlice S16x128x256 ![0, 0, 0] (extractStridedSlice S24x128x256 ![0, 0, 0] (shapeCast S24x128x383 (extractStridedSlice S24x49024 ![0, 0] (C35 RB) slices_S24x49152_S24x49024_0_0) shapeCasts_S24x49024_S24x128x383) slices_S24x128x383_S24x128x256_0_0_0) slices_S24x128x256_S16x128x256_0_0_0

theorem gather_hi (x : FVec Ideal S32x24 .f32) (i : IVec S384x1 32) (p : Fin 384) (h : Fin 24) (w : BitVec 32) (hw : i (ix2 p 0) = w) :
    Host.gather gather_S32x24_S384x1_S384x24_1_0_n_n_0_1_124 x i (ix2 p h) = x (ix2 ⟨min w.toInt.toNat 31, by omega⟩ h) := by
  subst hw
  unfold Host.gather
  congr 1
  funext a
  refine Fin.ext ?_
  show GatherDims.start _ _ i a + GatherDims.batchCoord _ _ a + GatherDims.offCoord _ _ a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S32x24_S384x1_S384x24_1_0_n_n_0_1_124.startIndexMap from List.mem_singleton.mpr rfl)]
    have hsi : gather_S32x24_S384x1_S384x24_1_0_n_n_0_1_124.siIdx (ix2 p h) ⟨List.idxOf (0 : Fin 2) gather_S32x24_S384x1_S384x24_1_0_n_n_0_1_124.startIndexMap, List.idxOf_lt_length_iff.2 (List.mem_singleton.mpr rfl)⟩ = ix2 p 0 := by
      funext b; refine Fin.ext ?_
      match b with
      | ⟨0, _⟩ => rfl
      | ⟨1, _⟩ => rfl
    rw [hsi]
    rfl
  · unfold GatherDims.start
    rw [dif_neg (show (1 : Fin 2) ∉ gather_S32x24_S384x1_S384x24_1_0_n_n_0_1_124.startIndexMap from by decide)]
    unfold GatherDims.offCoord
    rw [dif_pos (show (1 : Fin 2) ∈ gather_S32x24_S384x1_S384x24_1_0_n_n_0_1_124.sKept from by decide)]
    show 0 + 0 + h.val = h.val
    omega

theorem gather_lo (x : FVec Ideal S384x24 .f32) (i : IVec S384x1 32) (p : Fin 384) (h : Fin 24) (w : BitVec 32) (hw : i (ix2 p 0) = w) :
    Host.gather gather_S384x24_S384x1_S384x24_1_0_n_n_0_1_124 x i (ix2 p h) = x (ix2 ⟨min w.toInt.toNat 383, by omega⟩ h) := by
  subst hw
  unfold Host.gather
  congr 1
  funext a
  refine Fin.ext ?_
  show GatherDims.start _ _ i a + GatherDims.batchCoord _ _ a + GatherDims.offCoord _ _ a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S384x24_S384x1_S384x24_1_0_n_n_0_1_124.startIndexMap from List.mem_singleton.mpr rfl)]
    have hsi : gather_S384x24_S384x1_S384x24_1_0_n_n_0_1_124.siIdx (ix2 p h) ⟨List.idxOf (0 : Fin 2) gather_S384x24_S384x1_S384x24_1_0_n_n_0_1_124.startIndexMap, List.idxOf_lt_length_iff.2 (List.mem_singleton.mpr rfl)⟩ = ix2 p 0 := by
      funext b; refine Fin.ext ?_
      match b with
      | ⟨0, _⟩ => rfl
      | ⟨1, _⟩ => rfl
    rw [hsi]
    rfl
  · unfold GatherDims.start
    rw [dif_neg (show (1 : Fin 2) ∉ gather_S384x24_S384x1_S384x24_1_0_n_n_0_1_124.startIndexMap from by decide)]
    unfold GatherDims.offCoord
    rw [dif_pos (show (1 : Fin 2) ∈ gather_S384x24_S384x1_S384x24_1_0_n_n_0_1_124.sKept from by decide)]
    show 0 + 0 + h.val = h.val
    omega

theorem both : ∀ a b : BitVec 1, IntOp.andi a b = 1#1 → a = 1#1 := by
  decide

theorem c24_at (u : Fin 384) : C24 (ix1 u) = Cert.WinRef.bw (lit0 (S384.rowMajor (ix1 u))) := by
  pointwise [C24, C19, C1]
  rfl

theorem c29_at (u : Fin 384) : C29 (ix1 u) = lit1 (S384.rowMajor (ix1 u)) := by
  pointwise [C29]

theorem col_at (b : IVec S384 32) (u : Fin 384) : (broadcastInDim S384x1 ![0] bcast_S384_S384x1_0 b) (ix2 u 0) = b (ix1 u) := by
  pointwise

theorem c31_at (RB : FVec Ideal S32x24 .f32) (p u : Fin 384) (h : Fin 24) (w : BitVec 32)
    (hu : min (lit1 (S384.rowMajor (ix1 p))).toInt.toNat 383 = u.val) (hw : lit0 (S384.rowMajor (ix1 u)) = w) :
    C31 RB (ix2 p h) = RB (ix2 ⟨min (Cert.WinRef.bw w).toInt.toNat 31, by omega⟩ h) := by
  unfold C31
  subst hw
  refine (gather_lo _ _ p h _ ((col_at _ _).trans (c29_at p))).trans ?_
  have e : (⟨min (lit1 (S384.rowMajor (ix1 p))).toInt.toNat 383, by omega⟩ : Fin 384) = u := Fin.ext hu
  rw [e]
  exact gather_hi _ _ u h _ ((col_at _ _).trans (c24_at u))

theorem c35_at (RB : FVec Ideal S32x24 .f32) (h : Fin 24) (a : Fin 128) (p : Fin 384) (q : Fin 49152) (hq : q.val = 384 * a.val + p.val) :
    C35 RB (ix2 h q) = C31 RB (ix2 p h) := by
  pointwise [C35]
  have e : (⟨q.val % 384, by omega⟩ : Fin 384) = p := Fin.ext (by simp only []; omega)
  rw [e]

theorem c39_at (RB : FVec Ideal S32x24 .f32) (H : Fin 16) (r : Fin 128) (k : Fin 256) :
    C39 RB (ix3 H r k) = C35 RB (ix2 ⟨H.val, by omega⟩ ⟨383 * r.val + k.val, by omega⟩) := by
  pointwise [C39]
  have e : (⟨r.val * 383 + k.val, by omega⟩ : Fin 49152) = ⟨383 * r.val + k.val, by omega⟩ := Fin.ext (by simp only []; omega)
  rw [e]

/-- Where a distance is in the table. -/
theorem places : ∀ d : Fin 128, (∀ p : Fin 384, p.val = d.val + 1 → min (lit1 (S384.rowMajor (ix1 p))).toInt.toNat 383 = 254 - d.val) ∧ (∀ u : Fin 384, u.val = 254 - d.val → lit0 (S384.rowMajor (ix1 u)) = BitVec.ofNat 32 (127 - d.val)) := by
  decide +kernel

/-- The keys a query sees are the 128 up to its own. -/
theorem seen : ∀ (r : Fin 128) (k : Fin 256), IntOp.andi (IntOp.cmpi .sge (IntOp.subi (IntOp.addi 128#32 (BitVec.ofNat 32 r.val)) (BitVec.ofNat 32 k.val)) 0#32) (IntOp.cmpi .slt (IntOp.subi (IntOp.addi 128#32 (BitVec.ofNat 32 r.val)) (BitVec.ofNat 32 k.val)) 128#32) = 1#1 → (r.val < k.val ∧ k.val ≤ r.val + 128) ∧ IntOp.subi (IntOp.addi 128#32 (BitVec.ofNat 32 r.val)) (BitVec.ofNat 32 k.val) = BitVec.ofNat 32 (r.val + 128 - k.val) := by
  decide +kernel

variable (m : (ℓ : Loc nD τ sig) → Buf (Elt Ideal) ℓ)

theorem v39_eq (c : Dev nD) : V m c main_v39 = C39 (m ((c : Thread nD τ).loc main_arg2)) := by
  unfold V
  simp only [hostOps0, hostOps0_1, hostOps0_2, List.flatten_cons, List.flatten_nil, List.cons_append, List.nil_append, List.append_nil]
  after_results
  rfl

/-- The band of the bias the kernel's window holds, where a key is seen. -/
theorem v39 (c : Dev nD) (H : Fin 16) (n : Fin 128) (r : Fin 128) (k : Fin 256) (hv : VALID (ix3 n r k) = 1#1) :
    V m c main_v39 (ix3 H r k) = m ((c : Thread nD τ).loc main_arg2) (ix2 ⟨min (Cert.WinRef.bw (Cert.WinRef.DIST (ix2 r k))).toInt.toNat 31, by omega⟩ ⟨H.val, by omega⟩) := by
  rw [v39_eq, c39_at]
  have hd := Cert.WinRef.dist_at r k
  rw [Cert.WinRef.valid_at] at hv
  have hs := both _ _ hv
  rw [hd] at hs
  obtain ⟨⟨h1, h2⟩, h3⟩ := seen r k hs
  obtain ⟨p1, p2⟩ := places ⟨k.val - r.val - 1, by omega⟩
  rw [c35_at _ _ r ⟨k.val - r.val, by omega⟩ _ (by simp only []; omega)]
  exact c31_at _ _ ⟨255 - (k.val - r.val), by omega⟩ _ _ ((p1 _ (by simp only []; omega)).trans (by simp only []; omega)) ((p2 _ (by simp only []; omega)).trans (by rw [hd, h3]; congr 1; simp only []; omega))

end Cert.Win

end
-- ==== Proof.Win.lean ====
module

public import proofs.«01_k».proof.Proof.WinBias

@[expose] public section

set_option maxRecDepth 16384

noncomputable section

namespace Cert.Win

open Idealize.ShloMosaic Idealize.ShloMosaic.TcCoe Idealize.SL.Sem
open Idealize.ShloMosaic.Pipeline (Dat)
open Cert.SwaIdeal Cert.SwaIdeal.Gen
open Cert.WinRef (VALID BANDK BANDV BIAS LOGITS CAT REF)

variable (m : (ℓ : Loc nD τ sig) → Buf (Elt Ideal) ℓ)

/-- Which block each window holds at a grid point. -/
theorem idx : ∀ t : Fin cfg0.N, win0_0.index t = ![0] ∧ win0_1.index t = ![t.val % 32, t.val / 32] ∧ win0_2.index t = ![4 * (t.val % 32) - 1, 16 + t.val / 32]
    ∧ win0_3.index t = ![t.val % 32, 16 + t.val / 32] ∧ win0_4.index t = ![4 * (t.val % 32) - 1, 18 + t.val / 32]
    ∧ win0_5.index t = ![t.val % 32, 18 + t.val / 32] ∧ win0_6.index t = ![t.val / 32, 0, 0] ∧ win0_7.index t = ![t.val % 32, t.val / 32] :=
  (by decide +kernel : ∀ t : Fin grid0.N, _)

theorem lt_N (t : Fin cfg0.N) : t.val < 64 := lt_of_lt_of_eq t.isLt N_0

/-- A row of the keys a block of rows has: of the rows before, or its own. -/
theorem keyrow (c : Dev nD) (t : Fin cfg0.N) (a : Fin 640) (e : Fin 128) (R' : Fin 16384) (C' : Fin 8704)
    (hR : R'.val + 128 = 512 * (t.val % 32) + a.val) (hC : C'.val = 2048 + (t.val / 32) * 128 + e.val) :
    k0_pay2 (F := Ideal) (iblk m c 2 t) (iblk m c 3 t) (ix2 a e) = m ((c : Thread nD τ).loc main_arg0) (ix2 R' C') := by
  have h2 := lt_N t
  pointwise [k0_pay2]
  by_cases h : a.val < 128
  · rw [dif_pos h]
    blk_point [iblk, V, idx t]
  · rw [dif_neg h]
    blk_point [iblk, V, idx t]

theorem coord (t : Fin cfg0.N) : (grid0.coords t 1).val = t.val % 32 :=
  (by decide +kernel : ∀ t : Fin grid0.N, (grid0.coords t 1).val = t.val % 32) t

theorem off : ∀ (t : Fin grid0.N) (g : Fin 8), k0_off1 (grid0.coords t) (BitVec.ofNat 32 g.val) 0 = 8 * (t.val / 32) + g.val := by
  decide +kernel

/-- Whether a key of the first block's band is a row of the array, as a word. -/
theorem early : ∀ (i : Fin 32) (k : Fin 256), IntOp.cmpi .sge (IntOp.addi (BitVec.ofNat 32 k.val) (Scalar.select (Scalar.cmpi .sgt (BitVec.ofNat 32 i.val) 0#32) 128#32 0#32)) 128#32
    = if 128 ≤ 4 * i.val * 128 + k.val then 1#1 else 0#1 := by
  decide +kernel

/-- The first block's keys that are seen. -/
theorem ok0 (t : Fin cfg0.N) (n : Fin 128) (r : Fin 128) (k : Fin 256) (hn : n.val = 4 * (t.val % 32)) :
    k0_pay5 (grid0.coords t) (ix2 r k) = VALID (ix3 n r k) := by
  rw [Cert.WinRef.valid_at, third, Cert.WinRef.dist_at]
  pointwise [k0_pay5, k0_pay4]
  have e := early ⟨t.val % 32, by omega⟩ k
  rw [coord t, hn]
  rw [e]

/-- The later blocks' keys that are seen. -/
theorem ok1 (n : Fin 128) (r : Fin 128) (k : Fin 256) (hn : 0 < n.val) :
    k0_pay4 (ix2 r k) = VALID (ix3 n r k) := by
  rw [Cert.WinRef.valid_at, third, Cert.WinRef.dist_at, if_pos (by omega), andi_one]
  pointwise [k0_pay4]

/-- A row of the values a block of rows has: of the rows before, or its own. -/
theorem valrow (c : Dev nD) (t : Fin cfg0.N) (a : Fin 640) (e : Fin 128) (R' : Fin 16384) (C' : Fin 8704)
    (hR : R'.val + 128 = 512 * (t.val % 32) + a.val) (hC : C'.val = 2304 + (t.val / 32) * 128 + e.val) :
    k0_pay3 (F := Ideal) (iblk m c 4 t) (iblk m c 5 t) (ix2 a e) = m ((c : Thread nD τ).loc main_arg0) (ix2 R' C') := by
  have h2 := lt_N t
  pointwise [k0_pay3]
  by_cases h : a.val < 128
  · rw [dif_pos h]
    blk_point [iblk, V, idx t]
  · rw [dif_neg h]
    blk_point [iblk, V, idx t]

/-- A row of the queries. -/
theorem qrow (c : Dev nD) (t : Fin cfg0.N) (a : Fin 512) (e : Fin 1024) (R' : Fin 16384) (C' : Fin 8704)
    (hR : R'.val = 512 * (t.val % 32) + a.val) (hC : C'.val = 1024 * (t.val / 32) + e.val) :
    X0_1 m c t (ix2 a e) = m ((c : Thread nD τ).loc main_arg0) (ix2 R' C') := by
  have h2 := lt_N t
  unfold X0_1 Pipeline.Window.fill
  rw [dif_pos (moved0_1 t (ix2 a e))]
  blk_point [iblk, V, idx t]

/-- A row of the bias table's block. -/
theorem biasrow (c : Dev nD) (t : Fin cfg0.N) (n : Fin 128) (g : Fin 8) (h : Fin 2) (hh : h.val = t.val / 32) (r : Fin 128) (k : Fin 256) (hv : VALID (ix3 n r k) = 1#1) :
    iblk m c 6 t (ix3 g r k) = BIAS (m ((c : Thread nD τ).loc main_arg2)) (ix4 h g r k) := by
  have e : iblk m c 6 t (ix3 g r k) = V m c main_v39 (ix3 ⟨h.val * 8 + g.val, by omega⟩ r k) := by
    blk_point [iblk, idx t]
  rw [Cert.WinRef.bias_at, e]
  exact v39 m c _ n r k hv

theorem sinkrow (c : Dev nD) (t : Fin cfg0.N) (g : Fin 8) (i : Fin 16) : iblk m c 0 t (ix1 i) = m ((c : Thread nD τ).loc main_arg1) (ix1 i) := by
  blk_point [iblk, V, idx t]

/-- A tile of the result, in the block of rows `b` of its four and the head `g` of its eight. -/
theorem tile (c : Dev nD) (t : Fin cfg0.N) (b : Fin 4) (g : Fin 8) (ok : IVec S128x256 1) (kb vb : FVec Ideal S256x128 .bf16) (q : Vec Ideal S128x128 .bf16) (bb : Vec Ideal S1x128x256 .f32) (s : Elt Ideal .f32)
    (x : S128x128.Idx) (y : S512x1024.Idx) (R : Fin 16384) (C : Fin 2048)
    (hR : R.val = 512 * (t.val % 32) + (y 0).val) (hC : C.val = 1024 * (t.val / 32) + (y 1).val)
    (fX : ∀ (R' : Fin 16384) (C' : Fin 8704), C'.val < 2304 → Fin' (m ((c : Thread nD τ).loc main_arg0) (ix2 R' C'))) (fS : ∀ i, Fin' (m ((c : Thread nD τ).loc main_arg1) i))
    (fB : ∀ (a : Fin 32) (i : Fin 24), i.val < 16 → Fin' (m ((c : Thread nD τ).loc main_arg2) (ix2 a i)))
    (h0 : (y 0).val = 128 * b.val + (x 0).val) (h1 : (y 1).val = 128 * g.val + (x 1).val)
    (hok : ∀ (n : Fin 128) (r : Fin 128) (k : Fin 256), n.val = 4 * (t.val % 32) + b.val → ok (ix2 r k) = VALID (ix3 n r k))
    (hkb : ∀ (k : Fin 256) (e : Fin 128), kb (ix2 k e) = k0_pay2 (F := Ideal) (iblk m c 2 t) (iblk m c 3 t) (ix2 ⟨128 * b.val + k.val, by omega⟩ e))
    (hvb : ∀ (k : Fin 256) (e : Fin 128), vb (ix2 k e) = k0_pay3 (F := Ideal) (iblk m c 4 t) (iblk m c 5 t) (ix2 ⟨128 * b.val + k.val, by omega⟩ e))
    (hq : ∀ (r e : Fin 128), q (ix2 r e) = X0_1 m c t (ix2 ⟨128 * b.val + r.val, by omega⟩ ⟨128 * g.val + e.val, by omega⟩))
    (hb : ∀ (r : Fin 128) (k : Fin 256), bb (ix3 0 r k) = iblk m c 6 t (ix3 g r k))
    (hs : s = iblk m c 0 t (ix1 ⟨8 * (t.val / 32) + g.val, by have := lt_N t; omega⟩)) :
    k0_pay37 (F := Ideal) ok kb vb q bb s x = REF (m ((c : Thread nD τ).loc main_arg0)) (m ((c : Thread nD τ).loc main_arg1)) (m ((c : Thread nD τ).loc main_arg2)) (ix2 R C) := by
  have h2 := lt_N t
  have hx0 : (x 0).val < 128 := (x 0).isLt
  have hx1 : (x 1).val < 128 := (x 1).isLt
  rw [eq_ix2 x]
  refine tile_eq _ _ _ ⟨4 * (t.val % 32) + b.val, by omega⟩ ⟨t.val / 32, by omega⟩ g _ _ _ _ _ _ _ _ R C ?_ ?_ (fun r k => hok _ r k rfl) ?_ ?_ ?_ ?_ ?_ fX fS fB
  · simp only []; omega
  · simp only []; omega
  · intro k e R' C' hR' hC'
    exact (hkb k e).trans (keyrow m c t _ e R' C' (by simp only [] at hR' ⊢; omega) (by simp only [] at hC' ⊢; omega))
  · intro k e R' C' hR' hC'
    exact (hvb k e).trans (valrow m c t _ e R' C' (by simp only [] at hR' ⊢; omega) (by simp only [] at hC' ⊢; omega))
  · intro r e R' C' hR' hC'
    exact (hq r e).trans (qrow m c t _ _ R' C' (by simp only [] at hR' ⊢; omega) (by simp only [] at hC' ⊢; omega))
  · intro r k hv
    exact (hb r k).trans (biasrow m c t _ g _ rfl r k hv)
  · refine hs.trans ((sinkrow m c t g _).trans ?_)
    congr 2
    apply Fin.ext
    simp only []
    omega

theorem point (c : Dev nD) (t : Fin cfg0.N) (y : S512x1024.Idx) (R : Fin 16384) (C : Fin 2048) (hR : R.val = 512 * (t.val % 32) + (y 0).val) (hC : C.val = 1024 * (t.val / 32) + (y 1).val)
    (fX : ∀ (R' : Fin 16384) (C' : Fin 8704), C'.val < 2304 → Fin' (m ((c : Thread nD τ).loc main_arg0) (ix2 R' C'))) (fS : ∀ i, Fin' (m ((c : Thread nD τ).loc main_arg1) i))
    (fB : ∀ (a : Fin 32) (i : Fin 24), i.val < 16 → Fin' (m ((c : Thread nD τ).loc main_arg2) (ix2 a i))) :
    outsAt0 m c t y = REF (m ((c : Thread nD τ).loc main_arg0)) (m ((c : Thread nD τ).loc main_arg1)) (m ((c : Thread nD τ).loc main_arg2)) (ix2 R C) := by
  have h2 := lt_N t
  have hi : t.val % 32 < 32 := by omega
  have hh : t.val / 32 < 2 := by omega
  unfold outsAt0
  frame_out
  generalize hG : REF (m ((c : Thread nD τ).loc main_arg0)) (m ((c : Thread nD τ).loc main_arg1)) (m ((c : Thread nD τ).loc main_arg2)) (ix2 R C) = G
  · canon_tiles x h
    case piece0 =>
      rw [← hG]
      exact tile m c t 3 7 _ _ _ _ _ _ x y R C hR hC fX fS fB h0 h1 (fun n r k hn => ok1 n r k (by rw [hn]; exact Nat.succ_pos _)) (fun k e => by pointwise [k0_pay66]) (fun k e => by pointwise [k0_pay67]) (fun r e => by pointwise) (fun r k => by pointwise) (by pointwise; exact congrArg _ (congrArg ix1 (Fin.ext (off t 7))))
    case piece1 =>
      rw [← hG]
      exact tile m c t 3 6 _ _ _ _ _ _ x y R C hR hC fX fS fB h0 h1 (fun n r k hn => ok1 n r k (by rw [hn]; exact Nat.succ_pos _)) (fun k e => by pointwise [k0_pay66]) (fun k e => by pointwise [k0_pay67]) (fun r e => by pointwise) (fun r k => by pointwise) (by pointwise; exact congrArg _ (congrArg ix1 (Fin.ext (off t 6))))
    case piece2 =>
      rw [← hG]
      exact tile m c t 3 5 _ _ _ _ _ _ x y R C hR hC fX fS fB h0 h1 (fun n r k hn => ok1 n r k (by rw [hn]; exact Nat.succ_pos _)) (fun k e => by pointwise [k0_pay66]) (fun k e => by pointwise [k0_pay67]) (fun r e => by pointwise) (fun r k => by pointwise) (by pointwise; exact congrArg _ (congrArg ix1 (Fin.ext (off t 5))))
    case piece3 =>
      rw [← hG]
      exact tile m c t 3 4 _ _ _ _ _ _ x y R C hR hC fX fS fB h0 h1 (fun n r k hn => ok1 n r k (by rw [hn]; exact Nat.succ_pos _)) (fun k e => by pointwise [k0_pay66]) (fun k e => by pointwise [k0_pay67]) (fun r e => by pointwise) (fun r k => by pointwise) (by pointwise; exact congrArg _ (congrArg ix1 (Fin.ext (off t 4))))
    case piece4 =>
      rw [← hG]
      exact tile m c t 3 3 _ _ _ _ _ _ x y R C hR hC fX fS fB h0 h1 (fun n r k hn => ok1 n r k (by rw [hn]; exact Nat.succ_pos _)) (fun k e => by pointwise [k0_pay66]) (fun k e => by pointwise [k0_pay67]) (fun r e => by pointwise) (fun r k => by pointwise) (by pointwise; exact congrArg _ (congrArg ix1 (Fin.ext (off t 3))))
    case piece5 =>
      rw [← hG]
      exact tile m c t 3 2 _ _ _ _ _ _ x y R C hR hC fX fS fB h0 h1 (fun n r k hn => ok1 n r k (by rw [hn]; exact Nat.succ_pos _)) (fun k e => by pointwise [k0_pay66]) (fun k e => by pointwise [k0_pay67]) (fun r e => by pointwise) (fun r k => by pointwise) (by pointwise; exact congrArg _ (congrArg ix1 (Fin.ext (off t 2))))
    case piece6 =>
      rw [← hG]
      exact tile m c t 3 1 _ _ _ _ _ _ x y R C hR hC fX fS fB h0 h1 (fun n r k hn => ok1 n r k (by rw [hn]; exact Nat.succ_pos _)) (fun k e => by pointwise [k0_pay66]) (fun k e => by pointwise [k0_pay67]) (fun r e => by pointwise) (fun r k => by pointwise) (by pointwise; exact congrArg _ (congrArg ix1 (Fin.ext (off t 1))))
    case piece7 =>
      rw [← hG]
      exact tile m c t 3 0 _ _ _ _ _ _ x y R C hR hC fX fS fB h0 (h1.trans (by simp)) (fun n r k hn => ok1 n r k (by rw [hn]; exact Nat.succ_pos _)) (fun k e => by pointwise [k0_pay66]) (fun k e => by pointwise [k0_pay67]) (fun r e => by pointwise) (fun r k => by pointwise) (by pointwise; exact congrArg _ (congrArg ix1 (Fin.ext (off t 0))))
    case piece8 =>
      rw [← hG]
      exact tile m c t 2 7 _ _ _ _ _ _ x y R C hR hC fX fS fB h0 h1 (fun n r k hn => ok1 n r k (by rw [hn]; exact Nat.succ_pos _)) (fun k e => by pointwise [k0_pay48]) (fun k e => by pointwise [k0_pay49]) (fun r e => by pointwise) (fun r k => by pointwise) (by pointwise; exact congrArg _ (congrArg ix1 (Fin.ext (off t 7))))
    case piece9 =>
      rw [← hG]
      exact tile m c t 2 6 _ _ _ _ _ _ x y R C hR hC fX fS fB h0 h1 (fun n r k hn => ok1 n r k (by rw [hn]; exact Nat.succ_pos _)) (fun k e => by pointwise [k0_pay48]) (fun k e => by pointwise [k0_pay49]) (fun r e => by pointwise) (fun r k => by pointwise) (by pointwise; exact congrArg _ (congrArg ix1 (Fin.ext (off t 6))))
    case piece10 =>
      rw [← hG]
      exact tile m c t 2 5 _ _ _ _ _ _ x y R C hR hC fX fS fB h0 h1 (fun n r k hn => ok1 n r k (by rw [hn]; exact Nat.succ_pos _)) (fun k e => by pointwise [k0_pay48]) (fun k e => by pointwise [k0_pay49]) (fun r e => by pointwise) (fun r k => by pointwise) (by pointwise; exact congrArg _ (congrArg ix1 (Fin.ext (off t 5))))
    case piece11 =>
      rw [← hG]
      exact tile m c t 2 4 _ _ _ _ _ _ x y R C hR hC fX fS fB h0 h1 (fun n r k hn => ok1 n r k (by rw [hn]; exact Nat.succ_pos _)) (fun k e => by pointwise [k0_pay48]) (fun k e => by pointwise [k0_pay49]) (fun r e => by pointwise) (fun r k => by pointwise) (by pointwise; exact congrArg _ (congrArg ix1 (Fin.ext (off t 4))))
    case piece12 =>
      rw [← hG]
      exact tile m c t 2 3 _ _ _ _ _ _ x y R C hR hC fX fS fB h0 h1 (fun n r k hn => ok1 n r k (by rw [hn]; exact Nat.succ_pos _)) (fun k e => by pointwise [k0_pay48]) (fun k e => by pointwise [k0_pay49]) (fun r e => by pointwise) (fun r k => by pointwise) (by pointwise; exact congrArg _ (congrArg ix1 (Fin.ext (off t 3))))
    case piece13 =>
      rw [← hG]
      exact tile m c t 2 2 _ _ _ _ _ _ x y R C hR hC fX fS fB h0 h1 (fun n r k hn => ok1 n r k (by rw [hn]; exact Nat.succ_pos _)) (fun k e => by pointwise [k0_pay48]) (fun k e => by pointwise [k0_pay49]) (fun r e => by pointwise) (fun r k => by pointwise) (by pointwise; exact congrArg _ (congrArg ix1 (Fin.ext (off t 2))))
    case piece14 =>
      rw [← hG]
      exact tile m c t 2 1 _ _ _ _ _ _ x y R C hR hC fX fS fB h0 h1 (fun n r k hn => ok1 n r k (by rw [hn]; exact Nat.succ_pos _)) (fun k e => by pointwise [k0_pay48]) (fun k e => by pointwise [k0_pay49]) (fun r e => by pointwise) (fun r k => by pointwise) (by pointwise; exact congrArg _ (congrArg ix1 (Fin.ext (off t 1))))
    case piece15 =>
      rw [← hG]
      exact tile m c t 2 0 _ _ _ _ _ _ x y R C hR hC fX fS fB h0 (h1.trans (by simp)) (fun n r k hn => ok1 n r k (by rw [hn]; exact Nat.succ_pos _)) (fun k e => by pointwise [k0_pay48]) (fun k e => by pointwise [k0_pay49]) (fun r e => by pointwise) (fun r k => by pointwise) (by pointwise; exact congrArg _ (congrArg ix1 (Fin.ext (off t 0))))
    case piece16 =>
      rw [← hG]
      exact tile m c t 1 7 _ _ _ _ _ _ x y R C hR hC fX fS fB h0 h1 (fun n r k hn => ok1 n r k (by rw [hn]; exact Nat.succ_pos _)) (fun k e => by pointwise [k0_pay28]) (fun k e => by pointwise [k0_pay29]) (fun r e => by pointwise) (fun r k => by pointwise) (by pointwise; exact congrArg _ (congrArg ix1 (Fin.ext (off t 7))))
    case piece17 =>
      rw [← hG]
      exact tile m c t 1 6 _ _ _ _ _ _ x y R C hR hC fX fS fB h0 h1 (fun n r k hn => ok1 n r k (by rw [hn]; exact Nat.succ_pos _)) (fun k e => by pointwise [k0_pay28]) (fun k e => by pointwise [k0_pay29]) (fun r e => by pointwise) (fun r k => by pointwise) (by pointwise; exact congrArg _ (congrArg ix1 (Fin.ext (off t 6))))
    case piece18 =>
      rw [← hG]
      exact tile m c t 1 5 _ _ _ _ _ _ x y R C hR hC fX fS fB h0 h1 (fun n r k hn => ok1 n r k (by rw [hn]; exact Nat.succ_pos _)) (fun k e => by pointwise [k0_pay28]) (fun k e => by pointwise [k0_pay29]) (fun r e => by pointwise) (fun r k => by pointwise) (by pointwise; exact congrArg _ (congrArg ix1 (Fin.ext (off t 5))))
    case piece19 =>
      rw [← hG]
      exact tile m c t 1 4 _ _ _ _ _ _ x y R C hR hC fX fS fB h0 h1 (fun n r k hn => ok1 n r k (by rw [hn]; exact Nat.succ_pos _)) (fun k e => by pointwise [k0_pay28]) (fun k e => by pointwise [k0_pay29]) (fun r e => by pointwise) (fun r k => by pointwise) (by pointwise; exact congrArg _ (congrArg ix1 (Fin.ext (off t 4))))
    case piece20 =>
      rw [← hG]
      exact tile m c t 1 3 _ _ _ _ _ _ x y R C hR hC fX fS fB h0 h1 (fun n r k hn => ok1 n r k (by rw [hn]; exact Nat.succ_pos _)) (fun k e => by pointwise [k0_pay28]) (fun k e => by pointwise [k0_pay29]) (fun r e => by pointwise) (fun r k => by pointwise) (by pointwise; exact congrArg _ (congrArg ix1 (Fin.ext (off t 3))))
    case piece21 =>
      rw [← hG]
      exact tile m c t 1 2 _ _ _ _ _ _ x y R C hR hC fX fS fB h0 h1 (fun n r k hn => ok1 n r k (by rw [hn]; exact Nat.succ_pos _)) (fun k e => by pointwise [k0_pay28]) (fun k e => by pointwise [k0_pay29]) (fun r e => by pointwise) (fun r k => by pointwise) (by pointwise; exact congrArg _ (congrArg ix1 (Fin.ext (off t 2))))
    case piece22 =>
      rw [← hG]
      exact tile m c t 1 1 _ _ _ _ _ _ x y R C hR hC fX fS fB h0 h1 (fun n r k hn => ok1 n r k (by rw [hn]; exact Nat.succ_pos _)) (fun k e => by pointwise [k0_pay28]) (fun k e => by pointwise [k0_pay29]) (fun r e => by pointwise) (fun r k => by pointwise) (by pointwise; exact congrArg _ (congrArg ix1 (Fin.ext (off t 1))))
    case piece23 =>
      rw [← hG]
      exact tile m c t 1 0 _ _ _ _ _ _ x y R C hR hC fX fS fB h0 (h1.trans (by simp)) (fun n r k hn => ok1 n r k (by rw [hn]; exact Nat.succ_pos _)) (fun k e => by pointwise [k0_pay28]) (fun k e => by pointwise [k0_pay29]) (fun r e => by pointwise) (fun r k => by pointwise) (by pointwise; exact congrArg _ (congrArg ix1 (Fin.ext (off t 0))))
    case piece24 =>
      rw [← hG]
      exact tile m c t 0 7 _ _ _ _ _ _ x y R C hR hC fX fS fB (h0.trans (by simp)) h1 (fun n r k hn => ok0 t n r k hn) (fun k e => by pointwise [k0_pay6]) (fun k e => by pointwise [k0_pay7]) (fun r e => by pointwise) (fun r k => by pointwise) (by pointwise; exact congrArg _ (congrArg ix1 (Fin.ext (off t 7))))
    case piece25 =>
      rw [← hG]
      exact tile m c t 0 6 _ _ _ _ _ _ x y R C hR hC fX fS fB (h0.trans (by simp)) h1 (fun n r k hn => ok0 t n r k hn) (fun k e => by pointwise [k0_pay6]) (fun k e => by pointwise [k0_pay7]) (fun r e => by pointwise) (fun r k => by pointwise) (by pointwise; exact congrArg _ (congrArg ix1 (Fin.ext (off t 6))))
    case piece26 =>
      rw [← hG]
      exact tile m c t 0 5 _ _ _ _ _ _ x y R C hR hC fX fS fB (h0.trans (by simp)) h1 (fun n r k hn => ok0 t n r k hn) (fun k e => by pointwise [k0_pay6]) (fun k e => by pointwise [k0_pay7]) (fun r e => by pointwise) (fun r k => by pointwise) (by pointwise; exact congrArg _ (congrArg ix1 (Fin.ext (off t 5))))
    case piece27 =>
      rw [← hG]
      exact tile m c t 0 4 _ _ _ _ _ _ x y R C hR hC fX fS fB (h0.trans (by simp)) h1 (fun n r k hn => ok0 t n r k hn) (fun k e => by pointwise [k0_pay6]) (fun k e => by pointwise [k0_pay7]) (fun r e => by pointwise) (fun r k => by pointwise) (by pointwise; exact congrArg _ (congrArg ix1 (Fin.ext (off t 4))))
    case piece28 =>
      rw [← hG]
      exact tile m c t 0 3 _ _ _ _ _ _ x y R C hR hC fX fS fB (h0.trans (by simp)) h1 (fun n r k hn => ok0 t n r k hn) (fun k e => by pointwise [k0_pay6]) (fun k e => by pointwise [k0_pay7]) (fun r e => by pointwise) (fun r k => by pointwise) (by pointwise; exact congrArg _ (congrArg ix1 (Fin.ext (off t 3))))
    case piece29 =>
      rw [← hG]
      exact tile m c t 0 2 _ _ _ _ _ _ x y R C hR hC fX fS fB (h0.trans (by simp)) h1 (fun n r k hn => ok0 t n r k hn) (fun k e => by pointwise [k0_pay6]) (fun k e => by pointwise [k0_pay7]) (fun r e => by pointwise) (fun r k => by pointwise) (by pointwise; exact congrArg _ (congrArg ix1 (Fin.ext (off t 2))))
    case piece30 =>
      rw [← hG]
      exact tile m c t 0 1 _ _ _ _ _ _ x y R C hR hC fX fS fB (h0.trans (by simp)) h1 (fun n r k hn => ok0 t n r k hn) (fun k e => by pointwise [k0_pay6]) (fun k e => by pointwise [k0_pay7]) (fun r e => by pointwise) (fun r k => by pointwise) (by pointwise; exact congrArg _ (congrArg ix1 (Fin.ext (off t 1))))
    case piece31 =>
      rw [← hG]
      exact tile m c t 0 0 _ _ _ _ _ _ x y R C hR hC fX fS fB (h0.trans (by simp)) (h1.trans (by simp)) (fun n r k hn => ok0 t n r k hn) (fun k e => by pointwise [k0_pay6]) (fun k e => by pointwise [k0_pay7]) (fun r e => by pointwise) (fun r k => by pointwise) (by pointwise; exact congrArg _ (congrArg ix1 (Fin.ext (off t 0))))

end Cert.Win

end
-- ==== Proof.WinEnd.lean ====
module

public import proofs.«01_k».proof.Proof.Win
public import proofs.«01_k».proof.Pre_swa_finite
public import Idealize.ShloMosaic.Lib.ReduceAll
public import proofs.«01_k».proof.Defs

@[expose] public section

set_option maxRecDepth 16384

noncomputable section

namespace Cert.Win

open Idealize.ShloMosaic Idealize.ShloMosaic.TcCoe Idealize.SL.Sem
open Idealize.ShloMosaic.Pipeline (Dat)
open Cert.SwaIdeal Cert.SwaIdeal.Gen
open Cert.WinRef (REF)

/-- The side conditions of the precondition's operations. -/
instance preFacts : Cert.Pre_swa_finite.Facts where
  slices_S16384x8704_S16384x2304_0_0 := by decide
  bitsLt_bf16_f32 := by decide
  slices_S32x24_S32x16_0_0 := by decide
  bcast_S_S16384x2304 := by decide
  reducesTo_S16384x2304_S_d0_1 := by decide
  h_S_ := by decide
  bcast_S_S16 := by decide
  reducesTo_S16_S_d0 := by decide
  bcast_S_S32x16 := by decide
  reducesTo_S32x16_S_d0_1 := by decide

/-- A value below the top one in magnitude is a number. -/
theorem fin_of (x : EReal) (h : BitVec.ofBool (decide (max x (-x) < (⊤ : EReal))) = 1#1) : Fin' x := by
  have h' : max x (-x) < (⊤ : EReal) := by
    by_contra hc
    rw [decide_eq_false hc] at h
    exact absurd h (by decide)
  obtain ⟨h1, h2⟩ := max_lt_iff.mp h'
  induction x with
  | bot => exact absurd h2 (by simp)
  | top => exact absurd h1 (by simp)
  | coe r => exact ⟨r, rfl⟩

theorem fin_cmp (x : EReal) (h : Ideal.cmp .olt (max x (-x)) (Ideal.ofBits .f32 0x7F800000#32) = 1#1) : Fin' x := by
  have e : Ideal.ofBits .f32 0x7F800000#32 = (⊤ : EReal) := by simp [Ideal.ofBits, Ideal.ieee]
  rw [e] at h
  exact fin_of x h

theorem both' : ∀ a b : BitVec 1, IntOp.andi a b = 1#1 → a = 1#1 ∧ b = 1#1 := by
  decide

instance : Subsingleton Cert.Pre_swa_finite.S_.Idx := ⟨fun a b => funext fun i => i.elim0⟩

/-- What the precondition says of each element. -/
theorem pre_read (X : FVec Ideal Cert.Pre_swa_finite.S16384x8704 .bf16) (SK : FVec Ideal Cert.Pre_swa_finite.S16 .f32) (RB : FVec Ideal Cert.Pre_swa_finite.S32x24 .f32)
    (h : Cert.Pre_swa_finite.fn (F := Ideal) X SK RB = fun _ => 1#1) :
    (∀ (R : Fin 16384) (C : Fin 8704), C.val < 2304 → Fin' (X (ix2 R C))) ∧ (∀ i, Fin' (SK i)) ∧ (∀ (a : Fin 32) (i : Fin 24), i.val < 16 → Fin' (RB (ix2 a i))) := by
  have h0 := congrFun h (fun i => i.elim0)
  unfold Cert.Pre_swa_finite.fn at h0
  obtain ⟨h12, h3⟩ := both' _ _ h0
  obtain ⟨h1, h2⟩ := both' _ _ h12
  refine ⟨fun R C hC => ?_, fun i => ?_, fun a i hi => ?_⟩
  · have e := Host.reduce_andi_all _ _ _ _ _ h1 (ix2 R ⟨C.val, hC⟩)
    refine fin_cmp _ ?_
    rw [← e]
    symm
    pointwise
    rfl
  · have e := Host.reduce_andi_all _ _ _ _ _ h2 i
    exact fin_cmp _ e
  · have e := Host.reduce_andi_all _ _ _ _ _ h3 (ix2 a ⟨i.val, hi⟩)
    refine fin_cmp _ ?_
    rw [← e]
    symm
    pointwise
    rfl

variable (m : (ℓ : Loc nD τ sig) → Buf (Elt Ideal) ℓ)

/-- The kernel's result is the reference's, of finite arrays. -/
theorem final (c : Dev nD) (hpre : Cert.Pre_SwaIdeal_swa_finite m) : (dats m 0 c).arrAt 7 (cfgs 0).N
    = REF (m ((c : Thread nD τ).loc main_arg0)) (m ((c : Thread nD τ).loc main_arg1)) (m ((c : Thread nD τ).loc main_arg2)) := by
  obtain ⟨fX, fS, fB⟩ := pre_read _ _ _ (hpre c)
  refine (dats m 0 c).arrAt_eq_of_covers 7 _ (by decide +kernel) fun t _ y => ?_
  blk_simp
  rw [after0_7]
  have e0 : ((((win0_7.blk t).view.emb y) 0 : Fin 16384) : ℕ) = 512 * (t.val % 32) + (y 0).val := by
    blk_simp [idx t]
    all_goals first | rfl | (simp; omega)
  have e1 : ((((win0_7.blk t).view.emb y) 1 : Fin 2048) : ℕ) = 1024 * (t.val / 32) + (y 1).val := by
    blk_simp [idx t]
    all_goals first | rfl | (simp; omega)
  exact (point m c t y _ _ e0 e1 fX fS fB).trans (congrArg _ (eq_ix2 _).symm)

end Cert.Win

end
-- ==== Proof.In.lean ====
module

public import proofs.«01_k».proof.Proof.Gen.InProjIdeal.Frame
public import proofs.«01_k».proof.Proof.Gen.InProjRefIdeal
public import Idealize.ShloMosaic.Lib.Pipeline.ValueKit.Held
public import Idealize.ShloMosaic.Lib.Pipeline.ValueKit
public import Idealize.ShloMosaic.Lib.Pipeline.ReadBack

@[expose] public section

set_option maxRecDepth 16384

noncomputable section

namespace Cert.In

open Idealize.ShloMosaic Idealize.ShloMosaic.TcCoe Idealize.SL.Sem
open Idealize.ShloMosaic.Pipeline (Dat)
open Cert.InProjIdeal Cert.InProjIdeal.Gen

variable (m : (ℓ : Loc nD τ sig) → Buf (Elt Ideal) ℓ)

/-- The reference's row of column scales. -/
def SCALE : FVec Ideal Cert.InProjRefIdeal.S1x8704 .f32 :=
  broadcastInDim Cert.InProjRefIdeal.S1x8704 ![1] Cert.InProjRefIdeal.Gen.bcast_S8704_S1x8704_1 (select (cmpi .slt (iotaInDim Cert.InProjRefIdeal.S8704 32 0) (broadcastInDim Cert.InProjRefIdeal.S8704 ![] Cert.InProjRefIdeal.Gen.bcast_S_S8704 (constantI Cert.InProjRefIdeal.S_ 32 2048#32))) (broadcastInDim Cert.InProjRefIdeal.S8704 ![] Cert.InProjRefIdeal.Gen.bcast_S_S8704 (constant Cert.InProjRefIdeal.S_ .f32 0x3DB504F3#32)) (select (andi (cmpi .sge (iotaInDim Cert.InProjRefIdeal.S8704 32 0) (broadcastInDim Cert.InProjRefIdeal.S8704 ![] Cert.InProjRefIdeal.Gen.bcast_S_S8704 (constantI Cert.InProjRefIdeal.S_ 32 2560#32))) (cmpi .slt (iotaInDim Cert.InProjRefIdeal.S8704 32 0) (broadcastInDim Cert.InProjRefIdeal.S8704 ![] Cert.InProjRefIdeal.Gen.bcast_S_S8704 (constantI Cert.InProjRefIdeal.S_ 32 4608#32)))) (broadcastInDim Cert.InProjRefIdeal.S8704 ![] Cert.InProjRefIdeal.Gen.bcast_S_S8704 (constant Cert.InProjRefIdeal.S_ .f32 0x3E0293EE#32)) (broadcastInDim Cert.InProjRefIdeal.S8704 ![] Cert.InProjRefIdeal.Gen.bcast_S_S8704 (constant Cert.InProjRefIdeal.S_ .f32 0x3F800000#32))))

/-- The reference's result over the two argument arrays: the product with the layer's weights, every column by its scale. -/
abbrev REF (H : FVec Ideal S16384x4096 .bf16) (W : FVec Ideal S2x4096x8704 .f32) : FVec Ideal S16384x8704 .bf16 :=
  truncf .bf16 (mulf (Host.dotGeneral Cert.InProjRefIdeal.dot_S16384x4096_S4096x8704_S16384x8704_1_0_0_1_n_n none (extf .f32 H Cert.InProjRefIdeal.Gen.bitsLt_bf16_f32) (shapeCast _ (extractStridedSlice Cert.InProjRefIdeal.S1x4096x8704 ![0, 0, 0] W Cert.InProjRefIdeal.Gen.slices_S2x4096x8704_S1x4096x8704_0_0_0) Cert.InProjRefIdeal.Gen.shapeCasts_S1x4096x8704_S4096x8704)) (broadcastInDim Cert.InProjRefIdeal.S16384x8704 ![0, 1] Cert.InProjRefIdeal.Gen.bcast_S1x8704_S16384x8704_0_1 SCALE)) Cert.InProjRefIdeal.Gen.bitsLt_bf16_f32

/-- Which block each window holds at a grid point. -/
theorem idx : ∀ t : Fin cfg0.N, win0_0.index t = ![t.val % 16, 0] ∧ win0_1.index t = ![0, 0, t.val / 16]
    ∧ win0_2.index t = ![0, t.val / 16] ∧ win0_3.index t = ![t.val % 16, t.val / 16] :=
  (by decide +kernel : ∀ t : Fin grid0.N, _)

/-- The constant scale row's words: one for each of the two query ranges, and one everywhere else. -/
theorem words : ∀ n : Fin 8704, lit0 n = if n.val < 2048 then 0x3DB504F3#32 else
    if 2560 ≤ n.val ∧ n.val < 4608 then 0x3E0293EE#32 else 0x3F800000#32 := by
  decide +kernel

/-- The two comparisons of the scale row, decided over the columns. -/
theorem cmp_q : ∀ j : Fin 8704, IntOp.cmpi .slt (BitVec.ofNat 32 j.val) 2048#32 = if j.val < 2048 then 1#1 else 0#1 := by
  decide +kernel

theorem cmp_k : ∀ j : Fin 8704, IntOp.andi (IntOp.cmpi .sge (BitVec.ofNat 32 j.val) 2560#32) (IntOp.cmpi .slt (BitVec.ofNat 32 j.val) 4608#32)
    = if 2560 ≤ j.val ∧ j.val < 4608 then 1#1 else 0#1 := by
  decide +kernel

/-- The constant row the kernel stages is the reference's row of scales. -/
theorem scale_at (c : Dev nD) (j : Fin 8704) : V m c main_cst (ix2 0 j) = SCALE (ix2 0 j) := by
  entry_read
  have e : S1x8704.rowMajor (ix2 0 j) = j := by
    apply Fin.ext
    show ((Shape.rowMajorPi ![1, 8704]) (ix2 0 j)).val = j.val
    simp [Shape.rowMajorPi, Shape.rankPi, ix2]
    exact Nat.mul_one _
  show FloatOps.ofBits (F := Ideal) .f32 (lit0 (S1x8704.rowMajor (ix2 0 j))) = _
  rw [e, words j]
  pointwise [SCALE]
  rw [cmp_q j, cmp_k j]
  by_cases h1 : j.val < 2048
  · rw [if_pos h1, if_pos h1]; rfl
  · rw [if_neg h1, if_neg h1]
    by_cases h2 : 2560 ≤ j.val ∧ j.val < 4608
    · rw [if_pos h2, if_pos h2]; rfl
    · rw [if_neg h2, if_neg h2]
      show Ideal.ofBits .f32 1065353216#32 = 1
      exact Ideal.ofBits_one_f32

/-- The cast weight tile kept in scratch is, at every point, the one its column's first point wrote. -/
theorem held (c : Dev nD) (t : Fin cfg0.N) (i) :
    (outsAt0 m c t.val t.isLt).2 i = k0_pay1 (iblk m c 1 ⟨16 * (t.val / 16), Pipeline.run_start_lt t⟩) i :=
  Pipeline.eq_of_write_hold_apply (fun n h => (outsAt0 m c n h).2) 16 (fun t => k0_pay1 (iblk m c 1 t))
    (fun t h i => by rw [outsAt0_A m c t h]; frame_out)
    (fun t h i => by rw [outsAt0_B m c t h]; rfl)
    t i

/-- What a point leaves in its output block is the payload over the scratch it leaves. -/
theorem left (c : Dev nD) (t : Fin cfg0.N) :
    (outsAt0 m c t.val t.isLt).1 = k0_pay2 (iblk m c 0 t) (outsAt0 m c t.val t.isLt).2 (iblk m c 2 t) := by
  by_cases h : t.val % 16 = 0
  · rw [outsAt0_A m c t h]; frame_out
  · rw [outsAt0_B m c t h]; frame_out
    try rw [read_unread_whole]
    rfl

/-- The value stored at one place of one block is the reference's at the array index that place has. -/
theorem point (c : Dev nD) (t t' : Fin cfg0.N) (ht : t'.val = 16 * (t.val / 16)) (y) :
    k0_pay2 (iblk m c 0 t) (k0_pay1 (iblk m c 1 t')) (iblk m c 2 t) y
    = REF (m ((c : Thread nD τ).loc main_arg0)) (m ((c : Thread nD τ).loc main_arg1)) (((cfg0.win 3).blk t).view.emb y) := by
  pointwise [k0_pay1, k0_pay2, REF]
  have e : iblk m c 2 t (ix2 0 (y 1)) = SCALE (ix2 0 (((View.whole main_v0).slice ((win0 3).rect t)).emb y 1)) := by
    refine Eq.trans ?_ (scale_at m c _)
    blk_ext [iblk, idx t]
  rw [e]
  blk_point [iblk, V, idx t, idx t', ht]

/-- The result array after the run. -/
theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t _ y => ?_
  blk_simp
  rw [after0_3]
  refine (congrFun (left m c t) _).trans ?_
  rw [show (outsAt0 m c t.val t.isLt).2 = _ from funext (held m c t)]
  exact point m c t _ rfl y

end Cert.In

end
-- ==== Proof.Out.lean ====
module

public import proofs.«01_k».proof.Proof.Gen.OutProjIdeal.Frame
public import proofs.«01_k».proof.Proof.Gen.OutProjRefIdeal
public import Idealize.ShloMosaic.Lib.Pipeline.ValueKit.Held
public import Idealize.ShloMosaic.Lib.Pipeline.ValueKit
public import Idealize.ShloMosaic.Lib.Pipeline.ReadBack

@[expose] public section

set_option maxRecDepth 16384

noncomputable section

namespace Cert.Out

open Idealize.ShloMosaic Idealize.ShloMosaic.TcCoe Idealize.SL.Sem
open Idealize.ShloMosaic.Pipeline (Dat)
open Cert.OutProjIdeal Cert.OutProjIdeal.Gen

variable (m : (ℓ : Loc nD τ sig) → Buf (Elt Ideal) ℓ)

/-- The reference's result over the five argument arrays: the residual plus the gated product of the two heads' outputs,
    side by side, with the layer's weights. -/
abbrev REF (A : FVec Ideal S16384x2048 .bf16) (B : FVec Ideal S16384x2048 .bf16) (W : FVec Ideal S2x4096x4096 .f32)
    (X : FVec Ideal S16384x4096 .f32) (G : FVec Ideal S1x4096 .f32) : FVec Ideal S16384x4096 .f32 :=
  addf X (mulf (broadcastInDim Cert.OutProjRefIdeal.S16384x4096 ![0, 1] Cert.OutProjRefIdeal.Gen.bcast_S1x4096_S16384x4096_0_1 G) (Host.dotGeneral Cert.OutProjRefIdeal.dot_S16384x4096_S4096x4096_S16384x4096_1_0_0_1_n_n none (concatenate Cert.OutProjRefIdeal.S16384x4096 1 [⟨Cert.OutProjRefIdeal.S16384x2048, (extf .f32 A Cert.OutProjRefIdeal.Gen.bitsLt_bf16_f32)⟩, ⟨Cert.OutProjRefIdeal.S16384x2048, (extf .f32 B Cert.OutProjRefIdeal.Gen.bitsLt_bf16_f32)⟩] Cert.OutProjRefIdeal.Gen.concatenates_S16384x2048_S16384x2048_S16384x4096_d1) (shapeCast _ (extractStridedSlice Cert.OutProjRefIdeal.S1x4096x4096 ![0, 0, 0] W Cert.OutProjRefIdeal.Gen.slices_S2x4096x4096_S1x4096x4096_0_0_0) Cert.OutProjRefIdeal.Gen.shapeCasts_S1x4096x4096_S4096x4096)))

/-- Which block each window holds at a grid point. -/
theorem idx : ∀ t : Fin cfg0.N, win0_0.index t = ![t.val % 16, 0] ∧ win0_1.index t = ![t.val % 16, 0]
    ∧ win0_2.index t = ![0, 0, t.val / 16] ∧ win0_3.index t = ![t.val % 16, t.val / 16] ∧ win0_4.index t = ![0, t.val / 16]
    ∧ win0_5.index t = ![t.val % 16, t.val / 16] :=
  (by decide +kernel : ∀ t : Fin grid0.N, _)

/-- The cast weight tile kept in scratch is, at every point, the one its column's first point wrote. -/
theorem held (c : Dev nD) (t : Fin cfg0.N) (i) :
    (outsAt0 m c t.val t.isLt).2 i = k0_pay1 (iblk m c 2 ⟨16 * (t.val / 16), Pipeline.run_start_lt t⟩) i :=
  Pipeline.eq_of_write_hold_apply (fun n h => (outsAt0 m c n h).2) 16 (fun t => k0_pay1 (iblk m c 2 t))
    (fun t h i => by rw [outsAt0_A m c t h]; frame_out)
    (fun t h i => by rw [outsAt0_B m c t h]; rfl)
    t i

/-- The first 2048 rows of a weight tile. -/
abbrev lo (T : Vec Ideal S4096x512 .bf16) : Vec Ideal S2048x512 .bf16 :=
  View.ld (Val := Elt Ideal) (e' := .bf16) T (Rect.unit ![0, 0] ![2048, 512] inb_S4096x512_S2048x512_0_0)

/-- The last 2048 rows of a weight tile. -/
abbrev hi (T : Vec Ideal S4096x512 .bf16) : Vec Ideal S2048x512 .bf16 :=
  View.ld (Val := Elt Ideal) (e' := .bf16) T (Rect.unit ![2048, 0] ![2048, 512] inb_S4096x512_S2048x512_2048_0)

/-- What a point leaves in its output block is the payload over the scratch it leaves. -/
theorem left (c : Dev nD) (t : Fin cfg0.N) :
    (outsAt0 m c t.val t.isLt).1 = k0_pay2 (iblk m c 0 t) (lo (outsAt0 m c t.val t.isLt).2) (iblk m c 1 t)
      (hi (outsAt0 m c t.val t.isLt).2) (iblk m c 3 t) (iblk m c 4 t) := by
  by_cases h : t.val % 16 = 0
  · rw [outsAt0_A m c t h]; frame_out
    rw [View.readCov_fill _ _ _ _ _ (by decide), View.readCov_fill _ _ _ _ _ (by decide)]
  · rw [outsAt0_B m c t h]; frame_out
    rw [read_unread_whole]
    rfl

/-- The value stored at one place of one block is the reference's at the array index that place has. -/
theorem point (c : Dev nD) (t t' : Fin cfg0.N) (ht : t'.val = 16 * (t.val / 16)) (y) :
    k0_pay2 (iblk m c 0 t) (lo (k0_pay1 (iblk m c 2 t'))) (iblk m c 1 t)
      (hi (k0_pay1 (iblk m c 2 t'))) (iblk m c 3 t) (iblk m c 4 t) y
    = REF (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb y) := by
  pointwise [k0_pay1, k0_pay2, REF, lo, hi]
  blk_point [iblk, V, idx t, idx t', ht]

/-- The result array after the run. -/
theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  refine (congrFun (left m c t) _).trans ?_
  rw [show (outsAt0 m c t.val t.isLt).2 = _ from funext (held m c t)]
  exact point m c t _ rfl y

end Cert.Out

end
-- ==== Proof.UpBase.lean ====
module

public import proofs.«01_k».proof.Proof.Gen.MlpUpIdeal.Frame
public import proofs.«01_k».proof.Proof.Gen.MlpUpIdeal.Skeleton
public import Idealize.ShloMosaic.Lib.Pipeline.ValueKit
public import Idealize.ShloMosaic.Lib.Pipeline.ReadBack
public import Idealize.ShloMosaic.Lib.VecWindow

@[expose] public section

set_option maxRecDepth 16384

noncomputable section

namespace Cert.Up

open Cert.MlpUpIdeal Cert.MlpUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch of the body is taken: the point is the grid's first. -/
abbrev isFirst (i : grid0.Coords) : Prop := (Scalar.cmpi .ne (Scalar.extui (Scalar.cmpi .eq (BitVec.ofNat 32 (i 0).val) 0#32)) 0#32) = 1#1

/-- The remainder by 16 as the body computes it. -/
abbrev mod16 (v : BitVec 32) : BitVec 32 :=
  Scalar.select (Scalar.andi (Scalar.xori (Scalar.cmpi .slt (Scalar.remsi v (Scalar.select (Scalar.cmpi .eq 16#32 0#32) 1#32 16#32)) 0#32)
      (Scalar.cmpi .slt (Scalar.select (Scalar.cmpi .eq 16#32 0#32) 1#32 16#32) 0#32))
      (Scalar.cmpi .ne (Scalar.remsi v (Scalar.select (Scalar.cmpi .eq 16#32 0#32) 1#32 16#32)) 0#32))
    (Scalar.addi (Scalar.remsi v (Scalar.select (Scalar.cmpi .eq 16#32 0#32) 1#32 16#32)) (Scalar.select (Scalar.cmpi .eq 16#32 0#32) 1#32 16#32))
    (Scalar.remsi v (Scalar.select (Scalar.cmpi .eq 16#32 0#32) 1#32 16#32))

/-- The second branch is taken: the product's row block is its column's first, and the weight tile is cast. -/
abbrev isCast (i : grid0.Coords) : Prop :=
  (Scalar.cmpi .ne (Scalar.extui (Scalar.cmpi .eq (mod16 (Scalar.minsi (BitVec.ofNat 32 (i 0).val) 687#32)) 0#32)) 0#32) = 1#1

/-- The third branch is taken: the convolution's row block is its column's first, and the carried rows are cleared. -/
abbrev isTop (i : grid0.Coords) : Prop :=
  (Scalar.cmpi .ne (Scalar.extui (Scalar.cmpi .eq (mod16 (Scalar.maxsi (Scalar.subi (BitVec.ofNat 32 (i 0).val) 1#32) 0#32)) 0#32)) 0#32) = 1#1

/-- The three branches, as conditions on the grid point. -/
theorem branches : ∀ t : Fin cfg0.N, (isFirst (grid0.coords t) ↔ t.val = 0) ∧ (isCast (grid0.coords t) ↔ min t.val 687 % 16 = 0)
    ∧ (isTop (grid0.coords t) ↔ (t.val - 1) % 16 = 0) :=
  (by decide +kernel : ∀ t : Fin grid0.N, _)

/-- The carried rows the point works with. -/
def carryIn (i : grid0.Coords) (s : Vec F S8x256 .f32) : Vec F S8x256 .f32 := if isTop i then k0_pay5 else s
/-- The weight tile the point works with: the gate's columns, then the other half's. -/
def tileOf (a b : Vec F S1x4096x256 .f32) : Vec F S4096x512 .bf16 := fun y =>
  if h : (y 1).val < 256 then k0_pay3 a (ix2 (y 0) ⟨(y 1).val, h⟩)
  else k0_pay4 b (ix2 (y 0) ⟨(y 1).val - 256, by have : (y 1).val < 512 := (y 1).isLt; omega⟩)
def tileIn (i : grid0.Coords) (a b : Vec F S1x4096x256 .f32) (s : Vec F S4096x512 .bf16) : Vec F S4096x512 .bf16 :=
  if isCast i then tileOf a b else s
/-- The product of the point before, which the point works with. -/
def rawIn (i : grid0.Coords) (s : Vec F S1024x512 .f32) : Vec F S1024x512 .f32 := if isFirst i then k0_pay2 else s
/-- Its gate half and its other half. -/
def gateOf (r : Vec F S1024x512 .f32) : Vec F S1024x256 .f32 := View.ld (Val := Elt F) (e' := .f32) r (Rect.unit ![0, 0] ![1024, 256] inb_S1024x512_S1024x256_0_0)
def upOf (r : Vec F S1024x512 .f32) : Vec F S1024x256 .f32 := View.ld (Val := Elt F) (e' := .f32) r (Rect.unit ![0, 256] ![1024, 256] inb_S1024x512_S1024x256_0_256)
/-- One row of the convolution's taps. -/
def tap0 (w : Vec F S3x256 .f32) : Vec F S1x256 .f32 := View.ld (Val := Elt F) (e' := .f32) w (Rect.unit ![0, 0] ![1, 256] inb_S3x256_S1x256_0_0)
def tap1 (w : Vec F S3x256 .f32) : Vec F S1x256 .f32 := View.ld (Val := Elt F) (e' := .f32) w (Rect.unit ![1, 0] ![1, 256] inb_S3x256_S1x256_1_0)
def tap2 (w : Vec F S3x256 .f32) : Vec F S1x256 .f32 := View.ld (Val := Elt F) (e' := .f32) w (Rect.unit ![2, 0] ![1, 256] inb_S3x256_S1x256_2_0)
/-- What the point stores into its output block, over the carried rows and the product it works with. -/
def outOf (w : Vec F S3x256 .f32) (b : Vec F S1x256 .f32) (s : Vec F S8x256 .f32) (r : Vec F S1024x512 .f32) : Vec F S1024x256 .bf16 :=
  k0_pay8 (upOf r) (k0_pay6 s (gateOf r) b (tap2 w) (tap1 w) (tap0 w)) (k0_pay7 s (gateOf r) b (tap2 w) (tap1 w) (tap0 w)) (Scalar.ofBits .f32 0x3F800000#32)
/-- The product the point leaves: eight chunks of 128 rows. -/
def rawOf (h : Vec F S1024x4096 .bf16) (w : Vec F S4096x512 .bf16) : Vec F S1024x512 .f32 := fun y =>
  k0_pay1 (fun z => h (ix2 ⟨(y 0).val / 128 * 128 + (z 0).val, by have h1 : (y 0).val < 1024 := (y 0).isLt; have h2 : (z 0).val < 128 := (z 0).isLt; omega⟩ (z 1))) w
    (ix2 ⟨(y 0).val % 128, Nat.mod_lt _ (by decide)⟩ (y 1))

theorem carryIn_pos {i : grid0.Coords} (h : isTop i) (s : Vec F S8x256 .f32) : carryIn i s = k0_pay5 := if_pos h
theorem carryIn_neg {i : grid0.Coords} (h : ¬isTop i) (s : Vec F S8x256 .f32) : carryIn i s = s := if_neg h
theorem tileIn_pos {i : grid0.Coords} (h : isCast i) (a b : Vec F S1x4096x256 .f32) (s : Vec F S4096x512 .bf16) : tileIn i a b s = tileOf a b := if_pos h
theorem tileIn_neg {i : grid0.Coords} (h : ¬isCast i) (a b : Vec F S1x4096x256 .f32) (s : Vec F S4096x512 .bf16) : tileIn i a b s = s := if_neg h
theorem rawIn_pos {i : grid0.Coords} (h : isFirst i) (s : Vec F S1024x512 .f32) : rawIn i s = k0_pay2 := if_pos h
theorem rawIn_neg {i : grid0.Coords} (h : ¬isFirst i) (s : Vec F S1024x512 .f32) : rawIn i s = s := if_neg h

/-- Writes that all are blocks of one contents and cover the buffer leave that contents, whatever was written before. -/
theorem read_pieces {sp : Space} {S : Shape} {e : EltTy} (v : View sig .tc sp S e) (f : v.ty.Contents (Elt F)) (G : S.Idx → Elt F e)
    (L L' : List (View.Piece (Elt F) S e)) (hG : View.PiecesOf G L) (hc : ∀ y, ∃ p ∈ L, y ∈ p.1.set) :
    v.read (Elt F) (v.writes (Elt F) f (L ++ L')) = G := by
  have hc' : ∀ y, ∃ p ∈ L ++ L', y ∈ p.1.set := fun y => by
    obtain ⟨p, hp, hy⟩ := hc y
    exact ⟨p, List.mem_append_left _ hp, hy⟩
  rw [View.read_writes_eq_canon v f _ hc']
  funext y
  exact View.canon_append_of_piecesOf G L' L hG y (hc y)

/-- A load of a whole buffer after such writes reads that contents. -/
theorem readCov_pieces {sp : Space} {S : Shape} {e : EltTy} (v : View sig .tc sp S e) (G : S.Idx → Elt F e)
    (L : List (View.Piece (Elt F) S e)) (hG : View.PiecesOf G L) (hc : ∀ y, ∃ p ∈ L, y ∈ p.1.set) (B : LoadRect S) :
    v.readCov L B = fun j => G (B.idx j) := by
  rw [View.readCov_eq_canon']
  funext j
  have h := View.canon_append_of_piecesOf G [] L hG (B.idx j) (hc _)
  rwa [List.append_nil] at h

/-- The two halves the cast stores are the tile's. -/
theorem tile_pieces (a b : Vec F S1x4096x256 .f32) : View.PiecesOf (tileOf a b)
    [⟨Rect.unit ![0, 256] S4096x256.size inb_S4096x512_S4096x256_0_256, k0_pay4 b⟩, ⟨Rect.unit ![0, 0] S4096x256.size inb_S4096x512_S4096x256_0_0, k0_pay3 a⟩] := by
  refine ⟨fun x => ?_, fun x => ?_, trivial⟩
  · have h1 : (x 1).val < 256 := (x 1).isLt
    have h : ¬ (((Rect.unit (s := S4096x512) ![0, 256] S4096x256.size inb_S4096x512_S4096x256_0_256).emb x 1).val < 256) := by
      simp
    rw [tileOf, dif_neg h]
    refine congrArg (k0_pay4 b) (funext fun i => Fin.ext ?_)
    fin_cases i <;> simp [ix2]
  · have h1 : (x 1).val < 256 := (x 1).isLt
    have h : (((Rect.unit (s := S4096x512) ![0, 0] S4096x256.size inb_S4096x512_S4096x256_0_0).emb x 1).val < 256) := by
      simpa using h1
    rw [tileOf, dif_pos h]
    refine congrArg (k0_pay3 a) (funext fun i => Fin.ext ?_)
    fin_cases i <;> simp [ix2]

/-- They cover it. -/
theorem tile_cover (p q) : ∀ y : S4096x512.Idx, ∃ P ∈ ([⟨Rect.unit ![0, 256] S4096x256.size inb_S4096x512_S4096x256_0_256, p⟩,
    ⟨Rect.unit ![0, 0] S4096x256.size inb_S4096x512_S4096x256_0_0, q⟩] : List (View.Piece (Elt F) S4096x512 .bf16)), y ∈ P.1.set :=
  View.cover_of_tiledL _ S4096x256.size (by sl_kernel_rfl)

/-- One chunk of 128 rows is the product's rows there. -/
theorem chunk (h : Vec F S1024x4096 .bf16) (w : Vec F S4096x512 .bf16) (k : ℕ) (A : Vec F S128x4096 .bf16) (z : S128x512.Idx) (y : S1024x512.Idx)
    (h0 : (y 0).val = 128 * k + (z 0).val) (h1 : (y 1).val = (z 1).val)
    (hA : ∀ (x : S128x4096.Idx) (u : S1024x4096.Idx), (u 0).val = 128 * k + (x 0).val → (u 1).val = (x 1).val → A x = h u) :
    k0_pay1 A w z = rawOf h w y := by
  have hz : (z 0).val < 128 := (z 0).isLt
  unfold rawOf
  have e : (ix2 ⟨(y 0).val % 128, Nat.mod_lt _ (by decide)⟩ (y 1) : S128x512.Idx) = z := by
    funext i
    refine Fin.ext ?_
    fin_cases i
    · show (y 0).val % 128 = (z 0).val
      omega
    · exact h1
  rw [e]
  refine congrArg (fun a => k0_pay1 a w z) (funext fun x => hA x _ ?_ rfl)
  show (y 0).val / 128 * 128 + (x 0).val = _
  omega

/-- The eight chunks the point stores are the product's. -/
theorem chunks (h : Vec F S1024x4096 .bf16) (w : Vec F S4096x512 .bf16) : View.PiecesOf (rawOf h w)
    [⟨Rect.unit ![896, 0] S128x512.size inb_S1024x512_S128x512_896_0, k0_pay1 (View.ld (Val := Elt F) (e' := .bf16) h (Rect.unit ![896, 0] S128x4096.size inb_S1024x4096_S128x4096_896_0)) w⟩,
     ⟨Rect.unit ![768, 0] S128x512.size inb_S1024x512_S128x512_768_0, k0_pay16 (View.ld (Val := Elt F) (e' := .bf16) h (Rect.unit ![768, 0] S128x4096.size inb_S1024x4096_S128x4096_768_0)) w⟩,
     ⟨Rect.unit ![640, 0] S128x512.size inb_S1024x512_S128x512_640_0, k0_pay15 (View.ld (Val := Elt F) (e' := .bf16) h (Rect.unit ![640, 0] S128x4096.size inb_S1024x4096_S128x4096_640_0)) w⟩,
     ⟨Rect.unit ![512, 0] S128x512.size inb_S1024x512_S128x512_512_0, k0_pay14 (View.ld (Val := Elt F) (e' := .bf16) h (Rect.unit ![512, 0] S128x4096.size inb_S1024x4096_S128x4096_512_0)) w⟩,
     ⟨Rect.unit ![384, 0] S128x512.size inb_S1024x512_S128x512_384_0, k0_pay13 (View.ld (Val := Elt F) (e' := .bf16) h (Rect.unit ![384, 0] S128x4096.size inb_S1024x4096_S128x4096_384_0)) w⟩,
     ⟨Rect.unit ![256, 0] S128x512.size inb_S1024x512_S128x512_256_0, k0_pay12 (View.ld (Val := Elt F) (e' := .bf16) h (Rect.unit ![256, 0] S128x4096.size inb_S1024x4096_S128x4096_256_0)) w⟩,
     ⟨Rect.unit ![128, 0] S128x512.size inb_S1024x512_S128x512_128_0, k0_pay11 (View.ld (Val := Elt F) (e' := .bf16) h (Rect.unit ![128, 0] S128x4096.size inb_S1024x4096_S128x4096_128_0)) w⟩,
     ⟨Rect.unit ![0, 0] S128x512.size inb_S1024x512_S128x512_0_0, k0_pay10 (View.ld (Val := Elt F) (e' := .bf16) h (Rect.unit ![0, 0] S128x4096.size inb_S1024x4096_S128x4096_0_0)) w⟩] := by
  refine ⟨fun x => chunk h w 7 _ x _ ?_ ?_ ?_, fun x => chunk h w 6 _ x _ ?_ ?_ ?_, fun x => chunk h w 5 _ x _ ?_ ?_ ?_, fun x => chunk h w 4 _ x _ ?_ ?_ ?_,
    fun x => chunk h w 3 _ x _ ?_ ?_ ?_, fun x => chunk h w 2 _ x _ ?_ ?_ ?_, fun x => chunk h w 1 _ x _ ?_ ?_ ?_, fun x => chunk h w 0 _ x _ ?_ ?_ ?_, trivial⟩
  all_goals first
    | (intro x u h0 h1
       refine congrArg h (funext fun i => Fin.ext ?_)
       fin_cases i
       · simp [h0]
       · simp [h1])
    | simp

/-- They cover it. -/
theorem chunks_cover (p0 p1 p2 p3 p4 p5 p6 p7) : ∀ y : S1024x512.Idx, ∃ P ∈ ([⟨Rect.unit ![896, 0] S128x512.size inb_S1024x512_S128x512_896_0, p7⟩,
    ⟨Rect.unit ![768, 0] S128x512.size inb_S1024x512_S128x512_768_0, p6⟩,
    ⟨Rect.unit ![640, 0] S128x512.size inb_S1024x512_S128x512_640_0, p5⟩,
    ⟨Rect.unit ![512, 0] S128x512.size inb_S1024x512_S128x512_512_0, p4⟩,
    ⟨Rect.unit ![384, 0] S128x512.size inb_S1024x512_S128x512_384_0, p3⟩,
    ⟨Rect.unit ![256, 0] S128x512.size inb_S1024x512_S128x512_256_0, p2⟩,
    ⟨Rect.unit ![128, 0] S128x512.size inb_S1024x512_S128x512_128_0, p1⟩,
    ⟨Rect.unit ![0, 0] S128x512.size inb_S1024x512_S128x512_0_0, p0⟩] : List (View.Piece (Elt F) S1024x512 .f32)), y ∈ P.1.set :=
  View.cover_of_tiledL _ S128x512.size (by sl_kernel_rfl)

/-- A load of the whole weight tile after the cast. -/
theorem tile_load (v : View sig .tc .vmem S4096x512 .bf16) (a b : Vec F S1x4096x256 .f32) :
    v.readCov [⟨Rect.unit ![0, 256] S4096x256.size inb_S4096x512_S4096x256_0_256, k0_pay4 b⟩, ⟨Rect.unit ![0, 0] S4096x256.size inb_S4096x512_S4096x256_0_0, k0_pay3 a⟩]
      (Rect.unit (s := S4096x512) ![0, 0] S4096x512.size inb_S4096x512_S4096x512_0_0).toLoadRect = tileOf a b := by
  rw [readCov_pieces v (tileOf a b) _ (tile_pieces a b) (tile_cover _ _)]
  funext j
  refine congrArg (tileOf a b) (funext fun i => Fin.ext ?_)
  fin_cases i <;> simp

end Cert.Up

end
-- ==== Proof.UpRun.lean ====
module

public import proofs.«01_k».proof.Proof.Gen.MlpUpIdeal.Frame
public import proofs.«01_k».proof.Proof.Gen.MlpUpIdeal.Skeleton
public import Idealize.ShloMosaic.Lib.Pipeline.ValueKit
public import Idealize.ShloMosaic.Lib.Pipeline.ReadBack
public import Idealize.ShloMosaic.Lib.VecWindow
public import proofs.«01_k».proof.Proof.UpBase

@[expose] public section

set_option maxRecDepth 16384

noncomputable section

namespace Cert.Up

open Cert.MlpUpIdeal Cert.MlpUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- One point of the body: from the three scratches at any contents it leaves the output block, the carried rows, the
    weight tile and the product named above. -/
theorem body (c : Dev nD) (i : grid0.Coords) (arg1 : Memref sig .tc .vmem S1024x4096 .bf16) (harg1 : arg1.IsWhole) (arg2 : Memref sig .tc .vmem S1x4096x256 .f32) (harg2 : arg2.IsWhole) (arg3 : Memref sig .tc .vmem S1x4096x256 .f32) (harg3 : arg3.IsWhole) (arg4 : Memref sig .tc .vmem S3x256 .f32) (harg4 : arg4.IsWhole) (arg5 : Memref sig .tc .vmem S1x256 .f32) (harg5 : arg5.IsWhole) (arg6 : Memref sig .tc .vmem S1024x256 .bf16) (harg6 : arg6.IsWhole) (arg7 : Memref sig .tc .vmem S8x256 .f32) (harg7 : arg7.IsWhole) (arg8 : Memref sig .tc .vmem S4096x512 .bf16) (harg8 : arg8.IsWhole) (arg9 : Memref sig .tc .vmem S1024x512 .f32) (harg9 : arg9.IsWhole)
    (x0 : Vec F S1024x4096 .bf16) (x1 x2 : Vec F S1x4096x256 .f32) (x3 : Vec F S3x256 .f32) (x4 : Vec F S1x256 .f32)
    (s7 : Vec F S8x256 .f32) (s8 : Vec F S4096x512 .bf16) (s9 : Vec F S1024x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare s7 ∗ owns (c : Thread nD τ) arg8 fullShare s8 ∗ owns (c : Thread nD τ) arg9 fullShare s9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outOf x3 x4 (carryIn i s7) (rawIn i s9)) ∗ owns (c : Thread nD τ) arg7 fullShare (k0_pay9 (gateOf (rawIn i s9)))
            ∗ owns (c : Thread nD τ) arg8 fullShare (tileIn i x1 x2 s8) ∗ owns (c : Thread nD τ) arg9 fullShare (rawOf x0 (tileIn i x1 x2 s8))) -∗ K ⟨⟩))
      ⊢ wp frame (wpE (defs₀ (F := F)) Variants.none c none) E (cc0_mlp_up i arg1 harg1 arg2 harg2 arg3 harg3 arg4 harg4 arg5 harg5 arg6 harg6 arg7 harg7 arg8 harg8 arg9 harg9) K := by
  simp only [cc0_mlp_up_eq_skeleton]; unfold cc0_mlp_up_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4
  obtain rfl := harg7.eq_unread hf6; obtain rfl := harg8.eq_unread hf7; obtain rfl := harg9.eq_unread hf8
  by_cases h1 : isFirst i <;> by_cases h2 : isCast i <;> by_cases h3 : isTop i
  all_goals
    sl_exec (disch := first | sl_exact h1 | sl_exact h2 | sl_exact h3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      refine (View.read_writes_full _ _ _ _ _).trans ?_
      unfold outOf
      first | rw [rawIn_pos h1] | rw [rawIn_neg h1]
      first | rw [carryIn_pos h3] | rw [carryIn_neg h3]
      frame_open
      simp (disch := decide) only [View.readCov_fill, View.readAt_eq_ld, Memref.IsWhole.read_unread, View.ld_unit_lit', View.readCov_cons_unit_lit']
      rfl
    isplitl [H6]
    · iexists _; isplitr; swap; · iexact H6
      ipureintro
      refine (View.read_writes_full _ _ _ _ _).trans ?_
      first | rw [rawIn_pos h1] | rw [rawIn_neg h1]
      frame_open
      simp (disch := decide) only [View.readCov_fill, View.readAt_eq_ld, Memref.IsWhole.read_unread, View.ld_unit_lit', View.readCov_cons_unit_lit']
      rfl
    isplitl [H7]
    · iexists _; isplitr; swap; · iexact H7
      ipureintro
      first
        | (rw [tileIn_neg h2]; exact harg8.read_unread _)
        | (rw [tileIn_pos h2]
           frame_open
           simp (disch := decide) only [View.readAt_eq_ld, Memref.IsWhole.read_unread, View.ld_unit_lit']
           have := read_pieces arg8.view (harg8.unread s8) (tileOf x1 x2) _ [] (tile_pieces x1 x2) (tile_cover _ _)
           rw [List.append_nil] at this
           exact this)
    iexists _; isplitr; swap; · iexact H8
    ipureintro
    first
      | (rw [tileIn_pos h2]
         frame_open
         simp (disch := decide) only [View.readAt_eq_ld, Memref.IsWhole.read_unread, View.ld_unit_lit']
         have e := tile_load arg8.view x1 x2
         rw [e]
         first
           | (have hx := rawIn_neg h1 s9
              have := read_pieces arg9.view (harg9.unread s9) _ _ [] (chunks x0 (tileOf x1 x2)) (chunks_cover _ _ _ _ _ _ _ _)
              rw [List.append_nil] at this
              exact this)
           | (have hx := rawIn_pos h1 s9
              have := read_pieces arg9.view (harg9.unread s9) _ _ [⟨Rect.unit ![0, 0] S1024x512.size inb_S1024x512_S1024x512_0_0, k0_pay2⟩]
                (chunks x0 (tileOf x1 x2)) (chunks_cover _ _ _ _ _ _ _ _)
              simp only [List.cons_append, List.nil_append] at this
              exact this))
      | (rw [tileIn_neg h2]
         frame_open
         simp (disch := decide) only [View.readAt_eq_ld, Memref.IsWhole.read_unread, View.ld_unit_lit']
         first
           | (have hx := rawIn_neg h1 s9
              have := read_pieces arg9.view (harg9.unread s9) _ _ [] (chunks x0 s8) (chunks_cover _ _ _ _ _ _ _ _)
              rw [List.append_nil] at this
              exact this)
           | (have hx := rawIn_pos h1 s9
              have := read_pieces arg9.view (harg9.unread s9) _ _ [⟨Rect.unit ![0, 0] S1024x512.size inb_S1024x512_S1024x512_0_0, k0_pay2⟩]
                (chunks x0 s8) (chunks_cover _ _ _ _ _ _ _ _)
              simp only [List.cons_append, List.nil_append] at this
              exact this))

end Cert.Up

end
-- ==== Proof.UpFrame.lean ====
module

public import proofs.«01_k».proof.Proof.Gen.MlpUpIdeal.Frame
public import proofs.«01_k».proof.Proof.Gen.MlpUp
public import proofs.«01_k».proof.Defs
public import proofs.«01_k».proof.Proof.Gen.MlpUpIdeal.Skeleton
public import Idealize.ShloMosaic.Lib.Pipeline.ValueKit
public import Idealize.ShloMosaic.Lib.Pipeline.ReadBack
public import Idealize.ShloMosaic.Lib.VecWindow
public import proofs.«01_k».proof.Proof.UpRun

@[expose] public section

set_option maxRecDepth 16384

noncomputable section

namespace Cert.Up

open Cert.MlpUpIdeal Cert.MlpUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three scratches' contents between two points: the carried rows, the weight tile, the product. -/
abbrev Scratch (F : FTy → Type) := Vec F S8x256 .f32 × Vec F S4096x512 .bf16 × Vec F S1024x512 .f32

/-- What point `t` leaves in the scratches, from what it found in them. -/
def step (c : Dev nD) (t : Fin cfg0.N) (s : Scratch F) : Scratch F :=
  (k0_pay9 (gateOf (rawIn (grid0.coords t) s.2.2)),
   tileIn (grid0.coords t) (iblk m c 1 t) (iblk m c 2 t) s.2.1,
   rawOf (iblk m c 0 t) (tileIn (grid0.coords t) (iblk m c 1 t) (iblk m c 2 t) s.2.1))

theorem pos0 : 0 < cfg0.N := by rw [show cfg0.N = 689 from N_0]; decide

/-- The scratches before point `n` (before the first, stand-ins no point reads). -/
def pre (c : Dev nD) : (n : ℕ) → n ≤ cfg0.N → Scratch F
  | 0, _ => (k0_pay5, tileOf (iblk m c 1 ⟨0, pos0⟩) (iblk m c 2 ⟨0, pos0⟩), k0_pay2)
  | n + 1, h => step m c ⟨n, h⟩ (pre c n (Nat.le_of_lt h))

/-- What point `t` leaves in the output's block. -/
def outs (c : Dev nD) (t : Fin cfg0.N) : Vec F S1024x256 .bf16 :=
  outOf (iblk m c 3 t) (iblk m c 4 t) (carryIn (grid0.coords t) (pre m c t.val (Nat.le_of_lt t.isLt)).1)
    (rawIn (grid0.coords t) (pre m c t.val (Nat.le_of_lt t.isLt)).2.2)

/-- The three scratches owned at given contents. -/
def held (c : Dev nD) (s : Scratch F) : sProp 𝕄 :=
  iprop(owns (c : Thread nD τ) (Memref.whole cc0_scratch0) fullShare s.1 ∗ owns (c : Thread nD τ) (Memref.whole cc0_scratch1) fullShare s.2.1
    ∗ owns (c : Thread nD τ) (Memref.whole cc0_scratch2) fullShare s.2.2)

/-- The region's invariant before point `n`. -/
def PhiS (c : Dev nD) : (n : ℕ) → n ≤ cfg0.N → sProp 𝕄
  | 0, _ => Pipeline.ΦA spec0 c
  | n + 1, h => iprop(held c (pre m c (n + 1) h) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(held c (pre m c n h) ∗ (∃ r, prngReg c r)) := by
  cases n with
  | zero => exact absurd rfl hz
  | succ n => rfl

/-- What the launch hands the region: the scratches at anything. -/
theorem PhiA0_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d)) ∗ (∃ r, prngReg c r)) := by
  unfold Pipeline.ΦA; rw [scopedRest0_eq]; simp only [owns_whole]; try rfl

/-- The pipeline's proof data: each input's buffer at its block, the output's at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outs m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outs m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = iprop(held c (step m c t (pre m c t.val (Nat.le_of_lt t.isLt))) ∗ (∃ r, prngReg c r)) from rfl]
  unfold held step outs
  by_cases hz : t.val = 0
  · have hf : isFirst (grid0.coords t) := (branches t).1.mpr hz
    have hc : isCast (grid0.coords t) := (branches t).2.1.mpr (by rw [hz]; rfl)
    have ht : isTop (grid0.coords t) := (branches t).2.2.mpr (by rw [hz])
    rw [Phi_castSucc m c t, PhiS_zero m c _ _ hz, PhiA0_eq, rawIn_pos hf, tileIn_pos hc, carryIn_pos ht]
    iintro ⟨⟨⟨⟨%s7, HA⟩, ⟨%s8, HB⟩, ⟨%s9, HC⟩⟩, Hg⟩, Ho, ⟨%d0, H0⟩, ⟨%d1, H1⟩, ⟨%d2, H2⟩, ⟨%d3, H3⟩, ⟨%d4, H4⟩, ⟨%d5, H5⟩⟩
    iapply (body c (grid0.coords t) _ _ _ _ _ _ _ _ _ _ _ _ _ _ _ _ _ _ (iblk m c 0 t) (iblk m c 1 t) (iblk m c 2 t) (iblk m c 3 t) (iblk m c 4 t) s7 s8 s9 Set.univ _)
    rw [rawIn_pos hf, tileIn_pos hc, carryIn_pos ht]
    isplitl [H0]; · iexact H0
    isplitl [H1]; · iexact H1
    isplitl [H2]; · iexact H2
    isplitl [H3]; · iexact H3
    isplitl [H4]; · iexact H4
    isplitl [H5]; · iexists _; iexact H5
    isplitl [HA]; · iexact HA
    isplitl [HB]; · iexact HB
    isplitl [HC]; · iexact HC
    iintro ⟨H0, H1, H2, H3, H4, H5, HA, HB, HC⟩
    isplitl [HA HB HC Hg]
    · isplitl [HA HB HC]
      · isplitl [HA]; · iexact HA
        isplitl [HB]; · iexact HB
        iexact HC
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Phi_castSucc m c t, PhiS_pos m c _ _ hz]
    unfold held
    iintro ⟨⟨⟨HA, HB, HC⟩, Hg⟩, Ho, ⟨%d0, H0⟩, ⟨%d1, H1⟩, ⟨%d2, H2⟩, ⟨%d3, H3⟩, ⟨%d4, H4⟩, ⟨%d5, H5⟩⟩
    iapply (body c (grid0.coords t) _ _ _ _ _ _ _ _ _ _ _ _ _ _ _ _ _ _ (iblk m c 0 t) (iblk m c 1 t) (iblk m c 2 t) (iblk m c 3 t) (iblk m c 4 t) _ _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [HA]; · iexact HA
    isplitl [HB]; · iexact HB
    isplitl [HC]; · iexact HC
    iintro ⟨H0, H1, H2, H3, H4, H5, HA, HB, HC⟩
    isplitl [HA HB HC Hg]
    · isplitl [HA HB HC]
      · isplitl [HA]; · iexact HA
        isplitl [HB]; · iexact HB
        iexact HC
      iexact Hg
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (Nat.le_refl _) from rfl, PhiS_pos m c _ _ pos0.ne', PhiA0_eq]
  unfold held
  iintro ⟨⟨HA, HB, HC⟩, Hg⟩
  isplitl [HA HB HC]
  · isplitl [HA]; · iexists _; iexact HA
    isplitl [HB]; · iexists _; iexact HB
    iexists _; iexact HC
  iexact Hg

set_option backward.isDefEq.respectTransparency.types false in
/-- The run, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run: every array of the pipeline at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The frame over any float values: it runs, the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

/-- The body tables of the two programs are one table: the printed texts are the same. -/
theorem bodies_eq : Cert.MlpUpIdeal.defs₀ (F := Bits) = Cert.MlpUp.defs₀ (F := Bits) := by
  unfold Cert.MlpUpIdeal.defs₀ Cert.MlpUp.defs₀
  refine congrArg Defs.onTc ?_
  funext l a
  match l, a with
  | 0, (t, s) => rfl

theorem tables_eq : Cert.MlpUpIdeal.defs (F := Bits) = Cert.MlpUp.defs (F := Bits) :=
  congrArg (Pipeline.defs (Cert.MlpUp.pcfgs (F := Bits))) bodies_eq

/-- The frame of the program at float words: the run above, transferred along the equal tables. -/
theorem frame_words : Cert.quiescent_MlpUp := fun m ρ _ => by
  have h := frame (F := Bits) m ρ
  rw [tables_eq] at h
  exact h

end Cert.Up

end
-- ==== Proof.Up.lean ====
module

public import proofs.«01_k».proof.Proof.UpFrame
public import proofs.«01_k».proof.Proof.Gen.MlpUpRefIdeal

@[expose] public section

set_option maxRecDepth 16384

noncomputable section

namespace Cert.Up

open Idealize.ShloMosaic Idealize.ShloMosaic.TcCoe Idealize.SL.Sem
open Idealize.ShloMosaic.Pipeline (Dat)
open Cert.MlpUpIdeal Cert.MlpUpIdeal.Gen

variable (m : (ℓ : Loc nD τ sig) → Buf (Elt Ideal) ℓ)

/-- The reference's product with the layer's weights: the gate's columns, then the other half's. -/
abbrev PROD (H : FVec Ideal S16384x4096 .bf16) (W : FVec Ideal S2x4096x22016 .f32) : FVec Ideal Cert.MlpUpRefIdeal.S16384x22016 .f32 :=
  Host.dotGeneral Cert.MlpUpRefIdeal.dot_S16384x4096_S4096x22016_S16384x22016_1_0_0_1_n_n none (extf .f32 H Cert.MlpUpRefIdeal.Gen.bitsLt_bf16_f32) (shapeCast _ (extractStridedSlice Cert.MlpUpRefIdeal.S1x4096x22016 ![0, 0, 0] W Cert.MlpUpRefIdeal.Gen.slices_S2x4096x22016_S1x4096x22016_0_0_0) Cert.MlpUpRefIdeal.Gen.shapeCasts_S1x4096x22016_S4096x22016)

/-- The gate's columns with two rows of zeros above them. -/
abbrev PAD (P : FVec Ideal Cert.MlpUpRefIdeal.S16384x22016 .f32) : FVec Ideal Cert.MlpUpRefIdeal.S16386x11008 .f32 :=
  pad Cert.MlpUpRefIdeal.S16386x11008 ![2, 0] ![0, 0] ![0, 0] (extractStridedSlice Cert.MlpUpRefIdeal.S16384x11008 ![0, 0] P Cert.MlpUpRefIdeal.Gen.slices_S16384x22016_S16384x11008_0_0) (sitofp .f32 (constantI Cert.MlpUpRefIdeal.S_ 32 0#32)) Cert.MlpUpRefIdeal.Gen.pads_S16384x11008_S16386x11008_200_000 Cert.MlpUpRefIdeal.Gen.h_S_

/-- The reference's convolution of three rows. -/
abbrev CONV (P : FVec Ideal Cert.MlpUpRefIdeal.S16386x11008 .f32) (T : FVec Ideal S2x3x11008 .f32) (B : FVec Ideal S2x11008 .f32) : FVec Ideal S16384x11008 .f32 :=
  addf (addf (addf (broadcastInDim Cert.MlpUpRefIdeal.S16384x11008 ![0, 1] Cert.MlpUpRefIdeal.Gen.bcast_S1x11008_S16384x11008_0_1 (broadcastInDim Cert.MlpUpRefIdeal.S1x11008 ![1] Cert.MlpUpRefIdeal.Gen.bcast_S11008_S1x11008_1 (shapeCast _ (extractStridedSlice Cert.MlpUpRefIdeal.S1x11008 ![0, 0] B Cert.MlpUpRefIdeal.Gen.slices_S2x11008_S1x11008_0_0) Cert.MlpUpRefIdeal.Gen.shapeCasts_S1x11008_S11008)))
    (mulf (extractStridedSlice Cert.MlpUpRefIdeal.S16384x11008 ![0, 0] P Cert.MlpUpRefIdeal.Gen.slices_S16386x11008_S16384x11008_0_0) (broadcastInDim Cert.MlpUpRefIdeal.S16384x11008 ![0, 1] Cert.MlpUpRefIdeal.Gen.bcast_S1x11008_S16384x11008_0_1 (broadcastInDim Cert.MlpUpRefIdeal.S1x11008 ![1] Cert.MlpUpRefIdeal.Gen.bcast_S11008_S1x11008_1 (shapeCast _ (extractStridedSlice Cert.MlpUpRefIdeal.S1x1x11008 ![0, 0, 0] T Cert.MlpUpRefIdeal.Gen.slices_S2x3x11008_S1x1x11008_0_0_0) Cert.MlpUpRefIdeal.Gen.shapeCasts_S1x1x11008_S11008)))))
    (mulf (extractStridedSlice Cert.MlpUpRefIdeal.S16384x11008 ![1, 0] P Cert.MlpUpRefIdeal.Gen.slices_S16386x11008_S16384x11008_1_0) (broadcastInDim Cert.MlpUpRefIdeal.S16384x11008 ![0, 1] Cert.MlpUpRefIdeal.Gen.bcast_S1x11008_S16384x11008_0_1 (broadcastInDim Cert.MlpUpRefIdeal.S1x11008 ![1] Cert.MlpUpRefIdeal.Gen.bcast_S11008_S1x11008_1 (shapeCast _ (extractStridedSlice Cert.MlpUpRefIdeal.S1x1x11008 ![0, 1, 0] T Cert.MlpUpRefIdeal.Gen.slices_S2x3x11008_S1x1x11008_0_1_0) Cert.MlpUpRefIdeal.Gen.shapeCasts_S1x1x11008_S11008)))))
    (mulf (extractStridedSlice Cert.MlpUpRefIdeal.S16384x11008 ![2, 0] P Cert.MlpUpRefIdeal.Gen.slices_S16386x11008_S16384x11008_2_0) (broadcastInDim Cert.MlpUpRefIdeal.S16384x11008 ![0, 1] Cert.MlpUpRefIdeal.Gen.bcast_S1x11008_S16384x11008_0_1 (broadcastInDim Cert.MlpUpRefIdeal.S1x11008 ![1] Cert.MlpUpRefIdeal.Gen.bcast_S11008_S1x11008_1 (shapeCast _ (extractStridedSlice Cert.MlpUpRefIdeal.S1x1x11008 ![0, 2, 0] T Cert.MlpUpRefIdeal.Gen.slices_S2x3x11008_S1x1x11008_0_2_0) Cert.MlpUpRefIdeal.Gen.shapeCasts_S1x1x11008_S11008))))

/-- The convolution through the gate's nonlinearity, times the product's other half. -/
abbrev GLU (C : FVec Ideal Cert.MlpUpRefIdeal.S16384x11008 .f32) (P : FVec Ideal Cert.MlpUpRefIdeal.S16384x22016 .f32) : FVec Ideal S16384x11008 .bf16 :=
  truncf .bf16 (mulf (mulf C (Host.divf (broadcastInDim Cert.MlpUpRefIdeal.S16384x11008 ![] Cert.MlpUpRefIdeal.Gen.bcast_S_S16384x11008 (constant Cert.MlpUpRefIdeal.S_ .f32 0x3F800000#32)) (addf (broadcastInDim Cert.MlpUpRefIdeal.S16384x11008 ![] Cert.MlpUpRefIdeal.Gen.bcast_S_S16384x11008 (constant Cert.MlpUpRefIdeal.S_ .f32 0x3F800000#32)) (Host.exp (Host.negf C)))))
    (extractStridedSlice Cert.MlpUpRefIdeal.S16384x11008 ![0, 11008] P Cert.MlpUpRefIdeal.Gen.slices_S16384x22016_S16384x11008_0_11008)) Cert.MlpUpRefIdeal.Gen.bitsLt_bf16_f32

/-- The reference's result over the four argument arrays. -/
abbrev REF (H : FVec Ideal S16384x4096 .bf16) (W : FVec Ideal S2x4096x22016 .f32) (T : FVec Ideal S2x3x11008 .f32) (B : FVec Ideal S2x11008 .f32) : FVec Ideal S16384x11008 .bf16 :=
  GLU (CONV (PAD (PROD H W)) T B) (PROD H W)

/-- Which block each window holds at a grid point. -/
theorem idx : ∀ t : Fin cfg0.N, win0_0.index t = ![min t.val 687 % 16, 0] ∧ win0_1.index t = ![0, 0, min t.val 687 / 16]
    ∧ win0_2.index t = ![0, 0, 43 + min t.val 687 / 16] ∧ win0_3.index t = ![0, (t.val - 1) / 16]
    ∧ win0_4.index t = ![0, (t.val - 1) / 16] ∧ win0_5.index t = ![(t.val - 1) % 16, (t.val - 1) / 16] :=
  (by decide +kernel : ∀ t : Fin grid0.N, _)

theorem lt_N (t : Fin cfg0.N) : t.val < 689 := by
  exact lt_of_lt_of_eq t.isLt N_0

/-- The product of one block of rows with one tile of columns is the reference's product there. -/
theorem raw_at (c : Dev nD) (t t' : Fin cfg0.N) (y : S1024x512.Idx) (r : Fin 16384) (k : Fin 22016)
    (hr : r.val = 1024 * (min t.val 687 % 16) + (y 0).val)
    (hk : k.val = if (y 1).val < 256 then 256 * (min t'.val 687 / 16) + (y 1).val else 10752 + 256 * (min t'.val 687 / 16) + (y 1).val) :
    rawOf (iblk m c 0 t) (tileOf (iblk m c 1 t') (iblk m c 2 t')) y
      = PROD (m ((c : Thread nD τ).loc main_arg0)) (m ((c : Thread nD τ).loc main_arg1)) (ix2 r k) := by
  have h0 : (y 0).val < 1024 := (y 0).isLt
  have h1 : (y 1).val < 512 := (y 1).isLt
  unfold rawOf
  pointwise [k0_pay1, PROD]
  refine Finset.sum_congr rfl fun l _ => ?_
  by_cases h : (y 1).val < 256
  · rw [if_pos h] at hk
    rw [tileOf, dif_pos (by exact h)]
    pointwise [k0_pay3]
    blk_point [iblk, V, idx t, idx t', hr, hk]
  · rw [if_neg h] at hk
    rw [tileOf, dif_neg (by exact h)]
    pointwise [k0_pay4]
    blk_point [iblk, V, idx t, idx t', hr, hk]

/-- Where the kernel reads a gate row `d` rows above, of the block or of the carried rows, the reference reads its padded gate. -/
theorem shift (d e q j : ℕ) (hd : d = 1 ∨ d = 2) (hq : q < 16) (s : Vec Ideal S8x256 .f32) (g : Vec Ideal S1024x256 .f32)
    (P : FVec Ideal Cert.MlpUpRefIdeal.S16384x22016 .f32) (y : S1024x256.Idx) (Y : S16384x11008.Idx)
    (h0 : (Y 0).val = 1024 * q + (y 0).val) (h1 : (Y 1).val = 256 * j + (y 1).val) (he : e + d = (Y 0).val + 2)
    (hs0 : q = 0 → ∀ x, s x = (0 : EReal))
    (hs : q ≠ 0 → ∀ (x : S8x256.Idx) (r : Fin 16384) (k : Fin 22016), r.val + 8 = 1024 * q + (x 0).val → k.val = 256 * j + (x 1).val → s x = P (ix2 r k))
    (hg : ∀ (x : S1024x256.Idx) (r : Fin 16384) (k : Fin 22016), r.val = 1024 * q + (x 0).val → k.val = 256 * j + (x 1).val → g x = P (ix2 r k))
    (p1 p2 p3) (p4 : 2 ≤ e ∧ e - 2 < 16384 → e - 2 < 16384) (p5) [Decidable ((y 0).val < 8)] [Decidable (2 ≤ e ∧ e - 2 < 16384)] :
    (if h : (y 0).val < 8 then
        Scalar.select (IntOp.cmpi .slt (BitVec.ofNat 32 (y 0).val) (BitVec.ofNat 32 d))
          (s (ix2 ⟨((y 0).val + 8 - d) % 8, p1⟩ (y 1))) (g (ix2 ⟨((y 0).val + 1024 - d) % 1024, p2⟩ (y 1)))
      else g (ix2 ⟨(8 + ((y 0).val - 8) + 1024 - d) % 1024, p3⟩ (y 1)))
    = if h : 2 ≤ e ∧ e - 2 < 16384 then P (ix2 ⟨e - 2, p4 h⟩ ⟨(Y 1).val, p5⟩) else (FloatOps.sitofp (F := Ideal) FTy.f32 0#32) := by
  have hy0 : (y 0).val < 1024 := (y 0).isLt
  have hY0 : (Y 0).val < 16384 := (Y 0).isLt
  have hsel : ∀ (n : Fin 8) (a b : EReal), Scalar.select (IntOp.cmpi .slt (BitVec.ofNat 32 n.val) (BitVec.ofNat 32 d)) a b = if n.val < d then a else b := by
    intro n a b
    have e : IntOp.cmpi .slt (BitVec.ofNat 32 n.val) (BitVec.ofNat 32 d) = if n.val < d then 1#1 else 0#1 := by
      rcases hd with rfl | rfl
      · revert n; decide
      · revert n; decide
    rw [e]
    by_cases h : n.val < d
    · rw [if_pos h, if_pos h]; rfl
    · rw [if_neg h, if_neg h]; rfl
  by_cases h : (y 0).val < 8
  · rw [dif_pos h, hsel ⟨(y 0).val, h⟩]
    by_cases hlt : (y 0).val < d
    · rw [if_pos hlt]
      by_cases hz : q = 0
      · rw [hs0 hz, dif_neg (by omega)]
        show (0 : EReal) = (((0#32 : BitVec 32).toInt : ℝ) : EReal)
        simp
      · rw [dif_pos (by omega)]
        exact hs hz _ _ _ (by show e - 2 + 8 = 1024 * q + ((y 0).val + 8 - d) % 8; omega) h1
    · rw [if_neg hlt, dif_pos (by omega)]
      exact hg _ _ _ (by show e - 2 = 1024 * q + ((y 0).val + 1024 - d) % 1024; omega) h1
  · rw [dif_neg h, dif_pos (by omega)]
    exact hg _ _ _ (by show e - 2 = 1024 * q + (8 + ((y 0).val - 8) + 1024 - d) % 1024; omega) h1

/-- The four summands in the kernel's order and in the reference's. -/
theorem four {b b' g g' w w' p p' u u' r r' v v' : EReal} (hb : b = b') (hg : g = g') (hw : w = w') (hp : p = p') (hu : u = u') (hr : r = r') (hv : v = v') :
    b + g * w + p * u + r * v = b' + r' * v' + p' * u' + g' * w' := by
  subst hb hg hw hp hu hr hv
  ac_rfl

/-- The kernel's convolution of a block is the reference's there. -/
theorem conv_at (q j : ℕ) (hq : q < 16) (s : Vec Ideal S8x256 .f32) (g : Vec Ideal S1024x256 .f32) (w : Vec Ideal S3x256 .f32) (b : Vec Ideal S1x256 .f32)
    (P : FVec Ideal Cert.MlpUpRefIdeal.S16384x22016 .f32) (T : FVec Ideal S2x3x11008 .f32) (B : FVec Ideal S2x11008 .f32) (y : S1024x256.Idx) (Y : S16384x11008.Idx)
    (h0 : (Y 0).val = 1024 * q + (y 0).val) (h1 : (Y 1).val = 256 * j + (y 1).val)
    (hs0 : q = 0 → ∀ x, s x = (0 : EReal))
    (hs : q ≠ 0 → ∀ (x : S8x256.Idx) (r : Fin 16384) (k : Fin 22016), r.val + 8 = 1024 * q + (x 0).val → k.val = 256 * j + (x 1).val → s x = P (ix2 r k))
    (hg : ∀ (x : S1024x256.Idx) (r : Fin 16384) (k : Fin 22016), r.val = 1024 * q + (x 0).val → k.val = 256 * j + (x 1).val → g x = P (ix2 r k))
    (hb : b (ix2 0 (y 1)) = B (ix2 0 (Y 1))) (hw : ∀ i : Fin 3, w (ix2 i (y 1)) = T (ix3 0 i (Y 1))) :
    k0_pay6 s g b (tap2 w) (tap1 w) (tap0 w) y = CONV (PAD P) T B Y := by
  pointwise [k0_pay6, CONV, PAD, tap0, tap1, tap2]
  have e1 := fun p1 p2 p3 p5 i1 i2 => @shift 1 (1 + (Y 0).val) q j (Or.inl rfl) hq s g P y Y h0 h1 (by omega) hs0 hs hg p1 p2 p3 (fun h => h.2) p5 i1 i2
  have e2 := fun p1 p2 p3 p5 i1 i2 => @shift 2 (Y 0).val q j (Or.inr rfl) hq s g P y Y h0 h1 (by omega) hs0 hs hg p1 p2 p3 (fun h => h.2) p5 i1 i2
  refine four hb (hg y (Y 0) _ h0 h1) (hw 2) ?_ (hw 1) ?_ (hw 0)
  · have e := e1 (by omega) (by omega) (by omega) (by have : (Y 1).val < 11008 := (Y 1).isLt; omega) inferInstance inferInstance
    convert e
  · have e := e2 (by omega) (by omega) (by omega) (by have : (Y 1).val < 11008 := (Y 1).isLt; omega) inferInstance inferInstance
    convert e

theorem denom_ne (x : EReal) : (1 : EReal) + Ideal.exp x ≠ 0 := by
  have h : (0 : EReal) ≤ Ideal.exp x := by
    unfold Ideal.exp
    split <;> simp [Real.exp_nonneg, EReal.coe_nonneg]
  have h1 : (0 : EReal) < 1 := zero_lt_one
  exact (lt_of_lt_of_le h1 (le_add_of_nonneg_right h)).ne'

/-- What a point stores is the reference's value there. -/
theorem out_at (q j : ℕ) (hq : q < 16) (s : Vec Ideal S8x256 .f32) (d : Vec Ideal S1024x512 .f32) (w : Vec Ideal S3x256 .f32) (b : Vec Ideal S1x256 .f32)
    (P : FVec Ideal Cert.MlpUpRefIdeal.S16384x22016 .f32) (T : FVec Ideal S2x3x11008 .f32) (B : FVec Ideal S2x11008 .f32) (y : S1024x256.Idx) (Y : S16384x11008.Idx)
    (h0 : (Y 0).val = 1024 * q + (y 0).val) (h1 : (Y 1).val = 256 * j + (y 1).val)
    (hs0 : q = 0 → ∀ x, s x = (0 : EReal))
    (hs : q ≠ 0 → ∀ (x : S8x256.Idx) (r : Fin 16384) (k : Fin 22016), r.val + 8 = 1024 * q + (x 0).val → k.val = 256 * j + (x 1).val → s x = P (ix2 r k))
    (hd : ∀ (x : S1024x512.Idx) (r : Fin 16384) (k : Fin 22016), r.val = 1024 * q + (x 0).val →
      k.val = (if (x 1).val < 256 then 256 * j + (x 1).val else 10752 + 256 * j + (x 1).val) → d x = P (ix2 r k))
    (hb : b (ix2 0 (y 1)) = B (ix2 0 (Y 1))) (hw : ∀ i : Fin 3, w (ix2 i (y 1)) = T (ix3 0 i (Y 1))) :
    outOf w b s d y = GLU (CONV (PAD P) T B) P Y := by
  have hg : ∀ (x : S1024x256.Idx) (r : Fin 16384) (k : Fin 22016), r.val = 1024 * q + (x 0).val → k.val = 256 * j + (x 1).val → gateOf d x = P (ix2 r k) := by
    intro x r k hr hk
    have hx : (x 1).val < 256 := (x 1).isLt
    pointwise [gateOf]
    exact hd _ r k hr (by rw [if_pos (by exact hx)]; exact hk)
  have hu : upOf d y = P (ix2 (Y 0) ⟨11008 + (Y 1).val, by have : (Y 1).val < 11008 := (Y 1).isLt; omega⟩) := by
    pointwise [upOf]
    refine hd _ _ _ h0 ?_
    show 11008 + (Y 1).val = if 256 + (y 1).val < 256 then _ else 10752 + 256 * j + (256 + (y 1).val)
    rw [if_neg (by omega)]
    omega
  have hc := conv_at q j hq s (gateOf d) w b P T B y Y h0 h1 hs0 hs hg hb hw
  have hr : GLU (CONV (PAD P) T B) P Y = CONV (PAD P) T B Y * Ideal.div 1 (1 + Ideal.exp (-CONV (PAD P) T B Y)) * P (ix2 (Y 0) ⟨11008 + (Y 1).val, by have : (Y 1).val < 11008 := (Y 1).isLt; omega⟩) := by
    generalize CONV (PAD P) T B = C
    pointwise [GLU]
  rw [hr, ← hc, ← hu, Ideal.mul_one_div (denom_ne _)]
  rw [← zero_sub]
  pointwise [outOf, k0_pay8, k0_pay7]

/-- The weight tile kept in scratch is, after every point, the one of that point's column. -/
theorem tile_at (c : Dev nD) : ∀ (n : ℕ) (h : n + 1 ≤ cfg0.N) (t' : Fin cfg0.N), t'.val = 16 * (min n 687 / 16) →
    (pre m c (n + 1) h).2.1 = tileOf (iblk m c 1 t') (iblk m c 2 t') := by
  intro n
  induction n with
  | zero =>
    intro h t' ht
    have e : t' = ⟨0, h⟩ := Fin.ext (by simpa using ht)
    subst e
    exact tileIn_pos (((branches ⟨0, h⟩).2.1).2 (by show min 0 687 % 16 = 0; rfl)) _ _ _
  | succ n ih =>
    intro h t' ht
    have hN : n + 1 < 689 := lt_N ⟨n + 1, h⟩
    by_cases hc : min (n + 1) 687 % 16 = 0
    · have e : t' = ⟨n + 1, h⟩ := Fin.ext (by show t'.val = n + 1; omega)
      subst e
      exact tileIn_pos (((branches ⟨n + 1, h⟩).2.1).2 hc) _ _ _
    · refine (tileIn_neg (fun h' => hc (((branches ⟨n + 1, h⟩).2.1).1 h')) _ _ _).trans ?_
      exact ih _ t' (by omega)

/-- The product kept in scratch after a point is the reference's product at that point's rows and columns. -/
theorem prod_at (c : Dev nD) (n : ℕ) (h : n + 1 ≤ cfg0.N) (hn : n ≤ 687) (x : S1024x512.Idx) (r : Fin 16384) (k : Fin 22016)
    (hr : r.val = 1024 * (n % 16) + (x 0).val)
    (hk : k.val = if (x 1).val < 256 then 256 * (n / 16) + (x 1).val else 10752 + 256 * (n / 16) + (x 1).val) :
    (pre m c (n + 1) h).2.2 x = PROD (m ((c : Thread nD τ).loc main_arg0)) (m ((c : Thread nD τ).loc main_arg1)) (ix2 r k) := by
  have ht : 16 * (min n 687 / 16) < cfg0.N := lt_of_lt_of_eq (show 16 * (min n 687 / 16) < 689 by omega) N_0.symm
  have e : (pre m c (n + 1) h).2.2 = rawOf (iblk m c 0 ⟨n, h⟩) (pre m c (n + 1) h).2.1 := rfl
  rw [e, tile_at m c n h ⟨_, ht⟩ rfl]
  refine raw_at m c ⟨n, h⟩ ⟨_, ht⟩ x r k ?_ ?_
  · show r.val = 1024 * (min n 687 % 16) + (x 0).val
    rw [Nat.min_eq_left hn]; exact hr
  · have e1 : min (16 * (min n 687 / 16)) 687 / 16 = n / 16 := by omega
    show k.val = if (x 1).val < 256 then 256 * (min (16 * (min n 687 / 16)) 687 / 16) + (x 1).val else 10752 + 256 * (min (16 * (min n 687 / 16)) 687 / 16) + (x 1).val
    rw [e1]; exact hk

/-- The taps and the bias the kernel stages are the layer's first ones. -/
theorem taps_at (c : Dev nD) (i : Fin 3) (k : Fin 11008) : V m c main_v1 (ix2 i k) = m ((c : Thread nD τ).loc main_arg2) (ix3 0 i k) := by
  entry_read
  pointwise []

theorem bias_at (c : Dev nD) (k : Fin 11008) : V m c main_v4 (ix2 0 k) = m ((c : Thread nD τ).loc main_arg3) (ix2 0 k) := by
  entry_read
  pointwise []

/-- The rows carried on are the gate's last eight. -/
theorem last_rows (d : Vec Ideal S1024x512 .f32) (x : S8x256.Idx) :
    k0_pay9 (gateOf d) x = d (ix2 ⟨1016 + (x 0).val, by have : (x 0).val < 8 := (x 0).isLt; omega⟩ ⟨(x 1).val, by have : (x 1).val < 256 := (x 1).isLt; omega⟩) := by
  pointwise [k0_pay9, gateOf]

/-- The value a point past the first stores at one place of its block is the reference's at the array index that place has. -/
theorem point (c : Dev nD) (t : Fin cfg0.N) (ht : t.val ≠ 0) (y : S1024x256.Idx) :
    outs m c t y = REF (m ((c : Thread nD τ).loc main_arg0)) (m ((c : Thread nD τ).loc main_arg1)) (m ((c : Thread nD τ).loc main_arg2))
      (m ((c : Thread nD τ).loc main_arg3)) (((cfg0.win 5).blk t).view.emb y) := by
  obtain ⟨n, hn⟩ := t
  cases n with
  | zero => exact absurd rfl ht
  | succ n =>
    have hN : n + 1 < 689 := lt_N ⟨n + 1, hn⟩
    have hi := idx ⟨n + 1, hn⟩
    unfold outs
    rw [rawIn_neg (fun h' => ht (((branches ⟨n + 1, hn⟩).1).1 h'))]
    refine out_at (n % 16) (n / 16) (by omega) _ _ _ _ _ _ _ y _ ?_ ?_ ?_ ?_ ?_ ?_ ?_
    · blk_simp
      have e : win0_5.index ⟨n + 1, hn⟩ 0 = n % 16 := by rw [hi.2.2.2.2.2]; rfl
      rw [e, Nat.mul_comm]
    · blk_simp
      have e : win0_5.index ⟨n + 1, hn⟩ 1 = n / 16 := by rw [hi.2.2.2.2.2]; rfl
      rw [e, Nat.mul_comm]
    · intro hq x
      rw [carryIn_pos (((branches ⟨n + 1, hn⟩).2.2).2 hq)]
      pointwise [k0_pay5]
    · intro hq x r k hr hk
      rw [carryIn_neg (fun h' => hq (((branches ⟨n + 1, hn⟩).2.2).1 h'))]
      cases n with
      | zero => exact absurd rfl hq
      | succ l =>
        show k0_pay9 (gateOf (rawIn (grid0.coords ⟨l + 1, _⟩) (pre m c (l + 1) _).2.2)) x = _
        rw [rawIn_neg (fun h' => Nat.succ_ne_zero l (((branches ⟨l + 1, Nat.lt_of_succ_lt hn⟩).1).1 h'))]
        have hx0 : (x 0).val < 8 := (x 0).isLt
        have hx1 : (x 1).val < 256 := (x 1).isLt
        rw [last_rows]
        refine prod_at m c l _ (by omega) _ r k ?_ ?_
        · show r.val = 1024 * (l % 16) + (1016 + (x 0).val)
          omega
        · show k.val = if (x 1).val < 256 then 256 * (l / 16) + (x 1).val else _
          rw [if_pos hx1]
          omega
    · intro x r k hr hk
      exact prod_at m c n _ (by omega) x r k hr hk
    · refine Eq.trans ?_ (bias_at m c _)
      blk_ext [iblk, hi]
    · intro i
      refine Eq.trans ?_ (taps_at m c i _)
      blk_ext [iblk, hi]

/-- Point 0's block is not written back: point 1 holds the same one. -/
theorem flushed : ∀ t : Fin cfg0.N, (cfg0.win 5).flush t = true → t.val ≠ 0 :=
  (by decide +kernel : ∀ t : Fin grid0.N, _)

/-- The result array after the run. -/
theorem final (c : Dev nD) : (dats m 0 c).arrAt 5 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t ht y => ?_
  blk_simp
  rw [after0_5]
  exact point m c t (flushed t ht) y

end Cert.Up

end
-- ==== Proof.Down.lean ====
module

public import proofs.«01_k».proof.Proof.Gen.MlpDownIdeal.Frame
public import proofs.«01_k».proof.Proof.Gen.MlpDownRefIdeal
public import Idealize.ShloMosaic.Lib.Pipeline.ValueKit

@[expose] public section

set_option maxRecDepth 16384

noncomputable section

namespace Cert.Down

open Idealize.ShloMosaic Idealize.ShloMosaic.TcCoe Idealize.SL.Sem
open Idealize.ShloMosaic.Pipeline (Dat)
open Cert.MlpDownIdeal Cert.MlpDownIdeal.Gen

variable (m : (ℓ : Loc nD τ sig) → Buf (Elt Ideal) ℓ)

/-- The reference's result over the four argument arrays: the residual plus the gated product. -/
abbrev REF (A : FVec Ideal S16384x11008 .bf16) (W : FVec Ideal S11008x4096 .bf16) (X : FVec Ideal S16384x4096 .f32)
    (G : FVec Ideal S1x4096 .f32) : FVec Ideal S16384x4096 .f32 :=
  addf X (mulf (broadcastInDim Cert.MlpDownRefIdeal.S16384x4096 ![0, 1] Cert.MlpDownRefIdeal.Gen.bcast_S1x4096_S16384x4096_0_1 G)
    (Host.dotGeneral Cert.MlpDownRefIdeal.dot_S16384x11008_S11008x4096_S16384x4096_1_0_0_1_n_n none
      (extf .f32 A Cert.MlpDownRefIdeal.Gen.bitsLt_bf16_f32) (extf .f32 W Cert.MlpDownRefIdeal.Gen.bitsLt_bf16_f32)))

/-- Which block each window holds at a grid point. -/
theorem idx : ∀ t : Fin cfg0.N, win0_0.index t = ![t.val % 32, 0] ∧ win0_1.index t = ![0, t.val / 32]
    ∧ win0_2.index t = ![t.val % 32, t.val / 32] ∧ win0_3.index t = ![0, t.val / 32]
    ∧ win0_4.index t = ![t.val % 32, t.val / 32] :=
  (by decide +kernel : ∀ t : Fin grid0.N, _)

/-- The value stored at one place of one block is the reference's at the array index that place has. -/
theorem point (c : Dev nD) (t : Fin cfg0.N) (y) : k0_pay1 (iblk m c 0 t) (iblk m c 1 t) (iblk m c 2 t) (iblk m c 3 t) y
    = REF (m ((c : Thread nD τ).loc main_arg0)) (m ((c : Thread nD τ).loc main_arg1)) (m ((c : Thread nD τ).loc main_arg2))
        (m ((c : Thread nD τ).loc main_arg3)) (((cfg0.win 4).blk t).view.emb y) := by
  pointwise [k0_pay1, REF]
  blk_point [iblk, V, idx t]

/-- The result array after the run. -/
theorem final (c : Dev nD) : (dats m 0 c).arrAt 4 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]; frame_out
  exact point m c t y

end Cert.Down

end
-- ==== Proof.Norm.lean ====
module

public import proofs.«01_k».proof.Proof.Gen.FinalNormIdeal.Frame
public import proofs.«01_k».proof.Proof.Gen.FinalNormRefIdeal
public import Idealize.ShloMosaic.Lib.Pipeline.ValueKit

@[expose] public section

set_option maxRecDepth 16384

noncomputable section

namespace Cert.Norm

open Idealize.ShloMosaic Idealize.ShloMosaic.TcCoe Idealize.SL.Sem
open Idealize.ShloMosaic.Pipeline (Dat)
open Cert.FinalNormIdeal Cert.FinalNormIdeal.Gen

variable (m : (ℓ : Loc nD τ sig) → Buf (Elt Ideal) ℓ)

/-- The reference's result over the two argument arrays: every row over the root of its mean square, times the gain. -/
abbrev REF (X : FVec Ideal S16384x4096 .f32) (G : FVec Ideal S4096 .f32) : FVec Ideal S16384x4096 .f32 :=
  mulf (mulf X (broadcastInDim Cert.FinalNormRefIdeal.S16384x4096 ![0, 1] Cert.FinalNormRefIdeal.Gen.bcast_S16384x1_S16384x4096_0_1 (Host.rsqrt (addf (Host.divf (broadcastInDim Cert.FinalNormRefIdeal.S16384x1 ![0] Cert.FinalNormRefIdeal.Gen.bcast_S16384_S16384x1_0 (Host.reduceAdd (mulf X X) (constant Cert.FinalNormRefIdeal.S_ .f32 0x00000000#32) Cert.FinalNormRefIdeal.Gen.reducesTo_S16384x4096_S16384_d1 Cert.FinalNormRefIdeal.Gen.h_S_)) (broadcastInDim Cert.FinalNormRefIdeal.S16384x1 ![] Cert.FinalNormRefIdeal.Gen.bcast_S_S16384x1 (constant Cert.FinalNormRefIdeal.S_ .f32 0x45800000#32))) (broadcastInDim Cert.FinalNormRefIdeal.S16384x1 ![] Cert.FinalNormRefIdeal.Gen.bcast_S_S16384x1 (constant Cert.FinalNormRefIdeal.S_ .f32 0x358637BD#32)))))) (broadcastInDim Cert.FinalNormRefIdeal.S16384x4096 ![0, 1] Cert.FinalNormRefIdeal.Gen.bcast_S1x4096_S16384x4096_0_1 (broadcastInDim Cert.FinalNormRefIdeal.S1x4096 ![1] Cert.FinalNormRefIdeal.Gen.bcast_S4096_S1x4096_1 G))

/-- Which block each window holds at a grid point. -/
theorem idx : ∀ t : Fin cfg0.N, win0_0.index t = ![t.val, 0] ∧ win0_1.index t = ![0, 0] ∧ win0_2.index t = ![t.val, 0] :=
  (by decide +kernel : ∀ t : Fin grid0.N, _)

/-- The value stored at one place of one block is the reference's at the array index that place has. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Norm

end
-- ==== Proof.Modu.lean ====
module

public import proofs.«01_k».proof.Proof.Gen.ModulateIdeal.Frame
public import proofs.«01_k».proof.Proof.Gen.ModulateRefIdeal
public import Idealize.ShloMosaic.Lib.Pipeline.ValueKit

@[expose] public section

set_option maxRecDepth 16384

noncomputable section

namespace Cert.Modu

open Idealize.ShloMosaic Idealize.ShloMosaic.TcCoe Idealize.SL.Sem
open Idealize.ShloMosaic.Pipeline (Dat)
open Cert.ModulateIdeal Cert.ModulateIdeal.Gen

variable (m : (ℓ : Loc nD τ sig) → Buf (Elt Ideal) ℓ)

/-- The reference's result over the four argument arrays: every row over the root of its mean square, times the gain, scaled and shifted. -/
abbrev REF (X : FVec Ideal S16384x4096 .f32) (G : FVec Ideal S2x4096 .f32) (SC : FVec Ideal S1x4096 .f32) (SH : FVec Ideal S1x4096 .f32) : FVec Ideal S16384x4096 .bf16 :=
  truncf .bf16 (addf (mulf (mulf (mulf X (broadcastInDim Cert.ModulateRefIdeal.S16384x4096 ![0, 1] Cert.ModulateRefIdeal.Gen.bcast_S16384x1_S16384x4096_0_1 (Host.rsqrt (addf (Host.divf (broadcastInDim Cert.ModulateRefIdeal.S16384x1 ![0] Cert.ModulateRefIdeal.Gen.bcast_S16384_S16384x1_0 (Host.reduceAdd (mulf X X) (constant Cert.ModulateRefIdeal.S_ .f32 0x00000000#32) Cert.ModulateRefIdeal.Gen.reducesTo_S16384x4096_S16384_d1 Cert.ModulateRefIdeal.Gen.h_S_)) (broadcastInDim Cert.ModulateRefIdeal.S16384x1 ![] Cert.ModulateRefIdeal.Gen.bcast_S_S16384x1 (constant Cert.ModulateRefIdeal.S_ .f32 0x45800000#32))) (broadcastInDim Cert.ModulateRefIdeal.S16384x1 ![] Cert.ModulateRefIdeal.Gen.bcast_S_S16384x1 (constant Cert.ModulateRefIdeal.S_ .f32 0x358637BD#32)))))) (broadcastInDim Cert.ModulateRefIdeal.S16384x4096 ![0, 1] Cert.ModulateRefIdeal.Gen.bcast_S1x4096_S16384x4096_0_1 (broadcastInDim Cert.ModulateRefIdeal.S1x4096 ![1] Cert.ModulateRefIdeal.Gen.bcast_S4096_S1x4096_1 (shapeCast _ (extractStridedSlice Cert.ModulateRefIdeal.S1x4096 ![0, 0] G Cert.ModulateRefIdeal.Gen.slices_S2x4096_S1x4096_0_0) Cert.ModulateRefIdeal.Gen.shapeCasts_S1x4096_S4096)))) (broadcastInDim Cert.ModulateRefIdeal.S16384x4096 ![0, 1] Cert.ModulateRefIdeal.Gen.bcast_S1x4096_S16384x4096_0_1 (addf (broadcastInDim Cert.ModulateRefIdeal.S1x4096 ![] Cert.ModulateRefIdeal.Gen.bcast_S_S1x4096 (constant Cert.ModulateRefIdeal.S_ .f32 0x3F800000#32)) SC))) (broadcastInDim Cert.ModulateRefIdeal.S16384x4096 ![0, 1] Cert.ModulateRefIdeal.Gen.bcast_S1x4096_S16384x4096_0_1 SH)) Cert.ModulateRefIdeal.Gen.bitsLt_bf16_f32

/-- Which block each window holds at a grid point. -/
theorem idx : ∀ t : Fin cfg0.N, win0_0.index t = ![t.val, 0] ∧ win0_1.index t = ![0, 0] ∧ win0_2.index t = ![0, 0] ∧ win0_3.index t = ![0, 0] ∧ win0_4.index t = ![t.val, 0] :=
  (by decide +kernel : ∀ t : Fin grid0.N, _)

/-- The gain the kernel's window holds is the first layer's. -/
theorem gain_at (c : Dev nD) (j : S1x4096.Idx) : V m c main_v2 j = m ((c : Thread nD τ).loc main_arg1) (ix2 0 (j 1)) := by
  rw [eq_ix2 j]
  generalize j 0 = a
  generalize j 1 = b
  entry_read
  pointwise

/-- The value stored at one place of one block is the reference's at the array index that place has. -/
theorem point (c : Dev nD) (t : Fin cfg0.N) (y) : k0_pay1 (iblk m c 0 t) (iblk m c 1 t) (iblk m c 2 t) (iblk m c 3 t) y
    = REF (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, REF]
  blk_simp [iblk, idx t]
  rw [gain_at]
  blk_point [iblk, V, idx t]

/-- The result array after the run. -/
theorem final (c : Dev nD) : (dats m 0 c).arrAt 4 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.Modu

end
-- ==== Proof.Ada.lean ====
module

public import proofs.«01_k».proof.Proof.Gen.AdaModIdeal.Frame
public import proofs.«01_k».proof.Proof.Gen.AdaModRefIdeal
public import Idealize.ShloMosaic.Lib.Pipeline.ValueKit

@[expose] public section

set_option maxRecDepth 16384

noncomputable section

namespace Cert.Ada

open Idealize.ShloMosaic Idealize.ShloMosaic.TcCoe Idealize.SL.Sem
open Idealize.ShloMosaic.Pipeline (Dat)
open Cert.AdaModIdeal Cert.AdaModIdeal.Gen

variable (m : (ℓ : Loc nD τ sig) → Buf (Elt Ideal) ℓ)

/-- The reference's result over the three argument arrays: the gated condition times each layer's weights, plus its bias. -/
abbrev REF (X : FVec Ideal S1x4096 .f32) (W : FVec Ideal S2x4096x24576 .f32) (B : FVec Ideal S2x24576 .f32) : FVec Ideal S2x1x24576 .f32 :=
  addf (transpose Cert.AdaModRefIdeal.S2x1x24576 [0, 2, 1] (Host.dotGeneral Cert.AdaModRefIdeal.dot_S2x4096x24576_S1x4096_S2x24576x1_1_1_02_0_n_n none W (mulf X (Host.divf (broadcastInDim Cert.AdaModRefIdeal.S1x4096 ![] Cert.AdaModRefIdeal.Gen.bcast_S_S1x4096 (constant Cert.AdaModRefIdeal.S_ .f32 0x3F800000#32)) (addf (broadcastInDim Cert.AdaModRefIdeal.S1x4096 ![] Cert.AdaModRefIdeal.Gen.bcast_S_S1x4096 (constant Cert.AdaModRefIdeal.S_ .f32 0x3F800000#32)) (Host.exp (Host.negf X)))))) Cert.AdaModRefIdeal.Gen.transposes_S2x24576x1_S2x1x24576_0_2_1) (broadcastInDim Cert.AdaModRefIdeal.S2x1x24576 ![0, 2] Cert.AdaModRefIdeal.Gen.bcast_S2x24576_S2x1x24576_0_2 B)

/-- Which block each window holds at a grid point. -/
theorem idx : ∀ t : Fin cfg0.N, win0_0.index t = ![0, 0] ∧ win0_1.index t = ![t.val / 48, 0, t.val % 48] ∧ win0_2.index t = ![t.val / 48, 0, t.val % 48] ∧ win0_3.index t = ![t.val / 48, 0, t.val % 48] :=
  (by decide +kernel : ∀ t : Fin grid0.N, _)

/-- A value over one plus an exponential is the value times the logistic of it. -/
theorem gate (x : EReal) : Ideal.div x (1 + Ideal.exp (0 - x)) = x * Ideal.div 1 (1 + Ideal.exp (-x)) := by
  have h : (1 : EReal) + Ideal.exp (-x) ≠ 0 := by
    have h0 : (0 : EReal) ≤ Ideal.exp (-x) := by
      unfold Ideal.exp
      split <;> simp [Real.exp_nonneg, EReal.coe_nonneg]
    have h1 : (0 : EReal) < 1 + Ideal.exp (-x) := lt_of_lt_of_le zero_lt_one (le_add_of_nonneg_right h0)
    exact h1.ne'
  rw [zero_sub]
  unfold Ideal.div
  rw [if_neg h, if_neg h, one_mul]

theorem cond_at (c : Dev nD) (j : S4096x1.Idx) : V m c main_v0 j = m ((c : Thread nD τ).loc main_arg0) (ix2 0 (j 0)) := by
  rw [eq_ix2 j]
  generalize j 0 = a
  generalize j 1 = b
  entry_read
  pointwise

theorem bias_at (c : Dev nD) (j : S2x1x24576.Idx) : V m c main_v1 j = m ((c : Thread nD τ).loc main_arg2) (ix2 (j 0) (j 2)) := by
  rw [eq_ix3 j]
  generalize j 0 = a
  generalize j 1 = b
  generalize j 2 = d
  entry_read
  pointwise

/-- The value stored at one place of one block is the reference's at the array index that place has. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  pointwise [k0_pay1, REF]
  blk_simp [iblk, idx t]
  simp only [cond_at, bias_at, gate]
  refine congrArg₂ (· + ·) (Finset.sum_congr rfl fun x _ => ?_) ?_
  · rw [mul_comm]
    blk_point [V, idx t]
  · blk_point [V, idx t]

/-- The result array after the run. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Ada

end
-- ==== Proof.Cast.lean ====
module

public import proofs.«01_k».proof.Proof.Gen.CastDownIdeal.Frame
public import proofs.«01_k».proof.Proof.Gen.CastDownRefIdeal
public import Idealize.ShloMosaic.Lib.Pipeline.ValueKit

@[expose] public section

set_option maxRecDepth 16384

noncomputable section

namespace Cert.Cast

open Idealize.ShloMosaic Idealize.ShloMosaic.TcCoe Idealize.SL.Sem
open Idealize.ShloMosaic.Pipeline (Dat)
open Cert.CastDownIdeal Cert.CastDownIdeal.Gen

variable (m : (ℓ : Loc nD τ sig) → Buf (Elt Ideal) ℓ)

/-- The reference's result over the argument array: the first layer's weights. -/
abbrev REF (W : FVec Ideal S2x11008x4096 .f32) : FVec Ideal S11008x4096 .bf16 :=
  truncf .bf16 (shapeCast _ (extractStridedSlice Cert.CastDownRefIdeal.S1x11008x4096 ![0, 0, 0] W Cert.CastDownRefIdeal.Gen.slices_S2x11008x4096_S1x11008x4096_0_0_0) Cert.CastDownRefIdeal.Gen.shapeCasts_S1x11008x4096_S11008x4096) Cert.CastDownRefIdeal.Gen.bitsLt_bf16_f32

/-- Which block each window holds at a grid point. -/
theorem idx : ∀ t : Fin cfg0.N, win0_0.index t = ![0, t.val, 0] ∧ win0_1.index t = ![t.val, 0] :=
  (by decide +kernel : ∀ t : Fin grid0.N, _)

/-- The value stored at one place of one block is the reference's at the array index that place has. -/
theorem point (c : Dev nD) (t : Fin cfg0.N) (y) : k0_pay1 (iblk m c 0 t) y
    = REF (m ((c : Thread nD τ).loc main_arg0)) (((cfg0.win 1).blk t).view.emb y) := by
  pointwise [k0_pay1, REF]
  blk_point [iblk, V, idx t]

/-- The result array after the run. -/
theorem final (c : Dev nD) : (dats m 0 c).arrAt 1 (cfgs 0).N = REF (m ((c : Thread nD τ).loc main_arg0)) := by
  refine (dats m 0 c).arrAt_eq_of_covers 1 _ (by decide +kernel) fun t _ y => ?_
  blk_simp
  rw [after0_1]; frame_out
  exact point m c t y

end Cert.Cast

end
-- ==== Proof.lean ====
module

public import proofs.«01_k».proof.Defs
public import proofs.«01_k».proof.Proof.Gen.Swa
public import proofs.«01_k».proof.Proof.Gen.SwaIdeal
public import proofs.«01_k».proof.Proof.Gen.SwaRefIdeal
public import proofs.«01_k».proof.Proof.Gen.Swa.Frame
public import proofs.«01_k».proof.Proof.Gen.SwaIdeal.Frame
public import proofs.«01_k».proof.Proof.Gen.SwaRefIdeal.Run
public import proofs.«01_k».proof.Proof.Gen.SwaIdeal.Value
public import proofs.«01_k».proof.Proof.Gen.Diff.Frame
public import proofs.«01_k».proof.Proof.Gen.DiffIdeal.Frame
public import proofs.«01_k».proof.Proof.Gen.DiffIdeal.Skeleton
public import proofs.«01_k».proof.Proof.Gen.Diff.Skeleton
public import proofs.«01_k».proof.Proof.Gen.Diff
public import proofs.«01_k».proof.Proof.Gen.DiffIdeal
public import proofs.«01_k».proof.Proof.DiffFrame
public import proofs.«01_k».proof.Proof.WinEnd
public import proofs.«01_k».proof.Proof.Gen.InProj
public import proofs.«01_k».proof.Proof.Gen.InProjIdeal
public import proofs.«01_k».proof.Proof.Gen.InProjRefIdeal
public import proofs.«01_k».proof.Proof.Gen.InProj.Frame
public import proofs.«01_k».proof.Proof.Gen.InProjIdeal.Frame
public import proofs.«01_k».proof.Proof.Gen.InProjRefIdeal.Run
public import proofs.«01_k».proof.Proof.Gen.InProjIdeal.Value
public import proofs.«01_k».proof.Proof.In
public import proofs.«01_k».proof.Proof.Gen.OutProj
public import proofs.«01_k».proof.Proof.Gen.OutProjIdeal
public import proofs.«01_k».proof.Proof.Gen.OutProjRefIdeal
public import proofs.«01_k».proof.Proof.Gen.OutProj.Frame
public import proofs.«01_k».proof.Proof.Gen.OutProjIdeal.Frame
public import proofs.«01_k».proof.Proof.Gen.OutProjRefIdeal.Run
public import proofs.«01_k».proof.Proof.Gen.OutProjIdeal.Value
public import proofs.«01_k».proof.Proof.Out
public import proofs.«01_k».proof.Proof.Gen.MlpUp
public import proofs.«01_k».proof.Proof.Gen.MlpUpIdeal
public import proofs.«01_k».proof.Proof.Gen.MlpUpRefIdeal
public import proofs.«01_k».proof.Proof.UpFrame
public import proofs.«01_k».proof.Proof.Gen.MlpUpRefIdeal.Run
public import proofs.«01_k».proof.Proof.Up
public import proofs.«01_k».proof.Proof.Gen.MlpDown
public import proofs.«01_k».proof.Proof.Gen.MlpDownIdeal
public import proofs.«01_k».proof.Proof.Gen.MlpDownRefIdeal
public import proofs.«01_k».proof.Proof.Gen.MlpDown.Frame
public import proofs.«01_k».proof.Proof.Gen.MlpDownIdeal.Frame
public import proofs.«01_k».proof.Proof.Gen.MlpDownRefIdeal.Run
public import proofs.«01_k».proof.Proof.Gen.MlpDownIdeal.Value
public import proofs.«01_k».proof.Proof.Down
public import proofs.«01_k».proof.Proof.Gen.FinalNorm
public import proofs.«01_k».proof.Proof.Gen.FinalNormIdeal
public import proofs.«01_k».proof.Proof.Gen.FinalNormRefIdeal
public import proofs.«01_k».proof.Proof.Gen.FinalNorm.Frame
public import proofs.«01_k».proof.Proof.Gen.FinalNormIdeal.Frame
public import proofs.«01_k».proof.Proof.Gen.FinalNormRefIdeal.Run
public import proofs.«01_k».proof.Proof.Gen.FinalNormIdeal.Value
public import proofs.«01_k».proof.Proof.Norm
public import proofs.«01_k».proof.Proof.Gen.Modulate
public import proofs.«01_k».proof.Proof.Gen.ModulateIdeal
public import proofs.«01_k».proof.Proof.Gen.ModulateRefIdeal
public import proofs.«01_k».proof.Proof.Gen.Modulate.Frame
public import proofs.«01_k».proof.Proof.Gen.ModulateIdeal.Frame
public import proofs.«01_k».proof.Proof.Gen.ModulateRefIdeal.Run
public import proofs.«01_k».proof.Proof.Gen.ModulateIdeal.Value
public import proofs.«01_k».proof.Proof.Modu
public import proofs.«01_k».proof.Proof.Gen.AdaMod
public import proofs.«01_k».proof.Proof.Gen.AdaModIdeal
public import proofs.«01_k».proof.Proof.Gen.AdaModRefIdeal
public import proofs.«01_k».proof.Proof.Gen.AdaMod.Frame
public import proofs.«01_k».proof.Proof.Gen.AdaModIdeal.Frame
public import proofs.«01_k».proof.Proof.Gen.AdaModRefIdeal.Run
public import proofs.«01_k».proof.Proof.Gen.AdaModIdeal.Value
public import proofs.«01_k».proof.Proof.Ada
public import proofs.«01_k».proof.Proof.Gen.CastDown
public import proofs.«01_k».proof.Proof.Gen.CastDownIdeal
public import proofs.«01_k».proof.Proof.Gen.CastDownRefIdeal
public import proofs.«01_k».proof.Proof.Gen.CastDown.Frame
public import proofs.«01_k».proof.Proof.Gen.CastDownIdeal.Frame
public import proofs.«01_k».proof.Proof.Gen.CastDownRefIdeal.Run
public import proofs.«01_k».proof.Proof.Gen.CastDownIdeal.Value
public import proofs.«01_k».proof.Proof.Cast
public import Idealize.ShloMosaic.Adequacy
public import Idealize.ShloMosaic.Init
public import Idealize.ShloMosaic.Lib.Claim

@[expose] public section

set_option maxRecDepth 16384

noncomputable section

namespace Cert.Proof

open Idealize.ShloMosaic Idealize.ShloMosaic.TcCoe Idealize.SL.Sem

/-! ## Swa -/

/-- The frame of the printed kernel at its words. -/
theorem frame_swa : Cert.quiescent_Swa := fun m ρ _ => Cert.Swa.Gen.frame m ρ

/-- The frame of the kernel over the reals. -/
theorem frame_swaIdeal : Cert.quiescent_SwaIdeal := fun m ρ _ => Cert.SwaIdeal.Gen.frame m ρ

/-- The same, of finite arguments. -/
theorem frame_swaIdeal_finite : Cert.quiescent_SwaIdeal_pre_swa_finite := fun m ρ _ => Cert.SwaIdeal.Gen.frame m ρ

/-- The frame of the reference over the reals. -/
theorem frame_swaRefIdeal : Cert.quiescent_SwaRefIdeal := fun m ρ _ =>
  (θ_run Cert.SwaRefIdeal.defs _ _).mono (fun r h => ⟨fun c => (h c).2, sem_eq_zero_of_no_sems (by decide) r.2⟩)
    (Cert.SwaRefIdeal.Value.run m ρ)

/-- The same, of finite arguments. -/
theorem frame_swaRefIdeal_finite : Cert.quiescent_SwaRefIdeal_pre_swa_finite := fun m ρ _ => frame_swaRefIdeal m ρ trivial

/-- The stand-in for −∞ is named, no other operation is rewritten. -/
theorem preserves_swa : Cert.preserves_Swa_SwaIdeal :=
  IdealRules.named_const.statement Cert.SwaIdeal.κ "mask" .f32 0xF149F2CA#32 ⊥ rfl

/-- Over the reals the kernel's result is the reference's, of finite arguments. -/
theorem algebraic_swa : Cert.algebraic_SwaIdeal_SwaRefIdeal_pre_swa_finite := by
  pair_intro
  · run_from Cert.SwaIdeal.Gen.run_main m g
    exact Cert.SwaIdeal.Gen.V_main_arg2 m c
  · run_from Cert.SwaRefIdeal.Value.run m' g'
    unfold Cert.SwaRefIdeal.Value.res_main_v103
    rw [(hagree c).1, (hagree c).2.1, (hagree c).2.2]
    exact (Cert.Win.final m c hpre).symm

/-! ## InProj -/

/-- The frame of the printed kernel at its words. -/
theorem frame_inProj : Cert.quiescent_InProj := fun m ρ _ => Cert.InProj.Gen.frame m ρ

/-- The frame of the kernel over the reals. -/
theorem frame_inProjIdeal : Cert.quiescent_InProjIdeal := fun m ρ _ => Cert.InProjIdeal.Gen.frame m ρ

/-- The frame of the reference over the reals. -/
theorem frame_inProjRefIdeal : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run m ρ)

/-- No operation is rewritten. -/
theorem preserves_inProj : Cert.preserves_InProj_InProjIdeal := trivial

/-- Over the reals the kernel's result is the reference's. -/
theorem algebraic_inProj : Cert.algebraic_InProjIdeal_InProjRefIdeal := by
  pair_intro
  · run_from Cert.InProjIdeal.Gen.run_main m g
  · run_from Cert.InProjRefIdeal.Value.run m' g'
    exact (Cert.In.final m c).symm

/-! ## OutProj -/

/-- The frame of the printed kernel at its words. -/
theorem frame_outProj : Cert.quiescent_OutProj := fun m ρ _ => Cert.OutProj.Gen.frame m ρ

/-- The frame of the kernel over the reals. -/
theorem frame_outProjIdeal : Cert.quiescent_OutProjIdeal := fun m ρ _ => Cert.OutProjIdeal.Gen.frame m ρ

/-- The frame of the reference over the reals. -/
theorem frame_outProjRefIdeal : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run m ρ)

/-- No operation is rewritten. -/
theorem preserves_outProj : Cert.preserves_OutProj_OutProjIdeal := trivial

/-- Over the reals the kernel's result is the reference's. -/
theorem algebraic_outProj : Cert.algebraic_OutProjIdeal_OutProjRefIdeal := by
  pair_intro
  · run_from Cert.OutProjIdeal.Gen.run_main m g
  · run_from Cert.OutProjRefIdeal.Value.run m' g'
    exact (Cert.Out.final m c).symm

/-! ## MlpUp -/

/-- The frame of the printed kernel at its words. -/
theorem frame_mlpUp : Cert.quiescent_MlpUp := Cert.Up.frame_words

/-- The frame of the kernel over the reals. -/
theorem frame_mlpUpIdeal : Cert.quiescent_MlpUpIdeal := fun m ρ _ => Cert.Up.frame m ρ

/-- The frame of the reference over the reals. -/
theorem frame_mlpUpRefIdeal : Cert.quiescent_MlpUpRefIdeal := fun m ρ _ =>
  (θ_run Cert.MlpUpRefIdeal.defs _ _).mono (fun r h => ⟨fun c => (h c).2, sem_eq_zero_of_no_sems (by decide) r.2⟩)
    (Cert.MlpUpRefIdeal.Value.run m ρ)

/-- No operation is rewritten. -/
theorem preserves_mlpUp : Cert.preserves_MlpUp_MlpUpIdeal := trivial

/-- Over the reals the kernel's result is the reference's. -/
theorem algebraic_mlpUp : Cert.algebraic_MlpUpIdeal_MlpUpRefIdeal := by
  pair_intro
  · run_from Cert.Up.run_main m g
  · run_from Cert.MlpUpRefIdeal.Value.run m' g'
    unfold Cert.MlpUpRefIdeal.Value.res_main_v34
    rw [(hagree c).1, (hagree c).2.1, (hagree c).2.2.1, (hagree c).2.2.2]
    exact (Cert.Up.final m c).symm

/-! ## MlpDown -/

/-- The frame of the printed kernel at its words. -/
theorem frame_mlpDown : Cert.quiescent_MlpDown := fun m ρ _ => Cert.MlpDown.Gen.frame m ρ

/-- The frame of the kernel over the reals. -/
theorem frame_mlpDownIdeal : Cert.quiescent_MlpDownIdeal := fun m ρ _ => Cert.MlpDownIdeal.Gen.frame m ρ

/-- The frame of the reference over the reals. -/
theorem frame_mlpDownRefIdeal : Cert.quiescent_MlpDownRefIdeal := fun m ρ _ =>
  (θ_run Cert.MlpDownRefIdeal.defs _ _).mono (fun r h => ⟨fun c => (h c).2, sem_eq_zero_of_no_sems (by decide) r.2⟩)
    (Cert.MlpDownRefIdeal.Value.run m ρ)

/-- No operation is rewritten. -/
theorem preserves_mlpDown : Cert.preserves_MlpDown_MlpDownIdeal := trivial

/-- Over the reals the kernel's result is the reference's. -/
theorem algebraic_mlpDown : Cert.algebraic_MlpDownIdeal_MlpDownRefIdeal := by
  pair_intro
  · run_from Cert.MlpDownIdeal.Gen.run_main m g
  · run_from Cert.MlpDownRefIdeal.Value.run m' g'
    exact (Cert.Down.final m c).symm

/-! ## FinalNorm -/

/-- The frame of the printed kernel at its words. -/
theorem frame_finalNorm : Cert.quiescent_FinalNorm := fun m ρ _ => Cert.FinalNorm.Gen.frame m ρ

/-- The frame of the kernel over the reals. -/
theorem frame_finalNormIdeal : Cert.quiescent_FinalNormIdeal := fun m ρ _ => Cert.FinalNormIdeal.Gen.frame m ρ

/-- The frame of the reference over the reals. -/
theorem frame_finalNormRefIdeal : Cert.quiescent_FinalNormRefIdeal := fun m ρ _ =>
  (θ_run Cert.FinalNormRefIdeal.defs _ _).mono (fun r h => ⟨fun c => (h c).2, sem_eq_zero_of_no_sems (by decide) r.2⟩)
    (Cert.FinalNormRefIdeal.Value.run m ρ)

/-- No operation is rewritten. -/
theorem preserves_finalNorm : Cert.preserves_FinalNorm_FinalNormIdeal := trivial

/-- Over the reals the kernel's result is the reference's. -/
theorem algebraic_finalNorm : Cert.algebraic_FinalNormIdeal_FinalNormRefIdeal := by
  pair_intro
  · run_from Cert.FinalNormIdeal.Gen.run_main m g
  · run_from Cert.FinalNormRefIdeal.Value.run m' g'
    exact (Cert.Norm.final m c).symm

/-! ## Modulate -/

/-- The frame of the printed kernel at its words. -/
theorem frame_modulate : Cert.quiescent_Modulate := fun m ρ _ => Cert.Modulate.Gen.frame m ρ

/-- The frame of the kernel over the reals. -/
theorem frame_modulateIdeal : Cert.quiescent_ModulateIdeal := fun m ρ _ => Cert.ModulateIdeal.Gen.frame m ρ

/-- The frame of the reference over the reals. -/
theorem frame_modulateRefIdeal : Cert.quiescent_ModulateRefIdeal := fun m ρ _ =>
  (θ_run Cert.ModulateRefIdeal.defs _ _).mono (fun r h => ⟨fun c => (h c).2, sem_eq_zero_of_no_sems (by decide) r.2⟩)
    (Cert.ModulateRefIdeal.Value.run m ρ)

/-- No operation is rewritten. -/
theorem preserves_modulate : Cert.preserves_Modulate_ModulateIdeal := trivial

/-- Over the reals the kernel's result is the reference's. -/
theorem algebraic_modulate : Cert.algebraic_ModulateIdeal_ModulateRefIdeal := by
  pair_intro
  · run_from Cert.ModulateIdeal.Gen.run_main m g
  · run_from Cert.ModulateRefIdeal.Value.run m' g'
    exact (Cert.Modu.final m c).symm

/-! ## AdaMod -/

/-- The frame of the printed kernel at its words. -/
theorem frame_adaMod : Cert.quiescent_AdaMod := fun m ρ _ => Cert.AdaMod.Gen.frame m ρ

/-- The frame of the kernel over the reals. -/
theorem frame_adaModIdeal : Cert.quiescent_AdaModIdeal := fun m ρ _ => Cert.AdaModIdeal.Gen.frame m ρ

/-- The frame of the reference over the reals. -/
theorem frame_adaModRefIdeal : Cert.quiescent_AdaModRefIdeal := fun m ρ _ =>
  (θ_run Cert.AdaModRefIdeal.defs _ _).mono (fun r h => ⟨fun c => (h c).2, sem_eq_zero_of_no_sems (by decide) r.2⟩)
    (Cert.AdaModRefIdeal.Value.run m ρ)

/-- No operation is rewritten. -/
theorem preserves_adaMod : Cert.preserves_AdaMod_AdaModIdeal := trivial

/-- Over the reals the kernel's result is the reference's. -/
theorem algebraic_adaMod : Cert.algebraic_AdaModIdeal_AdaModRefIdeal := by
  pair_intro
  · run_from Cert.AdaModIdeal.Gen.run_main m g
  · run_from Cert.AdaModRefIdeal.Value.run m' g'
    exact (Cert.Ada.final m c).symm

/-! ## CastDown -/

/-- The frame of the printed kernel at its words. -/
theorem frame_castDown : Cert.quiescent_CastDown := fun m ρ _ => Cert.CastDown.Gen.frame m ρ

/-- The frame of the kernel over the reals. -/
theorem frame_castDownIdeal : Cert.quiescent_CastDownIdeal := fun m ρ _ => Cert.CastDownIdeal.Gen.frame m ρ

/-- The frame of the reference over the reals. -/
theorem frame_castDownRefIdeal : Cert.quiescent_CastDownRefIdeal := fun m ρ _ =>
  (θ_run Cert.CastDownRefIdeal.defs _ _).mono (fun r h => ⟨fun c => (h c).2, sem_eq_zero_of_no_sems (by decide) r.2⟩)
    (Cert.CastDownRefIdeal.Value.run m ρ)

/-- No operation is rewritten. -/
theorem preserves_castDown : Cert.preserves_CastDown_CastDownIdeal := trivial

/-- Over the reals the kernel's result is the reference's. -/
theorem algebraic_castDown : Cert.algebraic_CastDownIdeal_CastDownRefIdeal := by
  pair_intro
  · run_from Cert.CastDownIdeal.Gen.run_main m g
  · run_from Cert.CastDownRefIdeal.Value.run m' g'
    exact (Cert.Cast.final m c).symm

/-! ## Diff -/

/-- The frame of the printed kernel at its words. -/
theorem frame_diff : Cert.quiescent_Diff := Cert.DiffRun.frame_words

/-- The frame of the kernel over the reals. -/
theorem frame_diffIdeal : Cert.quiescent_DiffIdeal := fun m ρ _ => Cert.DiffRun.frame m ρ

/-- No operation is rewritten. -/
theorem preserves_diff : Cert.preserves_Diff_DiffIdeal := trivial

/-- Every claim of the certificate. -/
theorem claim : Cert.Claim := ⟨Cert.Swa.Gen.facts, Cert.SwaIdeal.Gen.facts, Cert.SwaRefIdeal.Gen.facts, Cert.InProj.Gen.facts, Cert.InProjIdeal.Gen.facts, Cert.InProjRefIdeal.Gen.facts, Cert.OutProj.Gen.facts, Cert.OutProjIdeal.Gen.facts, Cert.OutProjRefIdeal.Gen.facts, Cert.MlpUp.Gen.facts, Cert.MlpUpIdeal.Gen.facts, Cert.MlpUpRefIdeal.Gen.facts, Cert.MlpDown.Gen.facts, Cert.MlpDownIdeal.Gen.facts, Cert.MlpDownRefIdeal.Gen.facts, Cert.FinalNorm.Gen.facts, Cert.FinalNormIdeal.Gen.facts, Cert.FinalNormRefIdeal.Gen.facts, Cert.Modulate.Gen.facts, Cert.ModulateIdeal.Gen.facts, Cert.ModulateRefIdeal.Gen.facts, Cert.AdaMod.Gen.facts, Cert.AdaModIdeal.Gen.facts, Cert.AdaModRefIdeal.Gen.facts, Cert.CastDown.Gen.facts, Cert.CastDownIdeal.Gen.facts, Cert.CastDownRefIdeal.Gen.facts, Cert.Diff.Gen.facts, Cert.DiffIdeal.Gen.facts, Cert.Win.preFacts,
  frame_swa, frame_swaIdeal, frame_swaIdeal_finite, frame_swaRefIdeal, frame_swaRefIdeal_finite, frame_inProj, frame_inProjIdeal, frame_inProjRefIdeal, frame_outProj, frame_outProjIdeal, frame_outProjRefIdeal, frame_mlpUp, frame_mlpUpIdeal, frame_mlpUpRefIdeal, frame_mlpDown, frame_mlpDownIdeal, frame_mlpDownRefIdeal, frame_finalNorm, frame_finalNormIdeal, frame_finalNormRefIdeal, frame_modulate, frame_modulateIdeal, frame_modulateRefIdeal, frame_adaMod, frame_adaModIdeal, frame_adaModRefIdeal, frame_castDown, frame_castDownIdeal, frame_castDownRefIdeal, frame_diff, frame_diffIdeal,
  preserves_swa, algebraic_swa, preserves_inProj, algebraic_inProj, preserves_outProj, algebraic_outProj, preserves_mlpUp, algebraic_mlpUp, preserves_mlpDown, algebraic_mlpDown, preserves_finalNorm, algebraic_finalNorm, preserves_modulate, algebraic_modulate, preserves_adaMod, algebraic_adaMod, preserves_castDown, algebraic_castDown, preserves_diff⟩

end Cert.Proof

end
